-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)) (v3 : (c : Dev Cert.Kernel7Ideal.nD) → Buf (Elt Ideal) ((c.tc : Thread Cert.Kernel7Ideal.nD Cert.Kernel7Ideal.τ).loc Cert.Kernel7Ideal.main_v10_3)) (v4 : (c : Dev Cert.Kernel7Ideal.nD) → Buf (Elt Ideal) ((c.tc : Thread Cert.Kernel7Ideal.nD Cert.Kernel7Ideal.τ).loc Cert.Kernel7Ideal.main_v10_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_v10_3) = v3 c
          ∧ r.2.mem ((c.tc : Thread Cert.Kernel7Ideal.nD Cert.Kernel7Ideal.τ).loc Cert.Kernel7Ideal.main_v10_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_v25) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_v47) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x2048x4x192 : Shape := ⟨4, ![2, 2048, 4, 192]⟩
abbrev S2x2048x4x128 : Shape := ⟨4, ![2, 2048, 4, 128]⟩
abbrev S_ : Shape := ⟨0, ![]⟩

class Facts : Prop where
  bcast_S_S2x2048x4x192 : S_.BroadcastsInDim S2x2048x4x192 (![] : Fin 0 → Fin S2x2048x4x192.rank)
  reducesTo_S2x2048x4x192_S_d0_1_2_3 : S2x2048x4x192.ReducesTo [0, 1, 2, 3] S_
  h_S_ : 0 < S_.numel
  bcast_S_S2x2048x4x128 : S_.BroadcastsInDim S2x2048x4x128 (![] : Fin 0 → Fin S2x2048x4x128.rank)
  reducesTo_S2x2048x4x128_S_d0_1_2_3 : S2x2048x4x128.ReducesTo [0, 1, 2, 3] S_

variable [Facts]

def fn_part1 {F : FTy → Type} [FloatOps F] (main_v13 : IVec S_ 1) (main_v16 : IVec S2x2048x4x128 1) : IVec S_ 1 :=
  let main_c_5 : IVec S_ 1 := constantI S_ 1 1#1
  let main_v17 : IVec S_ 1 := (fun x v => Host.reduce IntOp.andi x v reducesTo_S2x2048x4x128_S_d0_1_2_3 h_S_) main_v16 main_c_5
  let main_v18 : IVec S_ 1 := andi main_v13 main_v17
  main_v18

def fn {F : FTy → Type} [FloatOps F] (main_arg0 : FVec F S2x2048x4x192 .f32) (main_arg1 : FVec F S2x2048x4x192 .f32) (main_arg2 : FVec F S2x2048x4x128 .f32) (main_arg3 : FVec F S2x2048x4x128 .f32) : IVec S_ 1 :=
  let main_v0 : FVec F S2x2048x4x192 .f32 := Host.absf main_arg0
  let main_cst : FVec F S_ .f32 := constant S_ .f32 0x7F800000#32
  let main_v1 : FVec F S2x2048x4x192 .f32 := broadcastInDim S2x2048x4x192 ![] bcast_S_S2x2048x4x192 main_cst
  let main_v2 : IVec S2x2048x4x192 1 := cmpf .olt main_v0 main_v1
  let main_c : IVec S_ 1 := constantI S_ 1 1#1
  let main_v3 : IVec S_ 1 := (fun x v => Host.reduce IntOp.andi x v reducesTo_S2x2048x4x192_S_d0_1_2_3 h_S_) main_v2 main_c
  let main_v4 : FVec F S2x2048x4x192 .f32 := Host.absf main_arg1
  let main_cst_0 : FVec F S_ .f32 := constant S_ .f32 0x7F800000#32
  let main_v5 : FVec F S2x2048x4x192 .f32 := broadcastInDim S2x2048x4x192 ![] bcast_S_S2x2048x4x192 main_cst_0
  let main_v6 : IVec S2x2048x4x192 1 := cmpf .olt main_v4 main_v5
  let main_c_1 : IVec S_ 1 := constantI S_ 1 1#1
  let main_v7 : IVec S_ 1 := (fun x v => Host.reduce IntOp.andi x v reducesTo_S2x2048x4x192_S_d0_1_2_3 h_S_) main_v6 main_c_1
  let main_v8 : IVec S_ 1 := andi main_v3 main_v7
  let main_v9 : FVec F S2x2048x4x128 .f32 := Host.absf main_arg2
  let main_cst_2 : FVec F S_ .f32 := constant S_ .f32 0x7F800000#32
  let main_v10 : FVec F S2x2048x4x128 .f32 := broadcastInDim S2x2048x4x128 ![] bcast_S_S2x2048x4x128 main_cst_2
  let main_v11 : IVec S2x2048x4x128 1 := cmpf .olt main_v9 main_v10
  let main_c_3 : IVec S_ 1 := constantI S_ 1 1#1
  let main_v12 : IVec S_ 1 := (fun x v => Host.reduce IntOp.andi x v reducesTo_S2x2048x4x128_S_d0_1_2_3 h_S_) main_v11 main_c_3
  let main_v13 : IVec S_ 1 := andi main_v8 main_v12
  let main_v14 : FVec F S2x2048x4x128 .f32 := Host.absf main_arg3
  let main_cst_4 : FVec F S_ .f32 := constant S_ .f32 0x7F800000#32
  let main_v15 : FVec F S2x2048x4x128 .f32 := broadcastInDim S2x2048x4x128 ![] bcast_S_S2x2048x4x128 main_cst_4
  let main_v16 : IVec S2x2048x4x128 1 := cmpf .olt main_v14 main_v15
  fn_part1 (F := F) main_v13 main_v16
-- ==== Kernel.lean ====
abbrev S2x2048x4x192 : Shape := ⟨4, ![2, 2048, 4, 192]⟩
abbrev S2x2048x4x128 : Shape := ⟨4, ![2, 2048, 4, 128]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x4x1x512 : Shape := ⟨5, ![2, 4, 4, 1, 512]⟩
abbrev S2x2048x4x32 : Shape := ⟨4, ![2, 2048, 4, 32]⟩
abbrev S2x2048x4x160 : Shape := ⟨4, ![2, 2048, 4, 160]⟩
abbrev S2x2048x4x256 : Shape := ⟨4, ![2, 2048, 4, 256]⟩
abbrev S2x2048x1024 : Shape := ⟨3, ![2, 2048, 1024]⟩
abbrev S2x2048x512 : Shape := ⟨3, ![2, 2048, 512]⟩
abbrev S1x2048x512 : Shape := ⟨3, ![1, 2048, 512]⟩
abbrev S1x512x512 : Shape := ⟨3, ![1, 512, 512]⟩
abbrev S1x512x256 : Shape := ⟨3, ![1, 512, 256]⟩
abbrev S1x2048x256 : Shape := ⟨3, ![1, 2048, 256]⟩
abbrev S1x2x4x1x512 : Shape := ⟨5, ![1, 2, 4, 1, 512]⟩
abbrev S2x4x1x512 : Shape := ⟨4, ![2, 4, 1, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1x1x1x512 : Shape := ⟨4, ![1, 1, 1, 512]⟩
abbrev S512x256 : Shape := ⟨2, ![512, 256]⟩
abbrev S512x512 : Shape := ⟨2, ![512, 512]⟩
abbrev S1x1x1x1x512 : Shape := ⟨5, ![1, 1, 1, 1, 512]⟩

abbrev nBuf : Space → Nat
  | .hbm => 56
  | .vmem => 19
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x2048x4x128, .f32⟩
  | .hbm, ⟨3, _⟩ => ⟨S2x2048x4x128, .f32⟩
  | .hbm, ⟨4, _⟩ => ⟨S2x4x2048x2048, .f32⟩
  | .hbm, ⟨5, _⟩ => ⟨S_, .f32⟩
  | .hbm, ⟨6, _⟩ => ⟨S2x4x2048x2048, .f32⟩
  | .hbm, ⟨7, _⟩ => ⟨S2x4x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x4x2048x2048, .i1⟩
  | .hbm, ⟨17, _⟩ => ⟨S2x4x2048x2048, .f32⟩
  | .hbm, ⟨18, _⟩ => ⟨S2x4x2048x2048, .f32⟩
  | .hbm, ⟨19, _⟩ => ⟨S_, .f32⟩
  | .hbm, ⟨20, _⟩ => ⟨S2x4x2048, .f32⟩
  | .hbm, ⟨21, _⟩ => ⟨S2x4x2048x1, .f32⟩
  | .hbm, ⟨22, _⟩ => ⟨S2x4x2048x2048, .f32⟩
  | .hbm, ⟨23, _⟩ => ⟨S2x4x2048x2048, .f32⟩
  | .hbm, ⟨24, _⟩ => ⟨S2x4x2048x2048, .f32⟩
  | .hbm, ⟨25, _⟩ => ⟨S_, .f32⟩
  | .hbm, ⟨26, _⟩ => ⟨S2x4x2048, .f32⟩
  | .hbm, ⟨27, _⟩ => ⟨S2x4x2048x1, .f32⟩
  | .hbm, ⟨28, _⟩ => ⟨S2x4x2048x2048, .f32⟩
  | .hbm, ⟨29, _⟩ => ⟨S2x4x2048x2048, .f32⟩
  | .hbm, ⟨30, _⟩ => ⟨S2x4x128x2048, .f32⟩
  | .hbm, ⟨31, _⟩ => ⟨S2x2048x4x128, .f32⟩
  | .hbm, ⟨32, _⟩ => ⟨S2x4x2048x1, .f32⟩
  | .hbm, ⟨33, _⟩ => ⟨S2x4x2048x1, .f32⟩
  | .hbm, ⟨34, _⟩ => ⟨S2x4x4x1x512, .f32⟩
  | .hbm, ⟨35, _⟩ => ⟨S_, .f32⟩
  | .hbm, ⟨36, _⟩ => ⟨S2x2048x4x32, .f32⟩
  | .hbm, ⟨37, _⟩ => ⟨S2x2048x4x160, .f32⟩
  | .hbm, ⟨38, _⟩ => ⟨S2x2048x4x32, .f32⟩
  | .hbm, ⟨39, _⟩ => ⟨S2x2048x4x256, .f32⟩
  | .hbm, ⟨40, _⟩ => ⟨S2x2048x1024, .f32⟩
  | .hbm, ⟨41, _⟩ => ⟨S2x2048x1024, .bf16⟩
  | .hbm, ⟨42, _⟩ => ⟨S_, .f32⟩
  | .hbm, ⟨43, _⟩ => ⟨S2x2048x4x32, .f32⟩
  | .hbm, ⟨44, _⟩ => ⟨S2x2048x4x160, .f32⟩
  | .hbm, ⟨45, _⟩ => ⟨S2x2048x4x32, .f32⟩
  | .hbm, ⟨46, _⟩ => ⟨S2x2048x4x256, .f32⟩
  | .hbm, ⟨47, _⟩ => ⟨S2x2048x1024, .f32⟩
  | .hbm, ⟨48, _⟩ => ⟨S2x2048x1024, .bf16⟩
  | .hbm, ⟨49, _⟩ => ⟨S2x2048x512, .f32⟩
  | .hbm, ⟨50, _⟩ => ⟨S2x2048x512, .bf16⟩
  | .hbm, ⟨51, _⟩ => ⟨S2x2048x512, .f32⟩
  | .hbm, ⟨52, _⟩ => ⟨S2x2048x512, .f32⟩
  | .hbm, ⟨53, _⟩ => ⟨S2x2048x1024, .f32⟩
  | .hbm, ⟨54, _⟩ => ⟨S2x2048x1024, .f32⟩
  | .hbm, ⟨55, _⟩ => ⟨S2x2048x512, .f32⟩
  | .local _ .vmem, ⟨0, _⟩ => ⟨S1x2048x512, .bf16⟩
  | .local _ .vmem, ⟨1, _⟩ => ⟨S1x2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x2x4x1x512, .f32⟩
  | .local _ .vmem, ⟨9, _⟩ => ⟨S1x2x4x1x512, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x512, .f32⟩
  | .local _ .vmem, ⟨13, _⟩ => ⟨S1x2048x512, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | .local _ .vmem, ⟨18, _⟩ => ⟨S2x4x1x512, .f32⟩
  | _, _ => ⟨S2x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def k0_mult1 (i : grid0.Coords) : BitVec 32 :=
  let arg2 : BitVec 32 := BitVec.ofNat 32 (i 2).val
  let c512_i32 : BitVec 32 := 512#32
  let v15 : BitVec 32 := Scalar.muli arg2 c512_i32
  v15
def k0_off1 (i : grid0.Coords) : Fin 3 → Nat :=
  let c0_13 : Index := 0#32
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_14 : Index := 0#32
  ![0, v17.toNat, 0]
def k0_off2 (i : grid0.Coords) : Fin 3 → Nat :=
  let c0_15 : Index := 0#32
  let arg2 : BitVec 32 := BitVec.ofNat 32 (i 2).val
  let c512_i32 : BitVec 32 := 512#32
  let v15 : BitVec 32 := Scalar.muli arg2 c512_i32
  let v16 : BitVec 32 := v15
  let v20 : Index := Scalar.indexCast v16
  let c256_16 : Index := 256#32
  ![0, v20.toNat, 256]
def k0_off3 (i : grid0.Coords) : Fin 3 → Nat :=
  let c0_17 : Index := 0#32
  let arg2 : BitVec 32 := BitVec.ofNat 32 (i 2).val
  let c512_i32 : BitVec 32 := 512#32
  let v15 : BitVec 32 := Scalar.muli arg2 c512_i32
  let v16 : BitVec 32 := v15
  let v23 : Index := Scalar.indexCast v16
  let c0_18 : Index := 0#32
  ![0, v23.toNat, 0]
def k0_off4 (i : grid0.Coords) : Fin 3 → Nat :=
  let c0_19 : Index := 0#32
  let arg2 : BitVec 32 := BitVec.ofNat 32 (i 2).val
  let c512_i32 : BitVec 32 := 512#32
  let v15 : BitVec 32 := Scalar.muli arg2 c512_i32
  let v16 : BitVec 32 := v15
  let v27 : Index := Scalar.indexCast v16
  let c128_20 : Index := 128#32
  ![0, v27.toNat, 128]
def k0_off5 (i : grid0.Coords) : Fin 5 → Nat :=
  let c0_25 : Index := 0#32
  let c0_26 : Index := 0#32
  let arg2 : BitVec 32 := BitVec.ofNat 32 (i 2).val
  let v37 : Index := Scalar.indexCast arg2
  let c0_27 : Index := 0#32
  let c0_28 : Index := 0#32
  ![0, 0, v37.toNat, 0, 0]
def k0_off6 (i : grid0.Coords) : Fin 5 → Nat :=
  let c0_29 : Index := 0#32
  let c1 : Index := 1#32
  let arg2 : BitVec 32 := BitVec.ofNat 32 (i 2).val
  let v43 : Index := Scalar.indexCast arg2
  let c0_30 : Index := 0#32
  let c0_31 : Index := 0#32
  ![0, 1, v43.toNat, 0, 0]
def k0_off7 (i : grid0.Coords) : Fin 4 → Nat :=
  let c0_38 : Index := 0#32
  let arg2 : BitVec 32 := BitVec.ofNat 32 (i 2).val
  let v65 : Index := Scalar.indexCast arg2
  let c0_39 : Index := 0#32
  let c0_40 : Index := 0#32
  ![0, v65.toNat, 0, 0]
def k0_off8 (i : grid0.Coords) : Fin 4 → Nat :=
  let c1_42 : Index := 1#32
  let arg2 : BitVec 32 := BitVec.ofNat 32 (i 2).val
  let v74 : Index := Scalar.indexCast arg2
  let c0_43 : Index := 0#32
  let c0_44 : Index := 0#32
  ![1, v74.toNat, 0, 0]
@[reducible] def k0_t1_loop (i : grid0.Coords) : Scf.Loop 32 :=
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_59 : BitVec 32 := 1#32
  ⟨v105, v110, c1_i32_59⟩
def k0_mult2 (i : grid0.Coords) (k0_t1 : Fin (k0_t1_loop i).trips) : BitVec 32 :=
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let c512_i32_73 : BitVec 32 := 512#32
  let v125 : BitVec 32 := Scalar.muli arg13 c512_i32_73
  v125
def k0_off9 (i : grid0.Coords) (k0_t1 : Fin (k0_t1_loop i).trips) : Fin 3 → Nat :=
  let c0_74 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let c512_i32_73 : BitVec 32 := 512#32
  let v125 : BitVec 32 := Scalar.muli arg13 c512_i32_73
  let v126 : BitVec 32 := v125
  let v127 : Index := Scalar.indexCast v126
  let c0_75 : Index := 0#32
  ![0, v127.toNat, 0]
def k0_off10 (i : grid0.Coords) (k0_t1 : Fin (k0_t1_loop i).trips) : Fin 3 → Nat :=
  let c0_76 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let c512_i32_73 : BitVec 32 := 512#32
  let v125 : BitVec 32 := Scalar.muli arg13 c512_i32_73
  let v126 : BitVec 32 := v125
  let v130 : Index := Scalar.indexCast v126
  let c256_77 : Index := 256#32
  ![0, v130.toNat, 256]
def k0_off11 (i : grid0.Coords) (k0_t1 : Fin (k0_t1_loop i).trips) : Fin 3 → Nat :=
  let c0_78 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let c512_i32_73 : BitVec 32 := 512#32
  let v125 : BitVec 32 := Scalar.muli arg13 c512_i32_73
  let v126 : BitVec 32 := v125
  let v133 : Index := Scalar.indexCast v126
  let c0_79 : Index := 0#32
  ![0, v133.toNat, 0]
def k0_off12 (i : grid0.Coords) (k0_t1 : Fin (k0_t1_loop i).trips) : Fin 3 → Nat :=
  let c0_80 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let c512_i32_73 : BitVec 32 := 512#32
  let v125 : BitVec 32 := Scalar.muli arg13 c512_i32_73
  let v126 : BitVec 32 := v125
  let v137 : Index := Scalar.indexCast v126
  let c128_81 : Index := 128#32
  ![0, v137.toNat, 128]
def k0_off13 (i : grid0.Coords) (k0_t1 : Fin (k0_t1_loop i).trips) : Fin 5 → Nat :=
  let c0_86 : Index := 0#32
  let c0_87 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let v147 : Index := Scalar.indexCast arg13
  let c0_88 : Index := 0#32
  let c0_89 : Index := 0#32
  ![0, 0, v147.toNat, 0, 0]
def k0_off14 (i : grid0.Coords) (k0_t1 : Fin (k0_t1_loop i).trips) : Fin 5 → Nat :=
  let c0_90 : Index := 0#32
  let c1_91 : Index := 1#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let v153 : Index := Scalar.indexCast arg13
  let c0_92 : Index := 0#32
  let c0_93 : Index := 0#32
  ![0, 1, v153.toNat, 0, 0]
def k0_off15 (i : grid0.Coords) (k0_t1 : Fin (k0_t1_loop i).trips) : Fin 4 → Nat :=
  let c0_98 : Index := 0#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let v167 : Index := Scalar.indexCast arg13
  let c0_99 : Index := 0#32
  let c0_100 : Index := 0#32
  ![0, v167.toNat, 0, 0]
def k0_off16 (i : grid0.Coords) (k0_t1 : Fin (k0_t1_loop i).trips) : Fin 4 → Nat :=
  let c1_102 : Index := 1#32
  let arg2 : BitVec 32 := BitVec.ofNat 32 (i 2).val
  let c1_i32 : BitVec 32 := 1#32
  let v105 : BitVec 32 := Scalar.addi arg2 c1_i32
  let c1_i32_59 : BitVec 32 := 1#32
  let arg13 : BitVec 32 := Scf.iv v105 c1_i32_59 k0_t1
  let v176 : Index := Scalar.indexCast arg13
  let c0_103 : Index := 0#32
  let c0_104 : Index := 0#32
  ![1, v176.toNat, 0, 0]
@[reducible] def k0_t2_loop (i : grid0.Coords) : Scf.Loop 32 :=
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let v107 : BitVec 32 := Scalar.addi v105 v106
  let c1_i32_60 : BitVec 32 := 1#32
  ⟨v110, v107, c1_i32_60⟩
def k0_mult3 (i : grid0.Coords) (k0_t2 : Fin (k0_t2_loop i).trips) : BitVec 32 :=
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let c512_i32_73 : BitVec 32 := 512#32
  let v125 : BitVec 32 := Scalar.muli arg13 c512_i32_73
  v125
def k0_off17 (i : grid0.Coords) (k0_t2 : Fin (k0_t2_loop i).trips) : Fin 3 → Nat :=
  let c0_74 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let c512_i32_73 : BitVec 32 := 512#32
  let v125 : BitVec 32 := Scalar.muli arg13 c512_i32_73
  let v126 : BitVec 32 := v125
  let v127 : Index := Scalar.indexCast v126
  let c0_75 : Index := 0#32
  ![0, v127.toNat, 0]
def k0_off18 (i : grid0.Coords) (k0_t2 : Fin (k0_t2_loop i).trips) : Fin 3 → Nat :=
  let c0_76 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let c512_i32_73 : BitVec 32 := 512#32
  let v125 : BitVec 32 := Scalar.muli arg13 c512_i32_73
  let v126 : BitVec 32 := v125
  let v130 : Index := Scalar.indexCast v126
  let c256_77 : Index := 256#32
  ![0, v130.toNat, 256]
def k0_off19 (i : grid0.Coords) (k0_t2 : Fin (k0_t2_loop i).trips) : Fin 3 → Nat :=
  let c0_78 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let c512_i32_73 : BitVec 32 := 512#32
  let v125 : BitVec 32 := Scalar.muli arg13 c512_i32_73
  let v126 : BitVec 32 := v125
  let v133 : Index := Scalar.indexCast v126
  let c0_79 : Index := 0#32
  ![0, v133.toNat, 0]
def k0_off20 (i : grid0.Coords) (k0_t2 : Fin (k0_t2_loop i).trips) : Fin 3 → Nat :=
  let c0_80 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let c512_i32_73 : BitVec 32 := 512#32
  let v125 : BitVec 32 := Scalar.muli arg13 c512_i32_73
  let v126 : BitVec 32 := v125
  let v137 : Index := Scalar.indexCast v126
  let c128_81 : Index := 128#32
  ![0, v137.toNat, 128]
def k0_off21 (i : grid0.Coords) (k0_t2 : Fin (k0_t2_loop i).trips) : Fin 5 → Nat :=
  let c0_86 : Index := 0#32
  let c0_87 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let v147 : Index := Scalar.indexCast arg13
  let c0_88 : Index := 0#32
  let c0_89 : Index := 0#32
  ![0, 0, v147.toNat, 0, 0]
def k0_off22 (i : grid0.Coords) (k0_t2 : Fin (k0_t2_loop i).trips) : Fin 5 → Nat :=
  let c0_90 : Index := 0#32
  let c1_91 : Index := 1#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let v153 : Index := Scalar.indexCast arg13
  let c0_92 : Index := 0#32
  let c0_93 : Index := 0#32
  ![0, 1, v153.toNat, 0, 0]
def k0_off23 (i : grid0.Coords) (k0_t2 : Fin (k0_t2_loop i).trips) : Fin 4 → Nat :=
  let c0_98 : Index := 0#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let v167 : Index := Scalar.indexCast arg13
  let c0_99 : Index := 0#32
  let c0_100 : Index := 0#32
  ![0, v167.toNat, 0, 0]
def k0_off24 (i : grid0.Coords) (k0_t2 : Fin (k0_t2_loop i).trips) : Fin 4 → Nat :=
  let c1_102 : Index := 1#32
  let arg2 : BitVec 32 := BitVec.ofNat 32 (i 2).val
  let c1_i32 : BitVec 32 := 1#32
  let v105 : BitVec 32 := Scalar.addi arg2 c1_i32
  let c4_i32 : BitVec 32 := 4#32
  let v106 : BitVec 32 := Scalar.subi c4_i32 v105
  let c1_i32_58 : BitVec 32 := 1#32
  let v108 : BitVec 32 := Scalar.divsi v106 c1_i32_58
  let v109 : BitVec 32 := Scalar.muli v108 c1_i32_58
  let v110 : BitVec 32 := Scalar.addi v105 v109
  let c1_i32_60 : BitVec 32 := 1#32
  let arg13 : BitVec 32 := Scf.iv v110 c1_i32_60 k0_t2
  let v176 : Index := Scalar.indexCast arg13
  let c0_103 : Index := 0#32
  let c0_104 : Index := 0#32
  ![1, v176.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x2048x4x192 : Shape := ⟨4, ![2, 2048, 4, 192]⟩
abbrev S2x2048x4x128 : Shape := ⟨4, ![2, 2048, 4, 128]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x2048x192 : Shape := ⟨4, ![2, 4, 2048, 192]⟩
abbrev S2x2048x4x160 : Shape := ⟨4, ![2, 2048, 4, 160]⟩
abbrev S2x2048x4x32 : Shape := ⟨4, ![2, 2048, 4, 32]⟩
abbrev S2x2048x4x64 : Shape := ⟨4, ![2, 2048, 4, 64]⟩
abbrev S2x2048x4x256 : Shape := ⟨4, ![2, 2048, 4, 256]⟩
abbrev S2x2048x1024 : Shape := ⟨3, ![2, 2048, 1024]⟩
abbrev S2x2048x512 : Shape := ⟨3, ![2, 2048, 512]⟩

abbrev nBuf : Space → Nat
  | .hbm => 110
  | .vmem => 0
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x2048x4x128, .f32⟩
  | .hbm, ⟨3, _⟩ => ⟨S2x2048x4x128, .f32⟩
  | .hbm, ⟨4, _⟩ => ⟨S2x4x2048x2048, .f32⟩
  | .hbm, ⟨5, _⟩ => ⟨S_, .f32⟩
  | .hbm, ⟨6, _⟩ => ⟨S2x4x2048x2048, .f32⟩
  | .hbm, ⟨7, _⟩ => ⟨S2x4x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x4x2048x2048, .i1⟩
  | .hbm, ⟨17, _⟩ => ⟨S2x4x2048x2048, .f32⟩
  | .hbm, ⟨18, _⟩ => ⟨S2x4x2048x2048, .f32⟩
  | .hbm, ⟨19, _⟩ => ⟨S_, .f32⟩
  | .hbm, ⟨20, _⟩ => ⟨S2x4x2048x2048, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x2048, .f32⟩
  | .hbm, ⟨25, _⟩ => ⟨S2x4x2048x2048, .i1⟩
  | .hbm, ⟨26, _⟩ => ⟨S2x4x2048x2048, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S2x4x2048, .i1⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S_, .f32⟩
  | .hbm, ⟨43, _⟩ => ⟨S2x4x2048, .f32⟩
  | .hbm, ⟨44, _⟩ => ⟨S2x4x2048, .f32⟩
  | .hbm, ⟨45, _⟩ => ⟨S2x4x2048, .f32⟩
  | .hbm, ⟨46, _⟩ => ⟨S2x4x2048x1, .f32⟩
  | .hbm, ⟨47, _⟩ => ⟨S2x4x2048x2048, .f32⟩
  | .hbm, ⟨48, _⟩ => ⟨S2x4x2048x2048, .f32⟩
  | .hbm, ⟨49, _⟩ => ⟨S2x4x2048x2048, .f32⟩
  | .hbm, ⟨50, _⟩ => ⟨S_, .f32⟩
  | .hbm, ⟨51, _⟩ => ⟨S2x4x2048, .f32⟩
  | .hbm, ⟨52, _⟩ => ⟨S2x4x2048x1, .f32⟩
  | .hbm, ⟨53, _⟩ => ⟨S2x4x2048x2048, .f32⟩
  | .hbm, ⟨54, _⟩ => ⟨S2x4x2048x2048, .f32⟩
  | .hbm, ⟨55, _⟩ => ⟨S2x4x2048x1, .f32⟩
  | .hbm, ⟨56, _⟩ => ⟨S_, .f32⟩
  | .hbm, ⟨57, _⟩ => ⟨S2x4x2048x1, .f32⟩
  | .hbm, ⟨58, _⟩ => ⟨S2x4x2048x1, .f32⟩
  | .hbm, ⟨59, _⟩ => ⟨S2x4x128x2048, .f32⟩
  | .hbm, ⟨60, _⟩ => ⟨S2x2048x4x128, .f32⟩
  | .hbm, ⟨61, _⟩ => ⟨S2x4x128x2048, .f32⟩
  | .hbm, ⟨62, _⟩ => ⟨S2x4x2048x2048, .f32⟩
  | .hbm, ⟨63, _⟩ => ⟨S2x4x128x2048, .f32⟩
  | .hbm, ⟨64, _⟩ => ⟨S2x2048x4x128, .f32⟩
  | .hbm, ⟨65, _⟩ => ⟨S2x4x2048x2048, .f32⟩
  | .hbm, ⟨66, _⟩ => ⟨S2x4x2048x2048, .f32⟩
  | .hbm, ⟨67, _⟩ => ⟨S2x4x2048x2048, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x2048, .f32⟩
  | .hbm, ⟨73, _⟩ => ⟨S2x4x2048x2048, .f32⟩
  | .hbm, ⟨74, _⟩ => ⟨S_, .f32⟩
  | .hbm, ⟨75, _⟩ => ⟨S2x4x2048, .f32⟩
  | .hbm, ⟨76, _⟩ => ⟨S2x4x2048x2048, .f32⟩
  | .hbm, ⟨77, _⟩ => ⟨S2x4x2048x2048, .f32⟩
  | .hbm, ⟨78, _⟩ => ⟨S2x4x2048x2048, .f32⟩
  | .hbm, ⟨79, _⟩ => ⟨S_, .f32⟩
  | .hbm, ⟨80, _⟩ => ⟨S2x4x2048x2048, .f32⟩
  | .hbm, ⟨81, _⟩ => ⟨S2x4x2048x2048, .f32⟩
  | .hbm, ⟨82, _⟩ => ⟨S_, .f32⟩
  | .hbm, ⟨83, _⟩ => ⟨S2x4x2048x2048, .f32⟩
  | .hbm, ⟨84, _⟩ => ⟨S2x4x2048x2048, .f32⟩
  | .hbm, ⟨85, _⟩ => ⟨S2x4x2048x192, .f32⟩
  | .hbm, ⟨86, _⟩ => ⟨S2x2048x4x192, .f32⟩
  | .hbm, ⟨87, _⟩ => ⟨S2x4x2048x192, .f32⟩
  | .hbm, ⟨88, _⟩ => ⟨S2x2048x4x192, .f32⟩
  | .hbm, ⟨89, _⟩ => ⟨S2x2048x4x160, .f32⟩
  | .hbm, ⟨90, _⟩ => ⟨S_, .i32⟩
  | .hbm, ⟨91, _⟩ => ⟨S_, .f32⟩
  | .hbm, ⟨92, _⟩ => ⟨S2x2048x4x192, .f32⟩
  | .hbm, ⟨93, _⟩ => ⟨S2x2048x4x32, .f32⟩
  | .hbm, ⟨94, _⟩ => ⟨S_, .i32⟩
  | .hbm, ⟨95, _⟩ => ⟨S_, .f32⟩
  | .hbm, ⟨96, _⟩ => ⟨S2x2048x4x64, .f32⟩
  | .hbm, ⟨97, _⟩ => ⟨S2x2048x4x256, .f32⟩
  | .hbm, ⟨98, _⟩ => ⟨S2x2048x1024, .f32⟩
  | .hbm, ⟨99, _⟩ => ⟨S2x2048x4x160, .f32⟩
  | .hbm, ⟨100, _⟩ => ⟨S_, .i32⟩
  | .hbm, ⟨101, _⟩ => ⟨S_, .f32⟩
  | .hbm, ⟨102, _⟩ => ⟨S2x2048x4x192, .f32⟩
  | .hbm, ⟨103, _⟩ => ⟨S2x2048x4x32, .f32⟩
  | .hbm, ⟨104, _⟩ => ⟨S_, .i32⟩
  | .hbm, ⟨105, _⟩ => ⟨S_, .f32⟩
  | .hbm, ⟨106, _⟩ => ⟨S2x2048x4x64, .f32⟩
  | .hbm, ⟨107, _⟩ => ⟨S2x2048x4x256, .f32⟩
  | .hbm, ⟨108, _⟩ => ⟨S2x2048x1024, .f32⟩
  | .hbm, ⟨109, _⟩ => ⟨S2x2048x512, .f32⟩
  | _, _ => ⟨S2x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_call4_v0 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_call5_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x1024x1024 : Shape := ⟨3, ![4, 1024, 1024]⟩
abbrev S1024x512 : Shape := ⟨2, ![1024, 512]⟩
abbrev S1024x4096 : Shape := ⟨2, ![1024, 4096]⟩
abbrev S4x512x1024 : Shape := ⟨3, ![4, 512, 1024]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S4x512x1024, .bf16⟩
  | .local _ .vmem, ⟨5, _⟩ => ⟨S4x512x1024, .bf16⟩
  | .local _ .vmem, ⟨6, _⟩ => ⟨S4x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v78 : BitVec 1 := Scalar.cmpi .eq arg1 c3_i32
  let v79 : BitVec 32 := Scalar.extui v78
  let c0_i32_63 : BitVec 32 := 0#32
  let v80 : BitVec 1 := Scalar.cmpi .ne v79 c0_i32_63
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S1024x4x1024, .f32⟩
  | .hbm, ⟨28, _⟩ => ⟨S4x1024x1024, .f32⟩
  | .hbm, ⟨29, _⟩ => ⟨S4x1024x1024, .bf16⟩
  | .hbm, ⟨30, _⟩ => ⟨S1x1024, .f32⟩
  | .hbm, ⟨31, _⟩ => ⟨S4096x1024, .bf16⟩
  | .hbm, ⟨32, _⟩ => ⟨S4096x1024, .f32⟩
  | .hbm, ⟨33, _⟩ => ⟨S4096x4096, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_20 : BitVec 32 := 0#32
  let v31 : BitVec 1 := Scalar.cmpi .ne v30 c0_i32_20
  v31

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .bf16⟩
  | .hbm, ⟨77, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S8x8x128 : Shape := ⟨3, ![8, 8, 128]⟩
abbrev S512x1024 : Shape := ⟨2, ![512, 1024]⟩
abbrev S1x1024x1024 : Shape := ⟨3, ![1, 1024, 1024]⟩
abbrev S1024x1024 : Shape := ⟨2, ![1024, 1024]⟩
abbrev S1x8x128 : Shape := ⟨3, ![1, 8, 128]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x4096, .bf16⟩
  | .hbm, ⟨12, _⟩ => ⟨S4096x1024, .f32⟩
  | .hbm, ⟨13, _⟩ => ⟨S8x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x8x128, .f32⟩
  | .local _ .vmem, ⟨16, _⟩ => ⟨S1x8x128, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x512x1024 : Shape := ⟨3, ![8, 512, 1024]⟩
abbrev S8 : Shape := ⟨1, ![8]⟩
abbrev S8x1x1 : Shape := ⟨3, ![8, 1, 1]⟩
abbrev S8x8x128 : Shape := ⟨3, ![8, 8, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x512x1024, .f32⟩
  | .hbm, ⟨54, _⟩ => ⟨S_, .f32⟩
  | .hbm, ⟨55, _⟩ => ⟨S8, .f32⟩
  | .hbm, ⟨56, _⟩ => ⟨S4096x1024, .bf16⟩
  | .hbm, ⟨57, _⟩ => ⟨S4096x4096, .bf16⟩
  | .hbm, ⟨58, _⟩ => ⟨S8x1x1, .f32⟩
  | .hbm, ⟨59, _⟩ => ⟨S8x8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_cst_7 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x2632 : Shape := ⟨2, ![1024, 2632]⟩
abbrev S2632x1024 : Shape := ⟨2, ![2632, 1024]⟩
abbrev S544x1024 : Shape := ⟨2, ![544, 1024]⟩
abbrev S_ : Shape := ⟨0, ![]⟩
abbrev S32x1024 : Shape := ⟨2, ![32, 1024]⟩
abbrev S2056x1024 : Shape := ⟨2, ![2056, 1024]⟩
abbrev S120x1024 : Shape := ⟨2, ![120, 1024]⟩
abbrev S2816x1024 : Shape := ⟨2, ![2816, 1024]⟩
abbrev S1x1024 : Shape := ⟨2, ![1, 1024]⟩
abbrev S4096x640 : Shape := ⟨2, ![4096, 640]⟩
abbrev S4096x1536 : Shape := ⟨2, ![4096, 1536]⟩
abbrev S4096x512 : Shape := ⟨2, ![4096, 512]⟩
abbrev S4096x128 : Shape := ⟨2, ![4096, 128]⟩
abbrev S512x1024 : Shape := ⟨2, ![512, 1024]⟩
abbrev S512x640 : Shape := ⟨2, ![512, 640]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S640x1024 : Shape := ⟨2, ![640, 1024]⟩
abbrev S1536x1024 : Shape := ⟨2, ![1536, 1024]⟩
abbrev S128x1024 : Shape := ⟨2, ![128, 1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2632, .f32⟩
  | .hbm, ⟨3, _⟩ => ⟨S2632x1024, .f32⟩
  | .hbm, ⟨4, _⟩ => ⟨S544x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S2056x1024, .f32⟩
  | .hbm, ⟨11, _⟩ => ⟨S_, .f32⟩
  | .hbm, ⟨12, _⟩ => ⟨S120x1024, .f32⟩
  | .hbm, ⟨13, _⟩ => ⟨S2816x1024, .f32⟩
  | .hbm, ⟨14, _⟩ => ⟨S1x1024, .f32⟩
  | .hbm, ⟨15, _⟩ => ⟨S2816x1024, .bf16⟩
  | .hbm, ⟨16, _⟩ => ⟨S4096x1024, .bf16⟩
  | .hbm, ⟨17, _⟩ => ⟨S4096x640, .f32⟩
  | .hbm, ⟨18, _⟩ => ⟨S4096x1536, .f32⟩
  | .hbm, ⟨19, _⟩ => ⟨S4096x512, .f32⟩
  | .hbm, ⟨20, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x640, .f32⟩
  | .local _ .vmem, ⟨7, _⟩ => ⟨S512x640, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S1024 : Shape := ⟨1, ![1024]⟩
abbrev S1024x2632 : Shape := ⟨2, ![1024, 2632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x544 : Shape := ⟨2, ![1024, 544]⟩
abbrev S1024x32 : Shape := ⟨2, ![1024, 32]⟩
abbrev S1024x2056 : Shape := ⟨2, ![1024, 2056]⟩
abbrev S1024x120 : Shape := ⟨2, ![1024, 120]⟩
abbrev S1024x2816 : Shape := ⟨2, ![1024, 2816]⟩
abbrev S4096x2816 : Shape := ⟨2, ![4096, 2816]⟩
abbrev S4096x640 : Shape := ⟨2, ![4096, 640]⟩
abbrev S4096x1536 : Shape := ⟨2, ![4096, 1536]⟩
abbrev S4096x512 : Shape := ⟨2, ![4096, 512]⟩
abbrev S4096x128 : Shape := ⟨2, ![4096, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x544, .f32⟩
  | .hbm, ⟨20, _⟩ => ⟨S_, .f32⟩
  | .hbm, ⟨21, _⟩ => ⟨S1024x32, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x2056, .f32⟩
  | .hbm, ⟨26, _⟩ => ⟨S_, .f32⟩
  | .hbm, ⟨27, _⟩ => ⟨S1024x120, .f32⟩
  | .hbm, ⟨28, _⟩ => ⟨S1024x2816, .f32⟩
  | .hbm, ⟨29, _⟩ => ⟨S4096x2816, .f32⟩
  | .hbm, ⟨30, _⟩ => ⟨S4096x1024, .bf16⟩
  | .hbm, ⟨31, _⟩ => ⟨S4096x640, .f32⟩
  | .hbm, ⟨32, _⟩ => ⟨S4096x1536, .f32⟩
  | .hbm, ⟨33, _⟩ => ⟨S4096x512, .f32⟩
  | .hbm, ⟨34, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel8.lean ====
abbrev S4096x640 : Shape := ⟨2, ![4096, 640]⟩
abbrev S4096x512 : Shape := ⟨2, ![4096, 512]⟩
abbrev S4096x128 : Shape := ⟨2, ![4096, 128]⟩
abbrev S1024x2632 : Shape := ⟨2, ![1024, 2632]⟩
abbrev S4096x1024 : Shape := ⟨2, ![4096, 1024]⟩
abbrev S1024 : Shape := ⟨1, ![1024]⟩
abbrev S2632x1024 : Shape := ⟨2, ![2632, 1024]⟩
abbrev S544x1024 : Shape := ⟨2, ![544, 1024]⟩
abbrev S_ : Shape := ⟨0, ![]⟩
abbrev S32x1024 : Shape := ⟨2, ![32, 1024]⟩
abbrev S2056x1024 : Shape := ⟨2, ![2056, 1024]⟩
abbrev S120x1024 : Shape := ⟨2, ![120, 1024]⟩
abbrev S2816x1024 : Shape := ⟨2, ![2816, 1024]⟩
abbrev S1x1024 : Shape := ⟨2, ![1, 1024]⟩
abbrev S512x640 : Shape := ⟨2, ![512, 640]⟩
abbrev S512x512 : Shape := ⟨2, ![512, 512]⟩
abbrev S512x128 : Shape := ⟨2, ![512, 128]⟩
abbrev S512x1024 : Shape := ⟨2, ![512, 1024]⟩
abbrev S640x1024 : Shape := ⟨2, ![640, 1024]⟩
abbrev S128x1024 : Shape := ⟨2, ![128, 1024]⟩
abbrev S512 : Shape := ⟨1, ![512]⟩
abbrev S512x1 : Shape := ⟨2, ![512, 1]⟩

abbrev nBuf : Space → Nat
  | .hbm => 31
  | .vmem => 21
  | .smem => 0
  | _ => 0

abbrev bufTy : (tb : Table) → Fin (tcTables nBuf tb) → BufTy
  | .hbm, ⟨0, _⟩ => ⟨S4096x640, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S1024x2632, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S2632x1024, .f32⟩
  | .hbm, ⟨11, _⟩ => ⟨S544x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S2056x1024, .f32⟩
  | .hbm, ⟨18, _⟩ => ⟨S_, .f32⟩
  | .hbm, ⟨19, _⟩ => ⟨S120x1024, .f32⟩
  | .hbm, ⟨20, _⟩ => ⟨S2816x1024, .f32⟩
  | .hbm, ⟨21, _⟩ => ⟨S4096x640, .bf16⟩
  | .hbm, ⟨22, _⟩ => ⟨S4096x512, .bf16⟩
  | .hbm, ⟨23, _⟩ => ⟨S4096x512, .bf16⟩
  | .hbm, ⟨24, _⟩ => ⟨S4096x512, .bf16⟩
  | .hbm, ⟨25, _⟩ => ⟨S4096x512, .bf16⟩
  | .hbm, ⟨26, _⟩ => ⟨S4096x128, .bf16⟩
  | .hbm, ⟨27, _⟩ => ⟨S2816x1024, .bf16⟩
  | .hbm, ⟨28, _⟩ => ⟨S1x1024, .f32⟩
  | .hbm, ⟨29, _⟩ => ⟨S4096x1024, .f32⟩
  | .hbm, ⟨30, _⟩ => ⟨S1x1024, .f32⟩
  | .local _ .vmem, ⟨0, _⟩ => ⟨S512x640, .bf16⟩
  | .local _ .vmem, ⟨1, _⟩ => ⟨S512x640, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S4096x640 : Shape := ⟨2, ![4096, 640]⟩
abbrev S4096x512 : Shape := ⟨2, ![4096, 512]⟩
abbrev S4096x128 : Shape := ⟨2, ![4096, 128]⟩
abbrev S1024x2632 : Shape := ⟨2, ![1024, 2632]⟩
abbrev S4096x1024 : Shape := ⟨2, ![4096, 1024]⟩
abbrev S1024 : Shape := ⟨1, ![1024]⟩
abbrev S1024x544 : Shape := ⟨2, ![1024, 544]⟩
abbrev S_ : Shape := ⟨0, ![]⟩
abbrev S1024x32 : Shape := ⟨2, ![1024, 32]⟩
abbrev S1024x2056 : Shape := ⟨2, ![1024, 2056]⟩
abbrev S1024x120 : Shape := ⟨2, ![1024, 120]⟩
abbrev S1024x2816 : Shape := ⟨2, ![1024, 2816]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S1024x2632, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S1024x544, .f32⟩
  | .hbm, ⟨11, _⟩ => ⟨S_, .f32⟩
  | .hbm, ⟨12, _⟩ => ⟨S1024x32, .f32⟩
  | .hbm, ⟨13, _⟩ => ⟨S1024x32, .f32⟩
  | .hbm, ⟨14, _⟩ => ⟨S_, .f32⟩
  | .hbm, ⟨15, _⟩ => ⟨S1024x32, .f32⟩
  | .hbm, ⟨16, _⟩ => ⟨S1024x2056, .f32⟩
  | .hbm, ⟨17, _⟩ => ⟨S_, .f32⟩
  | .hbm, ⟨18, _⟩ => ⟨S1024x120, .f32⟩
  | .hbm, ⟨19, _⟩ => ⟨S1024x2816, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1x1024, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel9.lean ====
abbrev S4096x640 : Shape := ⟨2, ![4096, 640]⟩
abbrev S4096x512 : Shape := ⟨2, ![4096, 512]⟩
abbrev S4096x128 : Shape := ⟨2, ![4096, 128]⟩
abbrev S4096x1024 : Shape := ⟨2, ![4096, 1024]⟩
abbrev S2816x1024 : Shape := ⟨2, ![2816, 1024]⟩
abbrev S1024x640 : Shape := ⟨2, ![1024, 640]⟩
abbrev S1024x512 : Shape := ⟨2, ![1024, 512]⟩
abbrev S1024x128 : Shape := ⟨2, ![1024, 128]⟩
abbrev S1024x1024 : Shape := ⟨2, ![1024, 1024]⟩
abbrev S640x1024 : Shape := ⟨2, ![640, 1024]⟩
abbrev S512x1024 : Shape := ⟨2, ![512, 1024]⟩
abbrev S128x1024 : Shape := ⟨2, ![128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S4096x640, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S4096x1024, .f32⟩
  | .hbm, ⟨7, _⟩ => ⟨S4096x640, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x128, .bf16⟩
  | .hbm, ⟨13, _⟩ => ⟨S4096x1024, .bf16⟩
  | .hbm, ⟨14, _⟩ => ⟨S2816x1024, .bf16⟩
  | .local _ .vmem, ⟨0, _⟩ => ⟨S1024x640, .bf16⟩
  | .local _ .vmem, ⟨1, _⟩ => ⟨S1024x640, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .bf16⟩
  | .local _ .vmem, ⟨13, _⟩ => ⟨S1024x1024, .bf16⟩
  | .local _ .vmem, ⟨14, _⟩ => ⟨S2816x1024, .bf16⟩
  | .local _ .vmem, ⟨15, _⟩ => ⟨S2816x1024, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v59 : BitVec 1 := Scalar.cmpi .eq arg0 c3_i32
  let v60 : BitVec 32 := Scalar.extui v59
  let c0_i32_38 : BitVec 32 := 0#32
  let v61 : BitVec 1 := Scalar.cmpi .ne v60 c0_i32_38
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x640 : Shape := ⟨2, ![4096, 640]⟩
abbrev S4096x512 : Shape := ⟨2, ![4096, 512]⟩
abbrev S4096x128 : Shape := ⟨2, ![4096, 128]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S4096x1024, .f32⟩
  | .hbm, ⟨7, _⟩ => ⟨S4096x2816, .f32⟩
  | .hbm, ⟨8, _⟩ => ⟨S_, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Proof.RunA.lean ====
/- The attention backward kernel's body at a first key block, run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The key block is its query range's first: the body's `scf.if` is taken. -/
abbrev cond0 (i : grid0.Coords) : Prop :=
  (Scalar.cmpi .ne (Scalar.extui (Scalar.cmpi .eq (BitVec.ofNat 32 (i 2).val) 0#32)) 0#32) = 1#1

set_option maxHeartbeats 2000000 in
/-- The body at a first key block: the pieces it leaves in the three outputs and in the row sums' scratch, and
    the triple that says so. The output `dq` starts at any named contents `x6`, which the body overwrites. -/
def runA (c : Dev nD) (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (hc : cond0 i) (x0 : Vec F S1x2048x512 .bf16) (x1 : Vec F S1x512x512 .bf16) (x2 : Vec F S1x512x256 .bf16) (x3 : Vec F S1x2048x256 .f32) (x4 : Vec F S1x2x4x1x512 .f32) (x5 : Vec F S1x2048x256 .f32) :
    Σ' L6 : List (View.Piece (Elt F) S1x2048x512 .f32), Σ' L7 : List (View.Piece (Elt F) S1x512x512 .f32), Σ' L8 : List (View.Piece (Elt F) S1x512x256 .f32), { LS : List (View.Piece (Elt F) S2x4x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_bwd_eq_skeleton]; unfold cc0_attn_bwd_skel
    simp only [k0_part8_eq_skeleton, k0_part1_eq_skeleton, k0_part2_eq_skeleton, k0_part3_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; with_reducible iexact H6
    isplitl [H7]; · iexists _; with_reducible iexact H7
    isplitl [H8]; · iexists _; with_reducible iexact H8
    iexists _; with_reducible iexact HS

end Cert.KernelIdeal.Bwd

end
-- ==== Proof.RunB.lean ====
/- The attention backward kernel's body at a later key block, run. -/
module

public import proofs.«01_k».proof.Proof.RunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later key block: the pieces it leaves in the three outputs, `dq` starting at `x6` and the row
    sums' scratch at `xs`, and the triple that says so. -/
def runB (c : Dev nD) (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (hc : ¬cond0 i) (x0 : Vec F S1x2048x512 .bf16) (x1 : Vec F S1x512x512 .bf16) (x2 : Vec F S1x512x256 .bf16) (x3 : Vec F S1x2048x256 .f32) (x4 : Vec F S1x2x4x1x512 .f32) (x5 : Vec F S1x2048x256 .f32) (x6 : Vec F S1x2048x512 .f32) (xs : Vec F S2x4x1x512 .f32) :
    Σ' L6 : List (View.Piece (Elt F) S1x2048x512 .f32), Σ' L7 : List (View.Piece (Elt F) S1x512x512 .f32), { L8 : List (View.Piece (Elt F) S1x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ owns (c : Thread nD τ) arg12 fullShare xs) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg12.eq_unread hfs
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · with_reducible iexact H6
    isplitl [H7]; · iexists _; with_reducible iexact H7
    isplitl [H8]; · iexists _; with_reducible iexact H8
    iexists _; isplitr; · ipureintro; exact harg12.read_unread _
    iexact HS

end Cert.KernelIdeal.Bwd

end
-- ==== Proof.Frames.lean ====
/- The frame of the attention backward kernel, over any float values: the launch, with nothing said of what the outputs
   hold. -/
module

public import proofs.«01_k».proof.Proof.RunB
public import Idealize.ShloMosaic.Lib.Claim

@[expose] public section

set_option maxRecDepth 16384

noncomputable section

namespace Cert.KernelIdeal.Frames

open Cert.KernelIdeal Cert.KernelIdeal.Gen Cert.KernelIdeal.Bwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0 (t : Fin cfg0.N) : Memref sig .tc .vmem S1x2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x4x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x256 .f32 := win0_8.stage (cfg0.slots t 8)
abbrev hs8 (t : Fin cfg0.N) : (ms8 t).IsWhole := hstage0_8 ((cfg0.slots t 8).cast nbuf0_8)
/-- The scratch that holds the row sums. -/
abbrev scM : Memref sig .tc .vmem S2x4x1x512 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The three outputs: nothing is said of what they hold. -/
def outs : Fin 9 → Bool := fun w => w.val == 6 || w.val == 7 || w.val == 8

/-- The pipeline's proof data on a core: the inputs stay, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem Phi_eq (c : Dev nD) (t) : (dats m 0 c).Φ t = Pipeline.ΦA spec0 c := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d)
    ∗ (∃ d, owns (c : Thread nD τ) (ms7 t) fullShare d)
    ∗ (∃ d, owns (c : Thread nD τ) (ms8 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d)
    ∗ (∃ d, owns (c : Thread nD τ) (ms7 t) fullShare d)
    ∗ (∃ d, owns (c : Thread nD τ) (ms8 t) fullShare d))

set_option maxHeartbeats 6400000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, Phi_eq, Phi_eq, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : cond0 (grid0.coords t)
  · iapply (runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 0 t) (iblk m c 1 t) (iblk m c 2 t) (iblk m c 3 t) (iblk m c 4 t) (iblk m c 5 t)).2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, ⟨%es, HS⟩⟩
    isplitl [HS Hg]
    · isplitl [HS]
      · iexists _; unfold owns; iexists _; isplitr; swap; · with_reducible iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr; swap; · with_reducible iexact H6
      ipureintro; rfl
    isplitl [H7]
    · iexists _; unfold owns; iexists _; isplitr; swap; · with_reducible iexact H7
      ipureintro; rfl
    iexists _; unfold owns; iexists _; isplitr; swap; · with_reducible iexact H8
    ipureintro; rfl
  · icases HS with ⟨%ds, HS⟩
    iapply (runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) h (iblk m c 0 t) (iblk m c 1 t) (iblk m c 2 t) (iblk m c 3 t) (iblk m c 4 t) (iblk m c 5 t) d6 ds).2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hg]
    · isplitl [HS]; · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; unfold owns; iexists _; isplitr; swap; · with_reducible iexact H6
      ipureintro; rfl
    isplitl [H7]
    · iexists _; unfold owns; iexists _; isplitr; swap; · with_reducible iexact H7
      ipureintro; rfl
    iexists _; unfold owns; iexists _; isplitr; swap; · with_reducible iexact H8
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

/-! ## The run -/

set_option backward.isDefEq.respectTransparency.types false in
/-- The run: every counter at zero at its end, every array that the pipeline does not write as it found it. -/
theorem run_main : θ_run defs (onTc (τ := τ) (main (F := F))) (s₀ m ρ)
    (fun r => (Pipeline.RDat.FramePost (cfgs 0) (fun c => (dats m 0 c).toRForget outs) (V m)) r ∧ r.2.sem = fun _ => 0) :=
  Pipeline.θ_run_frame_track_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m)
    (hin := fun c => by rw [Phi_eq]) (hout := fun c => by rw [Phi_eq])

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Frames

end
-- ==== Proof.Same.lean ====
module

public import proofs.«01_k».proof.Proof.Gen.Kernel
public import proofs.«01_k».proof.Proof.Frames

/-! # The printed kernel's program is the idealized kernel's

The two programs have one text: no rule was applied and no constant named. So at any float values their body tables are
equal and so are their `main`s, and a run of the one is a run of the other. -/

@[expose] public section
noncomputable section
namespace Cert.Same
open Idealize.ShloMosaic

variable {F : FTy → Type} [FloatOps F]

set_option maxHeartbeats 0 in
theorem bodies : Cert.Kernel.defs₀ (F := F) = Cert.KernelIdeal.defs₀ := by
  unfold Cert.Kernel.defs₀ Cert.KernelIdeal.defs₀
  refine congrArg (Defs.onTc (nD := Cert.Kernel.nD) (τ := Cert.Kernel.τ) (sig := Cert.Kernel.sig) (Val := Elt F)
    (Λ := Cert.Kernel.Λ₀)) ?_
  funext l a
  match l, a with
  | 0, (t, s) => rfl

set_option maxHeartbeats 0 in
theorem table : Cert.Kernel.defs (F := F) = Cert.KernelIdeal.defs := by
  unfold Cert.Kernel.defs Cert.KernelIdeal.defs
  rw [bodies]
  rfl

set_option maxHeartbeats 0 in
theorem programs : Cert.Kernel.main (F := F) = Cert.KernelIdeal.main := by
  funext c
  unfold Cert.Kernel.main Cert.KernelIdeal.main
  rfl

/-- What holds of every run of the idealized kernel's program holds of every run of the printed one's. -/
theorem run (σ) {P} (h : θ_run (Cert.KernelIdeal.defs (F := F)) (onTc (τ := Cert.KernelIdeal.τ) Cert.KernelIdeal.main) σ P) :
    θ_run (Cert.Kernel.defs (F := F)) (onTc (τ := Cert.Kernel.τ) Cert.Kernel.main) σ P := by
  have e : ∀ (d d' : Defs Cert.KernelIdeal.nD Cert.KernelIdeal.τ Cert.KernelIdeal.sig (Elt F)
      (Pipeline.Sig Cert.KernelIdeal.Λ₀ (Fin 1) fun p => (Cert.KernelIdeal.pcfgs (F := F) p).Adm)) (k k'),
      d = d' → k = k' → θ_run d' (onTc (τ := Cert.KernelIdeal.τ) k') σ P → θ_run d (onTc (τ := Cert.KernelIdeal.τ) k) σ P := by
    rintro d d' k k' rfl rfl h
    exact h
  exact e _ _ _ _ table programs h

end Cert.Same
-- ==== Proof.SameCalls.lean ====
module

public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel2Ideal
public import proofs.«01_k».proof.Proof.Gen.Kernel3Ideal
public import proofs.«01_k».proof.Proof.Gen.Kernel4Ideal
public import proofs.«01_k».proof.Proof.Gen.Kernel5Ideal
public import proofs.«01_k».proof.Proof.Gen.Kernel6Ideal
public import proofs.«01_k».proof.Proof.Gen.Kernel7Ideal
public import proofs.«01_k».proof.Proof.Gen.Kernel8Ideal
public import proofs.«01_k».proof.Proof.Gen.Kernel9Ideal

/-! # The other calls: each printed program is its idealized program

As for the attention's: the two programs of a call have one text. -/

@[expose] public section
noncomputable section
open Idealize.ShloMosaic

variable {F : FTy → Type} [FloatOps F]

namespace Cert.Same2

set_option maxHeartbeats 0 in
theorem bodies : Cert.Kernel2.defs₀ (F := F) = Cert.Kernel2Ideal.defs₀ := by
  unfold Cert.Kernel2.defs₀ Cert.Kernel2Ideal.defs₀
  refine congrArg (Defs.onTc (nD := Cert.Kernel2.nD) (τ := Cert.Kernel2.τ) (sig := Cert.Kernel2.sig) (Val := Elt F)
    (Λ := Cert.Kernel2.Λ₀)) ?_
  funext l a
  match l, a with
  | 0, (t, s) => rfl

set_option maxHeartbeats 0 in
theorem table : Cert.Kernel2.defs (F := F) = Cert.Kernel2Ideal.defs := by
  unfold Cert.Kernel2.defs Cert.Kernel2Ideal.defs
  rw [bodies]
  rfl

set_option maxHeartbeats 0 in
theorem programs : Cert.Kernel2.main (F := F) = Cert.Kernel2Ideal.main := by
  funext c
  unfold Cert.Kernel2.main Cert.Kernel2Ideal.main
  rfl

/-- What holds of every run of the idealized kernel's program holds of every run of the printed one's. -/
theorem run (σ) {P} (h : θ_run (Cert.Kernel2Ideal.defs (F := F)) (onTc (τ := Cert.Kernel2Ideal.τ) Cert.Kernel2Ideal.main) σ P) :
    θ_run (Cert.Kernel2.defs (F := F)) (onTc (τ := Cert.Kernel2.τ) Cert.Kernel2.main) σ P := by
  have e : ∀ (d d' : Defs Cert.Kernel2Ideal.nD Cert.Kernel2Ideal.τ Cert.Kernel2Ideal.sig (Elt F)
      (Pipeline.Sig Cert.Kernel2Ideal.Λ₀ (Fin 1) fun p => (Cert.Kernel2Ideal.pcfgs (F := F) p).Adm)) (k k'),
      d = d' → k = k' → θ_run d' (onTc (τ := Cert.Kernel2Ideal.τ) k') σ P → θ_run d (onTc (τ := Cert.Kernel2Ideal.τ) k) σ P := by
    rintro d d' k k' rfl rfl h
    exact h
  exact e _ _ _ _ table programs h

end Cert.Same2

namespace Cert.Same3

set_option maxHeartbeats 0 in
theorem bodies : Cert.Kernel3.defs₀ (F := F) = Cert.Kernel3Ideal.defs₀ := by
  unfold Cert.Kernel3.defs₀ Cert.Kernel3Ideal.defs₀
  refine congrArg (Defs.onTc (nD := Cert.Kernel3.nD) (τ := Cert.Kernel3.τ) (sig := Cert.Kernel3.sig) (Val := Elt F)
    (Λ := Cert.Kernel3.Λ₀)) ?_
  funext l a
  match l, a with
  | 0, (t, s) => rfl

set_option maxHeartbeats 0 in
theorem table : Cert.Kernel3.defs (F := F) = Cert.Kernel3Ideal.defs := by
  unfold Cert.Kernel3.defs Cert.Kernel3Ideal.defs
  rw [bodies]
  rfl

set_option maxHeartbeats 0 in
theorem programs : Cert.Kernel3.main (F := F) = Cert.Kernel3Ideal.main := by
  funext c
  unfold Cert.Kernel3.main Cert.Kernel3Ideal.main
  rfl

/-- What holds of every run of the idealized kernel's program holds of every run of the printed one's. -/
theorem run (σ) {P} (h : θ_run (Cert.Kernel3Ideal.defs (F := F)) (onTc (τ := Cert.Kernel3Ideal.τ) Cert.Kernel3Ideal.main) σ P) :
    θ_run (Cert.Kernel3.defs (F := F)) (onTc (τ := Cert.Kernel3.τ) Cert.Kernel3.main) σ P := by
  have e : ∀ (d d' : Defs Cert.Kernel3Ideal.nD Cert.Kernel3Ideal.τ Cert.Kernel3Ideal.sig (Elt F)
      (Pipeline.Sig Cert.Kernel3Ideal.Λ₀ (Fin 1) fun p => (Cert.Kernel3Ideal.pcfgs (F := F) p).Adm)) (k k'),
      d = d' → k = k' → θ_run d' (onTc (τ := Cert.Kernel3Ideal.τ) k') σ P → θ_run d (onTc (τ := Cert.Kernel3Ideal.τ) k) σ P := by
    rintro d d' k k' rfl rfl h
    exact h
  exact e _ _ _ _ table programs h

end Cert.Same3

namespace Cert.Same4

set_option maxHeartbeats 0 in
theorem bodies : Cert.Kernel4.defs₀ (F := F) = Cert.Kernel4Ideal.defs₀ := by
  unfold Cert.Kernel4.defs₀ Cert.Kernel4Ideal.defs₀
  refine congrArg (Defs.onTc (nD := Cert.Kernel4.nD) (τ := Cert.Kernel4.τ) (sig := Cert.Kernel4.sig) (Val := Elt F)
    (Λ := Cert.Kernel4.Λ₀)) ?_
  funext l a
  match l, a with
  | 0, (t, s) => rfl

set_option maxHeartbeats 0 in
theorem table : Cert.Kernel4.defs (F := F) = Cert.Kernel4Ideal.defs := by
  unfold Cert.Kernel4.defs Cert.Kernel4Ideal.defs
  rw [bodies]
  rfl

set_option maxHeartbeats 0 in
theorem programs : Cert.Kernel4.main (F := F) = Cert.Kernel4Ideal.main := by
  funext c
  unfold Cert.Kernel4.main Cert.Kernel4Ideal.main
  rfl

/-- What holds of every run of the idealized kernel's program holds of every run of the printed one's. -/
theorem run (σ) {P} (h : θ_run (Cert.Kernel4Ideal.defs (F := F)) (onTc (τ := Cert.Kernel4Ideal.τ) Cert.Kernel4Ideal.main) σ P) :
    θ_run (Cert.Kernel4.defs (F := F)) (onTc (τ := Cert.Kernel4.τ) Cert.Kernel4.main) σ P := by
  have e : ∀ (d d' : Defs Cert.Kernel4Ideal.nD Cert.Kernel4Ideal.τ Cert.Kernel4Ideal.sig (Elt F)
      (Pipeline.Sig Cert.Kernel4Ideal.Λ₀ (Fin 1) fun p => (Cert.Kernel4Ideal.pcfgs (F := F) p).Adm)) (k k'),
      d = d' → k = k' → θ_run d' (onTc (τ := Cert.Kernel4Ideal.τ) k') σ P → θ_run d (onTc (τ := Cert.Kernel4Ideal.τ) k) σ P := by
    rintro d d' k k' rfl rfl h
    exact h
  exact e _ _ _ _ table programs h

end Cert.Same4

namespace Cert.Same5

set_option maxHeartbeats 0 in
theorem bodies : Cert.Kernel5.defs₀ (F := F) = Cert.Kernel5Ideal.defs₀ := by
  unfold Cert.Kernel5.defs₀ Cert.Kernel5Ideal.defs₀
  refine congrArg (Defs.onTc (nD := Cert.Kernel5.nD) (τ := Cert.Kernel5.τ) (sig := Cert.Kernel5.sig) (Val := Elt F)
    (Λ := Cert.Kernel5.Λ₀)) ?_
  funext l a
  match l, a with
  | 0, (t, s) => rfl

set_option maxHeartbeats 0 in
theorem table : Cert.Kernel5.defs (F := F) = Cert.Kernel5Ideal.defs := by
  unfold Cert.Kernel5.defs Cert.Kernel5Ideal.defs
  rw [bodies]
  rfl

set_option maxHeartbeats 0 in
theorem programs : Cert.Kernel5.main (F := F) = Cert.Kernel5Ideal.main := by
  funext c
  unfold Cert.Kernel5.main Cert.Kernel5Ideal.main
  rfl

/-- What holds of every run of the idealized kernel's program holds of every run of the printed one's. -/
theorem run (σ) {P} (h : θ_run (Cert.Kernel5Ideal.defs (F := F)) (onTc (τ := Cert.Kernel5Ideal.τ) Cert.Kernel5Ideal.main) σ P) :
    θ_run (Cert.Kernel5.defs (F := F)) (onTc (τ := Cert.Kernel5.τ) Cert.Kernel5.main) σ P := by
  have e : ∀ (d d' : Defs Cert.Kernel5Ideal.nD Cert.Kernel5Ideal.τ Cert.Kernel5Ideal.sig (Elt F)
      (Pipeline.Sig Cert.Kernel5Ideal.Λ₀ (Fin 1) fun p => (Cert.Kernel5Ideal.pcfgs (F := F) p).Adm)) (k k'),
      d = d' → k = k' → θ_run d' (onTc (τ := Cert.Kernel5Ideal.τ) k') σ P → θ_run d (onTc (τ := Cert.Kernel5Ideal.τ) k) σ P := by
    rintro d d' k k' rfl rfl h
    exact h
  exact e _ _ _ _ table programs h

end Cert.Same5

namespace Cert.Same6

set_option maxHeartbeats 0 in
theorem bodies : Cert.Kernel6.defs₀ (F := F) = Cert.Kernel6Ideal.defs₀ := by
  unfold Cert.Kernel6.defs₀ Cert.Kernel6Ideal.defs₀
  refine congrArg (Defs.onTc (nD := Cert.Kernel6.nD) (τ := Cert.Kernel6.τ) (sig := Cert.Kernel6.sig) (Val := Elt F)
    (Λ := Cert.Kernel6.Λ₀)) ?_
  funext l a
  match l, a with
  | 0, (t, s) => rfl

set_option maxHeartbeats 0 in
theorem table : Cert.Kernel6.defs (F := F) = Cert.Kernel6Ideal.defs := by
  unfold Cert.Kernel6.defs Cert.Kernel6Ideal.defs
  rw [bodies]
  rfl

set_option maxHeartbeats 0 in
theorem programs : Cert.Kernel6.main (F := F) = Cert.Kernel6Ideal.main := by
  funext c
  unfold Cert.Kernel6.main Cert.Kernel6Ideal.main
  rfl

/-- What holds of every run of the idealized kernel's program holds of every run of the printed one's. -/
theorem run (σ) {P} (h : θ_run (Cert.Kernel6Ideal.defs (F := F)) (onTc (τ := Cert.Kernel6Ideal.τ) Cert.Kernel6Ideal.main) σ P) :
    θ_run (Cert.Kernel6.defs (F := F)) (onTc (τ := Cert.Kernel6.τ) Cert.Kernel6.main) σ P := by
  have e : ∀ (d d' : Defs Cert.Kernel6Ideal.nD Cert.Kernel6Ideal.τ Cert.Kernel6Ideal.sig (Elt F)
      (Pipeline.Sig Cert.Kernel6Ideal.Λ₀ (Fin 1) fun p => (Cert.Kernel6Ideal.pcfgs (F := F) p).Adm)) (k k'),
      d = d' → k = k' → θ_run d' (onTc (τ := Cert.Kernel6Ideal.τ) k') σ P → θ_run d (onTc (τ := Cert.Kernel6Ideal.τ) k) σ P := by
    rintro d d' k k' rfl rfl h
    exact h
  exact e _ _ _ _ table programs h

end Cert.Same6

namespace Cert.Same7

set_option maxHeartbeats 0 in
theorem bodies : Cert.Kernel7.defs₀ (F := F) = Cert.Kernel7Ideal.defs₀ := by
  unfold Cert.Kernel7.defs₀ Cert.Kernel7Ideal.defs₀
  refine congrArg (Defs.onTc (nD := Cert.Kernel7.nD) (τ := Cert.Kernel7.τ) (sig := Cert.Kernel7.sig) (Val := Elt F)
    (Λ := Cert.Kernel7.Λ₀)) ?_
  funext l a
  match l, a with
  | 0, (t, s) => rfl

set_option maxHeartbeats 0 in
theorem table : Cert.Kernel7.defs (F := F) = Cert.Kernel7Ideal.defs := by
  unfold Cert.Kernel7.defs Cert.Kernel7Ideal.defs
  rw [bodies]
  rfl

set_option maxHeartbeats 0 in
theorem programs : Cert.Kernel7.main (F := F) = Cert.Kernel7Ideal.main := by
  funext c
  unfold Cert.Kernel7.main Cert.Kernel7Ideal.main
  rfl

/-- What holds of every run of the idealized kernel's program holds of every run of the printed one's. -/
theorem run (σ) {P} (h : θ_run (Cert.Kernel7Ideal.defs (F := F)) (onTc (τ := Cert.Kernel7Ideal.τ) Cert.Kernel7Ideal.main) σ P) :
    θ_run (Cert.Kernel7.defs (F := F)) (onTc (τ := Cert.Kernel7.τ) Cert.Kernel7.main) σ P := by
  have e : ∀ (d d' : Defs Cert.Kernel7Ideal.nD Cert.Kernel7Ideal.τ Cert.Kernel7Ideal.sig (Elt F)
      (Pipeline.Sig Cert.Kernel7Ideal.Λ₀ (Fin 1) fun p => (Cert.Kernel7Ideal.pcfgs (F := F) p).Adm)) (k k'),
      d = d' → k = k' → θ_run d' (onTc (τ := Cert.Kernel7Ideal.τ) k') σ P → θ_run d (onTc (τ := Cert.Kernel7Ideal.τ) k) σ P := by
    rintro d d' k k' rfl rfl h
    exact h
  exact e _ _ _ _ table programs h

end Cert.Same7

namespace Cert.Same8

set_option maxHeartbeats 0 in
theorem bodies : Cert.Kernel8.defs₀ (F := F) = Cert.Kernel8Ideal.defs₀ := by
  unfold Cert.Kernel8.defs₀ Cert.Kernel8Ideal.defs₀
  refine congrArg (Defs.onTc (nD := Cert.Kernel8.nD) (τ := Cert.Kernel8.τ) (sig := Cert.Kernel8.sig) (Val := Elt F)
    (Λ := Cert.Kernel8.Λ₀)) ?_
  funext l a
  match l, a with
  | 0, (t, s) => rfl

set_option maxHeartbeats 0 in
theorem table : Cert.Kernel8.defs (F := F) = Cert.Kernel8Ideal.defs := by
  unfold Cert.Kernel8.defs Cert.Kernel8Ideal.defs
  rw [bodies]
  rfl

set_option maxHeartbeats 0 in
theorem programs : Cert.Kernel8.main (F := F) = Cert.Kernel8Ideal.main := by
  funext c
  unfold Cert.Kernel8.main Cert.Kernel8Ideal.main
  rfl

/-- What holds of every run of the idealized kernel's program holds of every run of the printed one's. -/
theorem run (σ) {P} (h : θ_run (Cert.Kernel8Ideal.defs (F := F)) (onTc (τ := Cert.Kernel8Ideal.τ) Cert.Kernel8Ideal.main) σ P) :
    θ_run (Cert.Kernel8.defs (F := F)) (onTc (τ := Cert.Kernel8.τ) Cert.Kernel8.main) σ P := by
  have e : ∀ (d d' : Defs Cert.Kernel8Ideal.nD Cert.Kernel8Ideal.τ Cert.Kernel8Ideal.sig (Elt F)
      (Pipeline.Sig Cert.Kernel8Ideal.Λ₀ (Fin 1) fun p => (Cert.Kernel8Ideal.pcfgs (F := F) p).Adm)) (k k'),
      d = d' → k = k' → θ_run d' (onTc (τ := Cert.Kernel8Ideal.τ) k') σ P → θ_run d (onTc (τ := Cert.Kernel8Ideal.τ) k) σ P := by
    rintro d d' k k' rfl rfl h
    exact h
  exact e _ _ _ _ table programs h

end Cert.Same8

namespace Cert.Same9

set_option maxHeartbeats 0 in
theorem bodies : Cert.Kernel9.defs₀ (F := F) = Cert.Kernel9Ideal.defs₀ := by
  unfold Cert.Kernel9.defs₀ Cert.Kernel9Ideal.defs₀
  refine congrArg (Defs.onTc (nD := Cert.Kernel9.nD) (τ := Cert.Kernel9.τ) (sig := Cert.Kernel9.sig) (Val := Elt F)
    (Λ := Cert.Kernel9.Λ₀)) ?_
  funext l a
  match l, a with
  | 0, (t, s) => rfl

set_option maxHeartbeats 0 in
theorem table : Cert.Kernel9.defs (F := F) = Cert.Kernel9Ideal.defs := by
  unfold Cert.Kernel9.defs Cert.Kernel9Ideal.defs
  rw [bodies]
  rfl

set_option maxHeartbeats 0 in
theorem programs : Cert.Kernel9.main (F := F) = Cert.Kernel9Ideal.main := by
  funext c
  unfold Cert.Kernel9.main Cert.Kernel9Ideal.main
  rfl

/-- What holds of every run of the idealized kernel's program holds of every run of the printed one's. -/
theorem run (σ) {P} (h : θ_run (Cert.Kernel9Ideal.defs (F := F)) (onTc (τ := Cert.Kernel9Ideal.τ) Cert.Kernel9Ideal.main) σ P) :
    θ_run (Cert.Kernel9.defs (F := F)) (onTc (τ := Cert.Kernel9.τ) Cert.Kernel9.main) σ P := by
  have e : ∀ (d d' : Defs Cert.Kernel9Ideal.nD Cert.Kernel9Ideal.τ Cert.Kernel9Ideal.sig (Elt F)
      (Pipeline.Sig Cert.Kernel9Ideal.Λ₀ (Fin 1) fun p => (Cert.Kernel9Ideal.pcfgs (F := F) p).Adm)) (k k'),
      d = d' → k = k' → θ_run d' (onTc (τ := Cert.Kernel9Ideal.τ) k') σ P → θ_run d (onTc (τ := Cert.Kernel9Ideal.τ) k) σ P := by
    rintro d d' k k' rfl rfl h
    exact h
  exact e _ _ _ _ table programs h

end Cert.Same9
-- ==== Proof.Grad.lean ====
/- What the weight gradients' calls share: the contents a sequence of stores leaves, read at an index, and an array
   summed over the points of a run, block by block. -/
module

public import Idealize.ShloMosaic.PureOps
public import Idealize.ShloMosaic.Lib.Pointwise
public import Idealize.ShloMosaic.Lib.Pipeline.ValueKit
public import Mathlib.Algebra.BigOperators.Fin

@[expose] public section

noncomputable section

namespace Cert.Grad

open Idealize.ShloMosaic

section Stores

variable {Val : EltTy → Type} [∀ e, Nonempty (Val e)] {S : Shape} {e : EltTy}

/-- Where the later stores `L` hold an index and agree on its value, the earlier ones do not matter. -/
theorem canon_append (L T : List (View.Piece Val S e)) (y : S.Idx) (v : Val e) (hc : ∃ p ∈ L, y ∈ p.1.set)
    (h : View.AllAt L y v) : View.canon (L ++ T) y = v := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      exact (View.canon_cons_emb p.1 p.2 _ x).trans (h p List.mem_cons_self x rfl)
    · rw [View.canon_cons_of_not_mem _ _ hm]
      refine ih ?_ fun q hq => h q (List.mem_cons_of_mem _ hq)
      obtain ⟨q, hq, hy⟩ := hc
      rcases List.mem_cons.mp hq with rfl | hq'
      · exact absurd hy hm
      · exact ⟨q, hq', hy⟩

variable {sig : RefSig} {κ : Kind} {sp : Space}

/-- A load passes over a later store of a disjoint rectangle. -/
theorem readCov_skip (v : View sig κ sp S e) {off size off' size' : Fin S.rank → Nat} (inb) (inb')
    (w : (Rect.unit (s := S) off size inb).shape.Idx → Val e) (L : List (View.Piece Val S e))
    (h : ∃ a, off a + size a ≤ off' a ∨ off' a + size' a ≤ off a) :
    v.readCov ((⟨Rect.unit off size inb, w⟩ : View.Piece Val S e) :: L) (Rect.unit (s := S) off' size' inb').toLoadRect
      = v.readCov L (Rect.unit (s := S) off' size' inb').toLoadRect := by
  rw [View.readCov_eq_canon', View.readCov_eq_canon']
  funext x
  refine View.canon_cons_of_not_mem _ _ fun hm => ?_
  obtain ⟨a, ha⟩ := h
  have h1 := (Rect.mem_set_unit (inb := inb)).mp hm a
  have h2 : (((Rect.unit (s := S) off' size' inb').toLoadRect.idx x) a : Nat) = off' a + 1 * (x a : Nat) := rfl
  have h3 : (x a : Nat) < size' a := (x a).isLt
  omega

/-- A load of what one store of the whole buffer left. -/
theorem readCov_whole (v : View sig κ sp S e) {off off' size' : Fin S.rank → Nat} (h0 : ∀ a, off a = 0) (inb) (inb')
    (w : S.Idx → Val e) :
    v.readCov [(⟨Rect.unit off S.size inb, w⟩ : View.Piece Val S e)] (Rect.unit (s := S) off' size' inb').toLoadRect
      = View.ld w (Rect.unit (s := S) off' size' inb') := by
  obtain rfl : off = fun _ => 0 := funext h0
  rw [View.readCov_eq_canon', View.canon_cons_unit_zero rfl]

end Stores

section Sums

variable {α : Type} {N : Nat}

/-- A buffer set at the first of every four points and added to at the others holds, after the fourth, the four terms. -/
theorem run_sum (s p : (n : Nat) → n < N → α → EReal)
    (h0 : ∀ n h, n % 4 = 0 → s n h = fun y => 0 + p n h y)
    (h1 : ∀ n h, ¬ (n + 1) % 4 = 0 → s (n + 1) h = fun y => s n (Nat.lt_of_succ_lt h) y + p (n + 1) h y)
    (q : Nat) (h : 4 * q + 3 < N) (y : α) :
    s (4 * q + 3) h y = ∑ t : Fin 4, p (4 * q + t.val) (by omega) y := by
  rw [h1 _ _ (by omega), h1 _ _ (by omega), h1 _ _ (by omega), h0 _ _ (by omega), Fin.sum_univ_four]
  exact congrArg (· + _ + _ + _) (zero_add _)

/-- Row `k` of block `t` of four blocks of 1024 rows. -/
def row (t : Fin 4) (k : Fin 1024) : Fin 4096 := ⟨1024 * t.val + k.val, by omega⟩

/-- The rows, block by block, are all the rows. -/
theorem sum_rows (f : Fin 4096 → EReal) : ∑ t : Fin 4, ∑ k : Fin 1024, f (row t k) = ∑ r : Fin 4096, f r := by
  rw [← Fintype.sum_prod_type' (f := fun t k => f (row t k))]
  refine Fintype.sum_equiv (finProdFinEquiv (m := 4) (n := 1024)) _ _ fun x => congrArg f (Fin.ext ?_)
  show 1024 * x.1.val + x.2.val = x.2.val + 1024 * x.1.val
  omega

end Sums

end Cert.Grad

end
-- ==== Proof.MlpBwd.lean ====
/- The MLP's backward call: what the body leaves at a point (the gradient of the pre-activations, the accumulator of the
   gradient of the normed rows, the gradient of the norm's weight), those after every point, and the three results at
   an index, which are the reference's. -/
module

public import proofs.«01_k».proof.Proof.Gen.Kernel5Ideal.Value
public import proofs.«01_k».proof.Proof.Gen.Reference5Ideal.Run
public import proofs.«01_k».proof.Proof.Grad
public import proofs.«01_k».proof.Defs
public import Idealize.ShloMosaic.Lib.StableHlo.ReadAt

@[expose] public section

noncomputable section

namespace Cert.Mlp

open Idealize.ShloMosaic

section Spec

/-! The gradients as functions of the arguments: the input, the norm's weight, the two weights, the output's gradient. -/

variable (h : Fin 4096 → Fin 1024 → EReal) (nw : Fin 1024 → EReal) (wu : Fin 1024 → Fin 4096 → EReal)
  (wd : Fin 4096 → Fin 1024 → EReal) (dy : Fin 4096 → Fin 1024 → EReal)

/-- 1/1024. -/
def inv : EReal := Ideal.ofBits .f32 0x3A800000#32
/-- A row's mean square, with the norm's epsilon; one over its root. -/
def ms (r : Fin 4096) : EReal := (∑ k : Fin 1024, h r k * h r k) * inv + Ideal.ofBits .f32 0x358637BD#32
def rs (r : Fin 4096) : EReal := Ideal.rsqrt (ms h r)
/-- The pre-activations. -/
def pre (r j : Fin 4096) : EReal := ∑ k : Fin 1024, h r k * rs h r * nw k * wu k j
/-- Their gradient. -/
def dup (r j : Fin 4096) : EReal :=
  (∑ k : Fin 1024, dy r k * wd j k) * (Ideal.ofBits .f32 0x40000000#32 * max (pre h nw wu r j) 0)
/-- The gradient of the normed rows. -/
def dhn (r : Fin 4096) (b : Fin 1024) : EReal := ∑ j : Fin 4096, dup h nw wu wd dy r j * wu b j
/-- The gradient of the norm's weight. -/
def dnorm (b : Fin 1024) : EReal := ∑ r : Fin 4096, h r b * rs h r * dhn h nw wu wd dy r b
/-- The factor of a row by which its mean square enters the gradient of the input. -/
def coef (r : Fin 4096) : EReal :=
  (∑ k : Fin 1024, h r k * (dhn h nw wu wd dy r k * nw k)) * (Ideal.ofBits .f32 0xBF000000#32 * Ideal.div (rs h r) (ms h r)) * inv
/-- The gradient of the input. -/
def dh (r : Fin 4096) (b : Fin 1024) : EReal :=
  dy r b + dhn h nw wu wd dy r b * nw b * rs h r + h r b * coef h nw wu wd dy r + coef h nw wu wd dy r * h r b

end Spec

theorem inv_eq : inv = ((1 / 1024 : ℝ) : EReal) := by
  simp [inv, Ideal.ofBits, Ideal.ieee]
  rw [← EReal.coe_mul]
  norm_num

theorem div_1024 (x : EReal) : Ideal.div x (Ideal.ofBits .f32 0x44800000#32) = x * inv := by
  have e : Ideal.ofBits .f32 0x44800000#32 = ((1024 : ℝ) : EReal) := by
    simp [Ideal.ofBits, Ideal.ieee]
    rw [← EReal.coe_mul]
    norm_num
  rw [e, Ideal.div_coe (by norm_num : (1024 : ℝ) ≠ 0), inv_eq]

/-- The kernel takes the root of the hidden rows where the reference keeps the rectified pre-activations. -/
theorem sqrt_mul_self (x : EReal) (h : 0 ≤ x) : Ideal.sqrt (x * x) = x := by
  induction x with
  | bot => simp at h
  | top => rw [EReal.top_mul_top]; rfl
  | coe r =>
    have hr : 0 ≤ r := EReal.coe_nonneg.mp h
    rw [← EReal.coe_mul]
    show (if r * r < 0 then (⊥ : EReal) else ((Real.sqrt (r * r) : ℝ) : EReal)) = r
    rw [if_neg (not_lt.mpr (mul_self_nonneg r)), Real.sqrt_mul_self hr]

/-- Row `r` of the `q`-th block of 512 rows; column `x` of the block of 1024 columns that point `n` takes. -/
def tok (q : Nat) (r : Fin 512) : Fin 4096 := ⟨(512 * q + r.val) % 4096, Nat.mod_lt _ (by decide)⟩
def col (n : Nat) (x : Fin 1024) : Fin 4096 := ⟨1024 * (n % 4) + x.val, by omega⟩

theorem sum_tok (f : Fin 4096 → EReal) : ∑ q ∈ Finset.range 8, ∑ r : Fin 512, f (tok q r) = ∑ r : Fin 4096, f r := by
  rw [Finset.sum_range, ← Fintype.sum_prod_type' (f := fun (q : Fin 8) r => f (tok q r))]
  refine Fintype.sum_equiv (finProdFinEquiv (m := 8) (n := 512)) _ _ fun x => congrArg f (Fin.ext ?_)
  show (512 * x.1.val + x.2.val) % 4096 = x.2.val + 512 * x.1.val
  omega

end Cert.Mlp

namespace Cert.Kernel5Ideal.Grad

open Cert.Kernel5Ideal Cert.Kernel5Ideal.Gen Cert.Grad Cert.Mlp
open Idealize.ShloMosaic Idealize.ShloMosaic.TcCoe Idealize.SL.Sem

section Payloads

variable (h acc d : Vec Ideal S512x1024 .f32) (nw u v : Vec Ideal S1x1024 .f32) (a e : Vec Ideal S512x1024 .bf16)
  (w : Vec Ideal S1024x1024 .bf16) (s : Vec Ideal S1x1024x1024 .bf16) (r : Fin 512) (b : Fin 1024) (z : Fin 1)

theorem pay1_at : k0_pay1 u v (ix2 z b) = v (ix2 z b) + u (ix2 z b) := by pointwise [k0_pay1]
theorem pay2_at : k0_pay2 h (ix2 r z) = (∑ x : Fin 1024, h (ix2 r x) * h (ix2 r x)) * inv + Ideal.ofBits .f32 0x358637BD#32 := by
  pointwise [k0_pay2]
  rfl
theorem pay3_at : k0_pay3 h (ix2 r z) = Ideal.rsqrt (k0_pay2 h (ix2 r z)) := by pointwise [k0_pay3]
theorem pay4_at : k0_pay4 h acc (ix2 z b) = ∑ x : Fin 512, h (ix2 x b) * k0_pay3 h (ix2 x 0) * acc (ix2 x b) := by pointwise [k0_pay4]
theorem pay5_at : k0_pay5 h nw acc d (ix2 r b) = acc (ix2 r b) * nw (ix2 0 b) * k0_pay3 h (ix2 r 0)
      + h (ix2 r b) * ((∑ x : Fin 1024, h (ix2 r x) * (acc (ix2 r x) * nw (ix2 0 x)))
        * (Ideal.ofBits .f32 0xBF000000#32 * Ideal.div (k0_pay3 h (ix2 r 0)) (k0_pay2 h (ix2 r 0))) * inv)
      + ((∑ x : Fin 1024, h (ix2 r x) * (acc (ix2 r x) * nw (ix2 0 x)))
        * (Ideal.ofBits .f32 0xBF000000#32 * Ideal.div (k0_pay3 h (ix2 r 0)) (k0_pay2 h (ix2 r 0))) * inv) * h (ix2 r b)
      + d (ix2 r b) := by
  pointwise [k0_pay5]
  rw [Fin.sum_univ_one (M := EReal)]
  rfl
theorem pay6_at : k0_pay6 (F := Ideal) (ix2 z b) = (0 : EReal) := by pointwise [k0_pay6]
theorem pay7_at : k0_pay7 (F := Ideal) (ix2 r b) = (0 : EReal) := by pointwise [k0_pay7]
theorem pay8_at : k0_pay8 d (ix2 r b) = d (ix2 r b) := by pointwise [k0_pay8]
theorem pay9_at : k0_pay9 a e w (ix2 r b)
    = (∑ x : Fin 1024, e (ix2 r x) * w (ix2 b x)) * (Ideal.ofBits .f32 0x40000000#32 * Ideal.sqrt (a (ix2 r b))) := by pointwise [k0_pay9]
theorem pay10_at : k0_pay10 a e w acc s (ix2 r b) = acc (ix2 r b) + ∑ x : Fin 1024, k0_pay9 a e w (ix2 r x) * s (ix3 0 b x) := by
  pointwise [k0_pay10]

end Payloads

section Points

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S512x1024 .bf16) (harg4 : arg4.IsWhole)
  (arg5 : Memref sig .tc .vmem S1x1024x1024 .bf16) (harg5 : arg5.IsWhole) (arg6 : Memref sig .tc .vmem S1024x1024 .bf16) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .bf16) (harg12 : arg12.IsWhole)
  (x0 : Vec Ideal S512x1024 .f32) (x1 : Vec Ideal S1x1024 .f32) (x2 : Vec Ideal S512x1024 .bf16) (x3 : Vec Ideal S1x1024x1024 .bf16)
  (x4 : Vec Ideal S1024x1024 .bf16) (x5 : Vec Ideal S512x1024 .f32) (x8 : Vec Ideal S1x1024 .f32) (xs0 : Vec Ideal S512x1024 .f32)
  (xs1 : Vec Ideal S512x1024 .bf16)

theorem norm_A (h0 h1 h2) : out0_A_8 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay6 (F := Ideal) := by
  frame_out
theorem dup_A (h0 h1 h2) : out0_A_7 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay9 x2 (k0_pay8 x5) x4 := by
  frame_out
theorem acc_A (h0 h1 h2) : sout0_A_0 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay10 x2 (k0_pay8 x5) x4 (k0_pay7 (F := Ideal)) x3 := by
  frame_out
theorem dy_A (h0 h1 h2) : sout0_A_1 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay8 x5 := by
  frame_out
theorem dup_D (h0 h1 h2) : out0_D_7 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay9 x2 (k0_pay8 x5) x4 := by
  frame_out
theorem acc_D (h0 h1 h2) : sout0_D_0 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay10 x2 (k0_pay8 x5) x4 (k0_pay7 (F := Ideal)) x3 := by
  frame_out
theorem dy_D (h0 h1 h2) : sout0_D_1 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 = k0_pay8 x5 := by
  frame_out
theorem norm_D (h0 h1 h2) : out0_D_8 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 = x8 := by
  rfl
theorem dup_B (h0 h1 h2) : out0_B_7 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 xs0 xs1 = k0_pay9 x2 xs1 x4 := by
  frame_out
theorem acc_B (h0 h1 h2) : sout0_B_0 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 xs0 xs1 = k0_pay10 x2 xs1 x4 xs0 x3 := by
  frame_out
theorem dy_B (h0 h1 h2) : sout0_B_1 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 xs0 xs1 = xs1 := by
  rfl
theorem dup_C (h0 h1 h2) : out0_C_7 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 xs0 xs1 = k0_pay9 x2 xs1 x4 := by
  frame_out
theorem acc_C (h0 h1 h2) : sout0_C_0 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 xs0 xs1 = k0_pay10 x2 xs1 x4 xs0 x3 := by
  frame_out
theorem dy_C (h0 h1 h2) : sout0_C_1 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 xs0 xs1 = xs1 := by
  rfl
theorem norm_B (h0 h1 h2) : out0_B_8 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 xs0 xs1 x8 = x8 := by
  rfl
theorem norm_C (h0 h1 h2) : out0_C_8 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 xs0 xs1 = k0_pay1 (k0_pay4 x0 (k0_pay10 x2 xs1 x4 xs0 x3)) x8 := by
  frame_out
theorem dh_C (h0 h1 h2) : out0_C_6 (F := Ideal) c i arg2 harg2 arg3 harg3 arg4 harg4 arg5 harg5 arg6 harg6 arg7 harg7
    arg8 harg8 arg9 harg9 arg10 harg10 arg11 harg11 arg12 harg12 h0 h1 h2
    x0 x1 x2 x3 x4 x5 x8 xs0 xs1 = k0_pay5 x0 x1 (k0_pay10 x2 xs1 x4 xs0 x3) x5 := by
  frame_out

end Points

variable (m : (ℓ : Loc nD τ sig) → Buf (Elt Ideal) ℓ) (c : Dev nD)

/-- The arguments' elements. -/
def hid (r : Fin 4096) (k : Fin 1024) : EReal := m ((c.tc : Thread nD τ).loc main_arg0) (ix2 r k)
def nw (k : Fin 1024) : EReal := m ((c.tc : Thread nD τ).loc main_arg1) (ix1 k)
def wu (k : Fin 1024) (j : Fin 4096) : EReal := m ((c.tc : Thread nD τ).loc main_arg2) (ix2 k j)
def wd (j : Fin 4096) (k : Fin 1024) : EReal := m ((c.tc : Thread nD τ).loc main_arg3) (ix2 j k)
def dy (r : Fin 4096) (k : Fin 1024) : EReal := m ((c.tc : Thread nD τ).loc main_arg4) (ix2 r k)

theorem entry_nw (z : Fin 1) (k : Fin 1024) : V m c main_v20 (ix2 z k) = nw m c k := by
  unfold nw
  unfold V
  simp only [hostOps0, hostOps0_1, hostOps0_2, List.flatten_cons, List.flatten_nil, List.append_nil, List.cons_append, List.nil_append]
  after_reads_at
theorem entry_act (r j : Fin 4096) : V m c main_v16 (ix2 r j)
    = max (pre (hid m c) (nw m c) (wu m c) r j) 0 * max (pre (hid m c) (nw m c) (wu m c) r j) 0 := by
  unfold pre rs ms hid nw wu
  unfold V
  simp only [hostOps0, hostOps0_1, hostOps0_2, List.flatten_cons, List.flatten_nil, List.append_nil, List.cons_append, List.nil_append]
  after_reads_at
  simp only [div_1024]
theorem entry_wu (s : Fin 4) (k x : Fin 1024) : V m c main_v19 (ix3 s k x) = wu m c k (row s x) := by
  unfold wu row
  unfold V
  simp only [hostOps0, hostOps0_1, hostOps0_2, List.flatten_cons, List.flatten_nil, List.append_nil, List.cons_append, List.nil_append]
  after_reads_at
  exact congrArg (fun j : Fin 4096 => m ((c.tc : Thread nD τ).loc main_arg2) (ix2 k j)) (Fin.ext (by show s.val * 1024 + x.val = 1024 * s.val + x.val; omega))
theorem entry_wd (j : Fin 4096) (k : Fin 1024) : V m c main_v21 (ix2 j k) = wd m c j k := by
  unfold wd
  unfold V
  simp only [hostOps0, hostOps0_1, hostOps0_2, List.flatten_cons, List.flatten_nil, List.append_nil, List.cons_append, List.nil_append]
  after_reads_at

theorem idx : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = t.val / 4 ∧ win0_2.index t (1 : Fin 2) = t.val % 4)
    ∧ (win0_3.index t (0 : Fin 3) = t.val % 4 ∧ win0_3.index t (1 : Fin 3) = 0 ∧ win0_3.index t (2 : Fin 3) = 0)
    ∧ (win0_4.index t (0 : Fin 2) = t.val % 4 ∧ win0_4.index t (1 : Fin 2) = 0)
    ∧ (win0_5.index t (0 : Fin 2) = t.val / 4 ∧ win0_5.index t (1 : Fin 2) = 0) :=
  (by decide +kernel : ∀ t : Fin grid0.N, _)

section Blocks

variable (n : Nat) (h : n < cfg0.N) (r : Fin 512) (k x : Fin 1024)

include h in
theorem tok_val : (512 * (n / 4) + r.val) % 4096 = 512 * (n / 4) + r.val := by
  have hN : cfg0.N = 32 := N_0
  omega

theorem blk0 : (iblk m c 0 ⟨n, h⟩ (ix2 r k) : EReal) = hid m c (tok (n / 4) r) k := by
  obtain ⟨⟨e0, e1⟩, -⟩ := idx ⟨n, h⟩
  have ht := tok_val n h r
  unfold hid
  blk_ext [iblk, V, e0, e1, tok, ht]
theorem blk1 (z : Fin 1) : (iblk m c 1 ⟨n, h⟩ (ix2 z k) : EReal) = nw m c k := by
  obtain ⟨-, ⟨e0, e1⟩, -⟩ := idx ⟨n, h⟩
  rw [← entry_nw m c z]
  blk_ext [iblk, e0, e1]
theorem blk2 : (iblk m c 2 ⟨n, h⟩ (ix2 r x) : EReal)
    = max (pre (hid m c) (nw m c) (wu m c) (tok (n / 4) r) (col n x)) 0 * max (pre (hid m c) (nw m c) (wu m c) (tok (n / 4) r) (col n x)) 0 := by
  obtain ⟨-, -, ⟨e0, e1⟩, -⟩ := idx ⟨n, h⟩
  have ht := tok_val n h r
  rw [← entry_act]
  blk_ext [iblk, e0, e1, tok, ht, col]
theorem blk3 (z : Fin 1) : (iblk m c 3 ⟨n, h⟩ (ix3 z k x) : EReal) = wu m c k (col n x) := by
  obtain ⟨-, -, -, ⟨e0, e1, e2⟩, -⟩ := idx ⟨n, h⟩
  rw [show col n x = row ⟨n % 4, by omega⟩ x from rfl, ← entry_wu]
  blk_ext [iblk, e0, e1, e2]
theorem blk4 : (iblk m c 4 ⟨n, h⟩ (ix2 x k) : EReal) = wd m c (col n x) k := by
  obtain ⟨-, -, -, -, ⟨e0, e1⟩, -⟩ := idx ⟨n, h⟩
  rw [← entry_wd]
  blk_ext [iblk, e0, e1, col]
theorem blk5 : (iblk m c 5 ⟨n, h⟩ (ix2 r k) : EReal) = dy m c (tok (n / 4) r) k := by
  obtain ⟨-, -, -, -, -, ⟨e0, e1⟩⟩ := idx ⟨n, h⟩
  have ht := tok_val n h r
  unfold dy
  blk_ext [iblk, V, e0, e1, tok, ht]

end Blocks

/-! The spec at this device's arguments. -/

def sUp (r j : Fin 4096) : EReal := dup (hid m c) (nw m c) (wu m c) (wd m c) (dy m c) r j
def sHn (r : Fin 4096) (b : Fin 1024) : EReal := dhn (hid m c) (nw m c) (wu m c) (wd m c) (dy m c) r b

/-- The kernel's scale of a row of its block. -/
theorem ms_at (n : Nat) (h : n < cfg0.N) (r : Fin 512) (z : Fin 1) :
    (k0_pay2 (iblk m c 0 ⟨n, h⟩) (ix2 r z) : EReal) = ms (hid m c) (tok (n / 4) r) := by
  rw [pay2_at]
  simp only [blk0]
  rfl
theorem rs_at (n : Nat) (h : n < cfg0.N) (r : Fin 512) (z : Fin 1) :
    (k0_pay3 (iblk m c 0 ⟨n, h⟩) (ix2 r z) : EReal) = rs (hid m c) (tok (n / 4) r) := by
  rw [pay3_at, ms_at]
  rfl

/-- The gradient of the pre-activations a point computes, given the kept gradient of the output. -/
theorem up_at (n : Nat) (h : n < cfg0.N) (d : Vec Ideal S512x1024 .bf16) (hd : ∀ r k, (d (ix2 r k) : EReal) = dy m c (tok (n / 4) r) k)
    (r : Fin 512) (x : Fin 1024) :
    (k0_pay9 (iblk m c 2 ⟨n, h⟩) d (iblk m c 4 ⟨n, h⟩) (ix2 r x) : EReal) = sUp m c (tok (n / 4) r) (col n x) := by
  rw [pay9_at, blk2, sqrt_mul_self _ (le_max_right _ _)]
  simp only [hd, blk4]
  rfl

/-- The output's gradient as kept since the first point of the row block. -/
theorem kept (n : Nat) (h : n < cfg0.N) : ∀ r k, ((outsAt0 m c n h).2.2.2.2 (ix2 r k) : EReal) = dy m c (tok (n / 4) r) k := by
  induction n with
  | zero =>
    intro r k
    rw [outsAt0_A m c ⟨0, h⟩ (Nat.zero_mod 32) (Nat.zero_mod 4) (show ¬ 0 % 4 = 3 by decide)]
    dsimp only
    rw [dy_A, pay8_at]
    exact blk5 m c 0 h r k
  | succ n ih =>
    intro r k
    have hN : cfg0.N = 32 := N_0
    by_cases h1 : (n + 1) % 4 = 0
    · rw [outsAt0_D m c ⟨n + 1, h⟩ (by show ¬ (n + 1) % 32 = 0; omega) h1 (by show ¬ (n + 1) % 4 = 3; omega)]
      dsimp only
      rw [dy_D, pay8_at]
      exact blk5 m c (n + 1) h r k
    · rw [show (n + 1) / 4 = n / 4 by omega, ← ih (Nat.lt_of_succ_lt h) r k]
      by_cases h2 : (n + 1) % 4 = 3
      · rw [outsAt0_C m c ⟨n + 1, h⟩ (by show ¬ (n + 1) % 32 = 0; omega) h1 h2]
        dsimp only
        rw [dy_C]
        rfl
      · rw [outsAt0_B m c ⟨n + 1, h⟩ (by show ¬ (n + 1) % 32 = 0; omega) h1 h2]
        dsimp only
        rw [dy_B]
        rfl

/-- A point's gradient of the pre-activations, and what it adds to the accumulator. -/
def up (n : Nat) (h : n < cfg0.N) : Vec Ideal S512x1024 .bf16 := (outsAt0 m c n h).2.1
def add (n : Nat) (y : S512x1024.Idx) : EReal := ∑ x : Fin 1024, sUp m c (tok (n / 4) (y 0)) (col n x) * wu m c (y 1) (col n x)

theorem acc_add (n : Nat) (h : n < cfg0.N) (d : Vec Ideal S512x1024 .bf16) (hd : ∀ r k, (d (ix2 r k) : EReal) = dy m c (tok (n / 4) r) k)
    (a : Vec Ideal S512x1024 .f32) (r : Fin 512) (b : Fin 1024) :
    (k0_pay10 (iblk m c 2 ⟨n, h⟩) d (iblk m c 4 ⟨n, h⟩) a (iblk m c 3 ⟨n, h⟩) (ix2 r b) : EReal) = a (ix2 r b) + add m c n (ix2 r b) := by
  rw [pay10_at]
  simp only [up_at m c n h d hd, blk3]
  rfl

theorem kept_first (n : Nat) (h : n < cfg0.N) (r : Fin 512) (k : Fin 1024) :
    (k0_pay8 (iblk m c 5 ⟨n, h⟩) (ix2 r k) : EReal) = dy m c (tok (n / 4) r) k := by
  rw [pay8_at, blk5]

theorem kept_prev (n : Nat) (h : n + 1 < cfg0.N) (h1 : ¬ (n + 1) % 4 = 0) (r : Fin 512) (k : Fin 1024) :
    ((outsAt0 m c n (Nat.lt_of_succ_lt h)).2.2.2.2 (ix2 r k) : EReal) = dy m c (tok ((n + 1) / 4) r) k := by
  rw [kept, show (n + 1) / 4 = n / 4 by omega]

theorem up_eq (n : Nat) (h : n < cfg0.N) (r : Fin 512) (x : Fin 1024) :
    ((outsAt0 m c n h).2.1 (ix2 r x) : EReal) = sUp m c (tok (n / 4) r) (col n x) := by
  have hN : cfg0.N = 32 := N_0
  cases n with
  | zero =>
    rw [outsAt0_A m c ⟨0, h⟩ (Nat.zero_mod 32) (Nat.zero_mod 4) (show ¬ 0 % 4 = 3 by decide)]
    dsimp only
    rw [dup_A]
    exact up_at m c 0 h _ (kept_first m c 0 h) r x
  | succ n =>
    by_cases h1 : (n + 1) % 4 = 0
    · rw [outsAt0_D m c ⟨n + 1, h⟩ (by show ¬ (n + 1) % 32 = 0; omega) h1 (by show ¬ (n + 1) % 4 = 3; omega)]
      dsimp only
      rw [dup_D]
      exact up_at m c (n + 1) h _ (kept_first m c (n + 1) h) r x
    · by_cases h2 : (n + 1) % 4 = 3
      · rw [outsAt0_C m c ⟨n + 1, h⟩ (by show ¬ (n + 1) % 32 = 0; omega) h1 h2]
        dsimp only
        rw [dup_C]
        exact up_at m c (n + 1) h _ (kept_prev m c n h h1) r x
      · rw [outsAt0_B m c ⟨n + 1, h⟩ (by show ¬ (n + 1) % 32 = 0; omega) h1 h2]
        dsimp only
        rw [dup_B]
        exact up_at m c (n + 1) h _ (kept_prev m c n h h1) r x

/-- The accumulator after a point. -/
def acc (n : Nat) (h : n < cfg0.N) : S512x1024.Idx → EReal := (outsAt0 m c n h).2.2.2.1

theorem acc_first (n : Nat) (h : n < cfg0.N) (h1 : n % 4 = 0) : acc m c n h = fun y => 0 + add m c n y := by
  have hN : cfg0.N = 32 := N_0
  funext y
  obtain ⟨r, b, rfl⟩ : ∃ r b, y = ix2 r b := ⟨y 0, y 1, (ix2_eta y).symm⟩
  unfold acc
  by_cases h0 : n % 32 = 0
  · rw [outsAt0_A m c ⟨n, h⟩ h0 h1 (by show ¬ n % 4 = 3; omega)]
    dsimp only
    rw [acc_A]
    exact (acc_add m c n h _ (kept_first m c n h) _ r b).trans (congrArg (· + _) (pay7_at r b))
  · rw [outsAt0_D m c ⟨n, h⟩ h0 h1 (by show ¬ n % 4 = 3; omega)]
    dsimp only
    rw [acc_D]
    exact (acc_add m c n h _ (kept_first m c n h) _ r b).trans (congrArg (· + _) (pay7_at r b))

theorem acc_next (n : Nat) (h : n + 1 < cfg0.N) (h1 : ¬ (n + 1) % 4 = 0) :
    acc m c (n + 1) h = fun y => acc m c n (Nat.lt_of_succ_lt h) y + add m c (n + 1) y := by
  have hN : cfg0.N = 32 := N_0
  funext y
  obtain ⟨r, b, rfl⟩ : ∃ r b, y = ix2 r b := ⟨y 0, y 1, (ix2_eta y).symm⟩
  unfold acc
  by_cases h2 : (n + 1) % 4 = 3
  · rw [outsAt0_C m c ⟨n + 1, h⟩ (by show ¬ (n + 1) % 32 = 0; omega) h1 h2]
    dsimp only
    rw [acc_C]
    exact acc_add m c (n + 1) h _ (kept_prev m c n h h1) _ r b
  · rw [outsAt0_B m c ⟨n + 1, h⟩ (by show ¬ (n + 1) % 32 = 0; omega) h1 h2]
    dsimp only
    rw [acc_B]
    exact acc_add m c (n + 1) h _ (kept_prev m c n h h1) _ r b

/-- After the last point of a row block: the gradient of the normed rows. -/
theorem acc_last (n : Nat) (h : n < cfg0.N) (h2 : n % 4 = 3) (r : Fin 512) (b : Fin 1024) :
    ((outsAt0 m c n h).2.2.2.1 (ix2 r b) : EReal) = sHn m c (tok (n / 4) r) b := by
  obtain ⟨q, rfl⟩ : ∃ q, n = 4 * q + 3 := ⟨n / 4, by omega⟩
  have e := run_sum (acc m c) (fun n _ => add m c n) (acc_first m c) (acc_next m c) q h (ix2 r b)
  refine (show _ = _ from e).trans ?_
  unfold sHn dhn
  rw [← sum_rows]
  refine Finset.sum_congr (M := EReal) rfl fun t _ => ?_
  have ht := t.isLt
  have e1 : (4 * q + t.val) / 4 = q := by omega
  have e2 : (4 * q + 3) / 4 = q := by omega
  have e3 : ∀ x, col (4 * q + t.val) x = row t x := fun x => Fin.ext (by show 1024 * ((4 * q + t.val) % 4) + x.val = 1024 * t.val + x.val; omega)
  unfold add
  simp only [e1, e2, e3]
  rfl

theorem dh_eq (n : Nat) (h : n < cfg0.N) (h2 : n % 4 = 3) (r : Fin 512) (b : Fin 1024) :
    ((outsAt0 m c n h).1 (ix2 r b) : EReal) = dh (hid m c) (nw m c) (wu m c) (wd m c) (dy m c) (tok (n / 4) r) b := by
  have e : (outsAt0 m c n h).1 = k0_pay5 (iblk m c 0 ⟨n, h⟩) (iblk m c 1 ⟨n, h⟩) (outsAt0 m c n h).2.2.2.1 (iblk m c 5 ⟨n, h⟩) := by
    rw [outsAt0_C m c ⟨n, h⟩ (by show ¬ n % 32 = 0; omega) (by show ¬ n % 4 = 0; omega) h2]
    dsimp only
    rw [dh_C, acc_C]
  rw [e, pay5_at]
  simp only [acc_last m c n h h2, blk0, blk1, blk5, rs_at, ms_at]
  unfold dh coef
  exact (add_comm (_ : EReal) _).trans (by rw [← add_assoc, ← add_assoc]; rfl)

/-- What the last point of a row block adds to the gradient of the norm's weight. -/
def blkN (q : Nat) (b : Fin 1024) : EReal := ∑ r : Fin 512, hid m c (tok q r) b * rs (hid m c) (tok q r) * sHn m c (tok q r) b

theorem norm_at (n : Nat) (h : n < cfg0.N) (z : Fin 1) (b : Fin 1024) :
    ((outsAt0 m c n h).2.2.1 (ix2 z b) : EReal) = ∑ q ∈ Finset.range ((n + 1) / 4), blkN m c q b := by
  have hN : cfg0.N = 32 := N_0
  induction n with
  | zero =>
    rw [outsAt0_A m c ⟨0, h⟩ (Nat.zero_mod 32) (Nat.zero_mod 4) (show ¬ 0 % 4 = 3 by decide)]
    dsimp only
    rw [norm_A, pay6_at]
    rfl
  | succ n ih =>
    by_cases h2 : (n + 1) % 4 = 3
    · have e : (outsAt0 m c (n + 1) h).2.2.1 = k0_pay1 (k0_pay4 (iblk m c 0 ⟨n + 1, h⟩) (outsAt0 m c (n + 1) h).2.2.2.1)
          (outsAt0 m c n (Nat.lt_of_succ_lt h)).2.2.1 := by
        rw [outsAt0_C m c ⟨n + 1, h⟩ (by show ¬ (n + 1) % 32 = 0; omega) (by show ¬ (n + 1) % 4 = 0; omega) h2]
        dsimp only
        rw [norm_C, acc_C]
        rfl
      rw [e, pay1_at, pay4_at, ih, show (n + 1 + 1) / 4 = (n + 1) / 4 + 1 by omega, Finset.sum_range_succ]
      simp only [acc_last m c (n + 1) h h2, blk0, rs_at]
      rfl
    · rw [show (n + 1 + 1) / 4 = (n + 1) / 4 by omega, ← ih (Nat.lt_of_succ_lt h)]
      by_cases h1 : (n + 1) % 4 = 0
      · rw [outsAt0_D m c ⟨n + 1, h⟩ (by show ¬ (n + 1) % 32 = 0; omega) h1 h2]
        dsimp only
        rw [norm_D]
        rfl
      · rw [outsAt0_B m c ⟨n + 1, h⟩ (by show ¬ (n + 1) % 32 = 0; omega) h1 h2]
        dsimp only
        rw [norm_B]
        rfl

theorem tok_self (a : Fin 4096) (n : Nat) (hn : n / 4 = a.val / 512) : tok (n / 4) ⟨a.val % 512, by omega⟩ = a :=
  Fin.ext (by show (512 * (n / 4) + a.val % 512) % 4096 = a.val; omega)

theorem G6_at (a : Fin 4096) (b : Fin 1024) :
    (Value.G6 m c (ix2 a b) : EReal) = dh (hid m c) (nw m c) (wu m c) (wd m c) (dy m c) a b := by
  have ha := a.isLt
  have hb := b.isLt
  have hN : cfg0.N = 32 := N_0
  have hp : Value.pt6Of (ix2 a b) = 4 * (a.val / 512) + 3 := by
    show 4 * (1 * (a.val / 512 - 0) + 1 * (b.val / 1024 - 0)) + 3 = _
    omega
  have hl : Value.loc6Of (ix2 a b) = ix2 ⟨a.val % 512, by omega⟩ b := by
    funext i
    match i with
    | 0 => rfl
    | 1 => exact Fin.ext (show b.val % 1024 = b.val by omega)
  unfold Value.G6
  have hlt : Value.pt6Of (ix2 a b) < cfg0.N := by omega
  rw [dif_pos hlt, ← Value.outsAt0_sweep m c _ hlt]
  simp only [hp, hl]
  rw [dh_eq m c (4 * (a.val / 512) + 3) (by omega) (by omega), tok_self a _ (by omega)]

theorem G7_at (a j : Fin 4096) : (Value.G7 m c (ix2 a j) : EReal) = sUp m c a j := by
  have ha := a.isLt
  have hj := j.isLt
  have hN : cfg0.N = 32 := N_0
  have hp : Value.pt7Of (ix2 a j) = 4 * (a.val / 512) + j.val / 1024 := by
    show 4 * (a.val / 512 - 0) + 1 * (j.val / 1024 - 0) = _
    omega
  have hl : Value.loc7Of (ix2 a j) = ix2 ⟨a.val % 512, by omega⟩ ⟨j.val % 1024, by omega⟩ := by
    funext i
    match i with
    | 0 => rfl
    | 1 => rfl
  unfold Value.G7
  have hlt : Value.pt7Of (ix2 a j) < cfg0.N := by omega
  rw [dif_pos hlt, ← Value.outsAt0_sweep m c _ hlt]
  simp only [hp, hl]
  rw [up_eq m c (4 * (a.val / 512) + j.val / 1024) (by omega), tok_self a _ (by omega)]
  exact congrArg (sUp m c a) (Fin.ext (by show 1024 * ((4 * (a.val / 512) + j.val / 1024) % 4) + j.val % 1024 = j.val; omega))

theorem G8_at (z : Fin 1) (b : Fin 1024) : (Value.G8 m c (ix2 z b) : EReal) = dnorm (hid m c) (nw m c) (wu m c) (wd m c) (dy m c) b := by
  have hN : cfg0.N = 32 := N_0
  rw [Value.G8_last, ← Value.outsAt0_sweep m c _ _]
  refine (norm_at m c 31 (by omega) z b).trans ?_
  exact sum_tok fun r => hid m c r b * rs (hid m c) r * sHn m c r b

end Cert.Kernel5Ideal.Grad

namespace Cert.Reference5Ideal.Grad

open Cert.Reference5Ideal Cert.Reference5Ideal.Gen
open Idealize.ShloMosaic Idealize.ShloMosaic.TcCoe

/-! The arrays the reference computes, and each at an index. -/

variable (h : FVec Ideal S4096x1024 .f32) (nw : FVec Ideal S1024 .f32) (wu : FVec Ideal S1024x4096 .f32)
  (wd dy : FVec Ideal S4096x1024 .f32)

def eh (r : Fin 4096) (k : Fin 1024) : EReal := h (ix2 r k)
def en (k : Fin 1024) : EReal := nw (ix1 k)
def eu (k : Fin 1024) (j : Fin 4096) : EReal := wu (ix2 k j)

def ms : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rows : FVec Ideal S4096x1024 .f32 := mulf h (broadcastInDim S4096x1024 ![0, 1] bcast_S4096x1_S4096x1024_0_1 (Host.rsqrt (ms h)))
def weights : FVec Ideal S4096x1024 .f32 := broadcastInDim S4096x1024 ![0, 1] bcast_S1x1024_S4096x1024_0_1 (broadcastInDim S1x1024 ![1] bcast_S1024_S1x1024_1 nw)
def pre : FVec Ideal S4096x4096 .f32 :=
  addf (Host.dotGeneral dot_S4096x1024_S1024x4096_S4096x4096_1_0_0_1_n_n none (mulf (rows h) (weights nw)) wu) (broadcastInDim S4096x4096 ![] bcast_S_S4096x4096 (constant S_ .f32 0x00000000#32))
def dup : FVec Ideal S4096x4096 .f32 :=
  select (cmpf .ogt (pre h nw wu) (broadcastInDim S4096x4096 ![] bcast_S_S4096x4096 (constant S_ .f32 0x00000000#32))) (mulf (Host.dotGeneral dot_S4096x1024_S4096x1024_S4096x4096_1_1_0_0_n_n none (shapeCast _ dy shapeCasts_S4096x1024_S4096x1024) wd) (mulf (broadcastInDim S4096x4096 ![] bcast_S_S4096x4096 (constant S_ .f32 0x40000000#32)) (maximumf (pre h nw wu) (broadcastInDim S4096x4096 ![] bcast_S_S4096x4096 (constant S_ .f32 0x00000000#32))))) (broadcastInDim S4096x4096 ![] bcast_S_S4096x4096 (constant S_ .f32 0x00000000#32))
def dhn : FVec Ideal S4096x1024 .f32 := Host.dotGeneral dot_S4096x4096_S1024x4096_S4096x1024_1_1_0_0_n_n none (dup h nw wu wd dy) wu
def coef : FVec Ideal S4096x1024 .f32 :=
  broadcastInDim S4096x1024 ![0] bcast_S4096_S4096x1024_0 (Host.reduceAdd (Host.divf (mulf (shapeCast _ (Host.reduceAdd (mulf h (mulf (dhn h nw wu wd dy) (weights nw))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms h)) (ms h)))) (broadcastInDim S4096x1 ![] bcast_S_S4096x1 (constant S_ .f32 0x44800000#32))) (constant S_ .f32 0x00000000#32) reducesTo_S4096x1_S4096_d1 h_S_)
def dnorm : FVec Ideal S1x1024 .f32 :=
  shapeCast _ (Host.reduceAdd (shapeCast S1x1024 (Host.reduceAdd (mulf (rows h) (dhn h nw wu wd dy)) (constant S_ .f32 0x00000000#32) reducesTo_S4096x1024_S1024_d0 h_S_) shapeCasts_S1024_S1x1024) (constant S_ .f32 0x00000000#32) reducesTo_S1x1024_S1024_d0 h_S_) shapeCasts_S1024_S1x1024
def dh : FVec Ideal S4096x1024 .f32 :=
  addf (addf (addf dy (mulf (mulf (dhn h nw wu wd dy) (weights nw)) (broadcastInDim S4096x1024 ![0, 1] bcast_S4096x1_S4096x1024_0_1 (Host.rsqrt (ms h))))) (mulf h (coef h nw wu wd dy))) (mulf (coef h nw wu wd dy) h)

theorem ms_at (r : Fin 4096) (z : Fin 1) : (ms h (ix2 r z) : EReal) = Mlp.ms (eh h) r := by
  pointwise [ms]
  rw [Mlp.div_1024]
  rfl
theorem rows_at (r : Fin 4096) (k : Fin 1024) : (rows h (ix2 r k) : EReal) = eh h r k * Mlp.rs (eh h) r := by
  pointwise [rows]
  rw [ms_at]
  rfl
theorem weights_at (r : Fin 4096) (k : Fin 1024) : (weights nw (ix2 r k) : EReal) = en nw k := by
  pointwise [weights]
  rfl
theorem pre_at (r j : Fin 4096) : (pre h nw wu (ix2 r j) : EReal) = Mlp.pre (eh h) (en nw) (eu wu) r j := by
  pointwise [pre]
  simp only [rows_at, weights_at]
  rfl
theorem dup_at (r j : Fin 4096) : (dup h nw wu wd dy (ix2 r j) : EReal) = Mlp.dup (eh h) (en nw) (eu wu) (eh wd) (eh dy) r j := by
  pointwise [dup]
  simp only [pre_at]
  unfold Mlp.dup
  split
  · rfl
  · next hp => rw [max_eq_right (not_lt.mp hp), mul_zero, mul_zero]
theorem dhn_at (r : Fin 4096) (b : Fin 1024) : (dhn h nw wu wd dy (ix2 r b) : EReal) = Mlp.dhn (eh h) (en nw) (eu wu) (eh wd) (eh dy) r b := by
  pointwise [dhn]
  simp only [dup_at]
  rfl
theorem coef_at (r : Fin 4096) (b : Fin 1024) : (coef h nw wu wd dy (ix2 r b) : EReal) = Mlp.coef (eh h) (en nw) (eu wu) (eh wd) (eh dy) r := by
  pointwise [coef]
  simp only [Mlp.div_1024, ms_at, weights_at, dhn_at]
  exact Fin.sum_univ_one (M := EReal) _
theorem dnorm_at (z : Fin 1) (b : Fin 1024) : (dnorm h nw wu wd dy (ix2 z b) : EReal) = Mlp.dnorm (eh h) (en nw) (eu wu) (eh wd) (eh dy) b := by
  pointwise [dnorm]
  simp only [rows_at, dhn_at]
  exact Fin.sum_univ_one (M := EReal) _
theorem dh_at (r : Fin 4096) (b : Fin 1024) : (dh h nw wu wd dy (ix2 r b) : EReal) = Mlp.dh (eh h) (en nw) (eu wu) (eh wd) (eh dy) r b := by
  pointwise [dh]
  simp only [ms_at, weights_at, dhn_at, coef_at]
  rfl

end Cert.Reference5Ideal.Grad

namespace Cert.Mlp

open Idealize.ShloMosaic Idealize.ShloMosaic.TcCoe Idealize.SL.Sem

theorem grads : Cert.algebraic_Kernel5Ideal_Reference5Ideal := by
  intro m g m' g' _ hag
  refine ⟨_, _, _, Cert.Kernel5Ideal.Value.run m g, ?_⟩
  refine (θ_run Cert.Reference5Ideal.defs _ _).mono (fun _ h c => ?_) (Cert.Reference5Ideal.Value.run (F := Ideal) m' g')
  obtain ⟨a0, a1, a2, a3, a4⟩ := hag c
  have e0 : Cert.Reference5Ideal.Grad.eh (m' ((c.tc : Thread Cert.Reference5Ideal.nD Cert.Reference5Ideal.τ).loc Cert.Reference5Ideal.main_arg0)) = Cert.Kernel5Ideal.Grad.hid m c := by rw [a0]; rfl
  have e1 : Cert.Reference5Ideal.Grad.en (m' ((c.tc : Thread Cert.Reference5Ideal.nD Cert.Reference5Ideal.τ).loc Cert.Reference5Ideal.main_arg1)) = Cert.Kernel5Ideal.Grad.nw m c := by rw [a1]; rfl
  have e2 : Cert.Reference5Ideal.Grad.eu (m' ((c.tc : Thread Cert.Reference5Ideal.nD Cert.Reference5Ideal.τ).loc Cert.Reference5Ideal.main_arg2)) = Cert.Kernel5Ideal.Grad.wu m c := by rw [a2]; rfl
  have e3 : Cert.Reference5Ideal.Grad.eh (m' ((c.tc : Thread Cert.Reference5Ideal.nD Cert.Reference5Ideal.τ).loc Cert.Reference5Ideal.main_arg3)) = Cert.Kernel5Ideal.Grad.wd m c := by rw [a3]; rfl
  have e4 : Cert.Reference5Ideal.Grad.eh (m' ((c.tc : Thread Cert.Reference5Ideal.nD Cert.Reference5Ideal.τ).loc Cert.Reference5Ideal.main_arg4)) = Cert.Kernel5Ideal.Grad.dy m c := by rw [a4]; rfl
  refine ⟨(h c).1.trans ?_, (h c).2.1.trans ?_, (h c).2.2.1.trans ?_, (h c).2.2.2⟩
  · funext i
    obtain ⟨a, b, rfl⟩ : ∃ a b, i = ix2 a b := ⟨i 0, i 1, (ix2_eta i).symm⟩
    refine (Cert.Reference5Ideal.Grad.dh_at _ _ _ _ _ a b).trans (Eq.trans ?_ (Cert.Kernel5Ideal.Grad.G6_at m c a b).symm)
    rw [e0, e1, e2, e3, e4]
  · funext i
    obtain ⟨a, b, rfl⟩ : ∃ a b, i = ix2 a b := ⟨i 0, i 1, (ix2_eta i).symm⟩
    refine (Cert.Reference5Ideal.Grad.dup_at _ _ _ _ _ a b).trans (Eq.trans ?_ (Cert.Kernel5Ideal.Grad.G7_at m c a b).symm)
    rw [e0, e1, e2, e3, e4]
    rfl
  · funext i
    obtain ⟨z, b, rfl⟩ : ∃ z b, i = ix2 z b := ⟨i 0, i 1, (ix2_eta i).symm⟩
    refine (Cert.Reference5Ideal.Grad.dnorm_at _ _ _ _ _ z b).trans (Eq.trans ?_ (Cert.Kernel5Ideal.Grad.G8_at m c z b).symm)
    rw [e0, e1, e2, e3, e4]

/-- The reference's run keeps its arguments; it declares no semaphore. -/
theorem frame : Cert.quiescent_Reference5Ideal := fun m g _ =>
  (θ_run Cert.Reference5Ideal.defs _ _).mono (fun r h => ⟨fun c => (h c).2.2.2, sem_eq_zero_of_no_sems (by decide) r.2⟩)
    (Cert.Reference5Ideal.Value.run (F := Ideal) m g)

end Cert.Mlp

end
-- ==== Proof.InProj.lean ====
/- The input projections' weight in the padded layout the projections are computed in, and their normed rows. -/
module

public import proofs.«01_k».proof.Proof.MlpBwd

@[expose] public section

noncomputable section

namespace Cert.Inp

open Idealize.ShloMosaic Cert.Mlp

/-- The projections' weight in the padded layout: columns 0 to 543, then columns 544 to 575 between 32 zeros and 32 zeros,
    then the rest, then 120 zeros. -/
def wide (w : Fin 1024 → Fin 2632 → EReal) (k : Fin 1024) (j : Fin 2816) : EReal :=
  if h : j.val < 544 then w k ⟨j.val, by omega⟩
  else if j.val - 544 < 32 then 0
  else if h : j.val - 544 - 32 < 32 then w k ⟨544 + (j.val - 544 - 32), by omega⟩
  else if j.val - 544 - 32 - 32 < 32 then 0
  else if h : j.val - 544 - 32 - 32 - 32 < 2056 then w k ⟨576 + (j.val - 544 - 32 - 32 - 32), by omega⟩
  else 0

/-- Column `j` of the stretch of the padded layout from column `o`. -/
def wcol (o : Nat) {n : Nat} (j : Fin n) : Fin 2816 := ⟨(o + j.val) % 2816, by omega⟩

section Spec

variable (h : Fin 4096 → Fin 1024 → EReal) (nw : Fin 1024 → EReal) (w : Fin 1024 → Fin 2632 → EReal)

/-- The normed rows. -/
def xn (r : Fin 4096) (k : Fin 1024) : EReal := h r k * rs h r * nw k
/-- The projections, in the padded layout. -/
def proj (r : Fin 4096) (j : Fin 2816) : EReal := ∑ k : Fin 1024, xn h nw r k * wide w k j

end Spec

section Pieces

/-! The six pieces the gradients of the projections come in, side by side. -/

variable {R : Nat} (x0 : Fin R → Fin 640 → EReal) (x1 x2 x3 x4 : Fin R → Fin 512 → EReal) (x5 : Fin R → Fin 128 → EReal)
  (r : Fin R) (j : Fin 2816)

def cat : EReal :=
  if h : j.val < 640 then x0 r ⟨j.val, by omega⟩
  else if h : j.val - 640 < 512 then x1 r ⟨j.val - 640, by omega⟩
  else if h : j.val - 640 - 512 < 512 then x2 r ⟨j.val - 640 - 512, by omega⟩
  else if h : j.val - 640 - 512 - 512 < 512 then x3 r ⟨j.val - 640 - 512 - 512, by omega⟩
  else if h : j.val - 640 - 512 - 512 - 512 < 512 then x4 r ⟨j.val - 640 - 512 - 512 - 512, by omega⟩
  else x5 r ⟨j.val - 640 - 512 - 512 - 512 - 512, by omega⟩

theorem cat_0 (a : Fin 640) (h : j.val = 0 + a.val) : cat x0 x1 x2 x3 x4 x5 r j = x0 r a := by
  unfold cat
  split_ifs
  all_goals first
    | (exfalso; omega)
    | exact congrArg (x0 r) (Fin.ext (by dsimp only; omega))
theorem cat_1 (a : Fin 512) (h : j.val = 640 + a.val) : cat x0 x1 x2 x3 x4 x5 r j = x1 r a := by
  unfold cat
  split_ifs
  all_goals first
    | (exfalso; omega)
    | exact congrArg (x1 r) (Fin.ext (by dsimp only; omega))
theorem cat_2 (a : Fin 512) (h : j.val = 1152 + a.val) : cat x0 x1 x2 x3 x4 x5 r j = x2 r a := by
  unfold cat
  split_ifs
  all_goals first
    | (exfalso; omega)
    | exact congrArg (x2 r) (Fin.ext (by dsimp only; omega))
theorem cat_3 (a : Fin 512) (h : j.val = 1664 + a.val) : cat x0 x1 x2 x3 x4 x5 r j = x3 r a := by
  unfold cat
  split_ifs
  all_goals first
    | (exfalso; omega)
    | exact congrArg (x3 r) (Fin.ext (by dsimp only; omega))
theorem cat_4 (a : Fin 512) (h : j.val = 2176 + a.val) : cat x0 x1 x2 x3 x4 x5 r j = x4 r a := by
  unfold cat
  split_ifs
  all_goals first
    | (exfalso; omega)
    | exact congrArg (x4 r) (Fin.ext (by dsimp only; omega))
theorem cat_5 (a : Fin 128) (h : j.val = 2688 + a.val) : cat x0 x1 x2 x3 x4 x5 r j = x5 r a := by
  unfold cat
  split_ifs
  all_goals first
    | (exfalso; omega)
    | exact congrArg (x5 r) (Fin.ext (by dsimp only; omega))

end Pieces

end Cert.Inp

end
-- ==== Proof.InFwd.lean ====
/- The input projections' forward call: what the body leaves at a point (the normed rows, and their products with four
   stretches of the padded weight), and the five results at an index, which are the reference's. -/
module

public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal.Run
public import proofs.«01_k».proof.Proof.InProj
public import proofs.«01_k».proof.Defs
public import Idealize.ShloMosaic.Lib.StableHlo.ReadAt

@[expose] public section

noncomputable section

namespace Cert.Kernel7Ideal.Inp

open Cert.Kernel7Ideal Cert.Kernel7Ideal.Gen Cert.Mlp
open Idealize.ShloMosaic Idealize.ShloMosaic.TcCoe Idealize.SL.Sem

section Payloads

variable (h : Vec Ideal S512x1024 .f32) (nw : Vec Ideal S1x1024 .f32) (xn : Vec Ideal S512x1024 .bf16)  (r : Fin 512)

theorem pay2_at (k : Fin 1024) : k0_pay2 h nw (ix2 r k)
    = h (ix2 r k) * Ideal.rsqrt ((∑ x : Fin 1024, h (ix2 r x) * h (ix2 r x)) * inv + Ideal.ofBits .f32 0x358637BD#32) * nw (ix2 0 k) := by
  pointwise [k0_pay2]
  rw [Mlp.div_1024]
theorem pay3_at (w : Vec Ideal S640x1024 .bf16) (j : Fin 640) : k0_pay3 h nw w (ix2 r j) = ∑ k : Fin 1024, k0_pay2 h nw (ix2 r k) * w (ix2 j k) := by
  pointwise [k0_pay3]
theorem pay4_at (w : Vec Ideal S1536x1024 .bf16) (j : Fin 1536) : k0_pay4 h nw w (ix2 r j) = ∑ k : Fin 1024, k0_pay2 h nw (ix2 r k) * w (ix2 j k) := by
  pointwise [k0_pay4]
theorem pay5_at (w : Vec Ideal S512x1024 .bf16) (j : Fin 512) : k0_pay5 h nw w (ix2 r j) = ∑ k : Fin 1024, k0_pay2 h nw (ix2 r k) * w (ix2 j k) := by
  pointwise [k0_pay5]
theorem pay1_at (w : Vec Ideal S128x1024 .bf16) (j : Fin 128) : k0_pay1 xn w (ix2 r j) = ∑ k : Fin 1024, xn (ix2 r k) * w (ix2 j k) := by
  pointwise [k0_pay1]

end Payloads

section Stores

variable (x0 : Vec Ideal S512x1024 .f32) (x1 : Vec Ideal S1x1024 .f32) (x2 : Vec Ideal S2816x1024 .bf16)

theorem ld0 : View.ld x0 r0_0 = x0 := View.ld_unit_lit _ _ (by decide)
theorem ld1 : View.ld x1 r0_1 = x1 := View.ld_unit_lit _ _ (by decide)

theorem stretch4 (j : Fin 640) (k : Fin 1024) : View.ld x2 r0_2 (ix2 j k) = x2 (ix2 (Cert.Inp.wcol 0 j) k) :=
  View.ld_unit_apply_of x2 _ _ _ _ (ix2 (Cert.Inp.wcol 0 j) k) fun i => by
    match i with
    | 0 => show (0 + j.val) % 2816 = 0 + j.val; omega
    | 1 => show k.val = 0 + k.val; omega
theorem stretch5 (j : Fin 1536) (k : Fin 1024) : View.ld x2 r0_4 (ix2 j k) = x2 (ix2 (Cert.Inp.wcol 640 j) k) :=
  View.ld_unit_apply_of x2 _ _ _ _ (ix2 (Cert.Inp.wcol 640 j) k) fun i => by
    match i with
    | 0 => show (640 + j.val) % 2816 = 640 + j.val; omega
    | 1 => show k.val = 0 + k.val; omega
theorem stretch6 (j : Fin 512) (k : Fin 1024) : View.ld x2 r0_6 (ix2 j k) = x2 (ix2 (Cert.Inp.wcol 2176 j) k) :=
  View.ld_unit_apply_of x2 _ _ _ _ (ix2 (Cert.Inp.wcol 2176 j) k) fun i => by
    match i with
    | 0 => show (2176 + j.val) % 2816 = 2176 + j.val; omega
    | 1 => show k.val = 0 + k.val; omega
theorem stretch7 (j : Fin 128) (k : Fin 1024) : View.ld x2 r0_8 (ix2 j k) = x2 (ix2 (Cert.Inp.wcol 2688 j) k) :=
  View.ld_unit_apply_of x2 _ _ _ _ (ix2 (Cert.Inp.wcol 2688 j) k) fun i => by
    match i with
    | 0 => show (2688 + j.val) % 2816 = 2688 + j.val; omega
    | 1 => show k.val = 0 + k.val; omega
theorem out3_eq : out0_3 x0 x1 x2 = k0_pay2 x0 x1 := by
  refine (View.canon_cons_unit_lit (S := S512x1024) inb_S512x1024_S512x1024_0_0 _ [] (by decide)).trans ?_
  rw [ld0, ld1]
theorem out4_eq : out0_4 x0 x1 x2 = k0_pay3 x0 x1 (View.ld x2 r0_2) := by
  refine (View.canon_cons_unit_lit (S := S512x640) inb_S512x640_S512x640_0_0 _ [] (by decide)).trans ?_
  rw [ld0, ld1]
theorem out5_eq : out0_5 x0 x1 x2 = k0_pay4 x0 x1 (View.ld x2 r0_4) := by
  refine (View.canon_cons_unit_lit (S := S512x1536) inb_S512x1536_S512x1536_0_0 _ [] (by decide)).trans ?_
  rw [ld0, ld1]
theorem out6_eq : out0_6 x0 x1 x2 = k0_pay5 x0 x1 (View.ld x2 r0_6) := by
  refine (View.canon_cons_unit_lit (S := S512x512) inb_S512x512_S512x512_0_0 _ [] (by decide)).trans ?_
  rw [ld0, ld1]
theorem out7_eq : out0_7 x0 x1 x2 = k0_pay1 (k0_pay2 x0 x1) (View.ld x2 r0_8) := by
  refine (View.canon_cons_unit_lit (S := S512x128) inb_S512x128_S512x128_0_0 _ [] (by decide)).trans ?_
  rw [ld0, ld1]

end Stores

variable (m : (ℓ : Loc nD τ sig) → Buf (Elt Ideal) ℓ) (c : Dev nD)

/-- The arguments' elements. -/
def hid (r : Fin 4096) (k : Fin 1024) : EReal := m ((c.tc : Thread nD τ).loc main_arg0) (ix2 r k)
def nw (k : Fin 1024) : EReal := m ((c.tc : Thread nD τ).loc main_arg1) (ix1 k)
def wi (k : Fin 1024) (j : Fin 2632) : EReal := m ((c.tc : Thread nD τ).loc main_arg2) (ix2 k j)

theorem entry_nw (z : Fin 1) (k : Fin 1024) : V m c main_v8 (ix2 z k) = nw m c k := by
  unfold nw
  unfold V
  simp only [hostOps0, List.flatten_cons, List.flatten_nil, List.append_nil, List.cons_append, List.nil_append]
  after_reads_at
theorem entry_w (j : Fin 2816) (k : Fin 1024) : V m c main_v9 (ix2 j k) = Cert.Inp.wide (wi m c) k j := by
  unfold V
  simp only [hostOps0, List.flatten_cons, List.flatten_nil, List.append_nil, List.cons_append, List.nil_append]
  after_reads_at
  unfold Cert.Inp.wide wi
  split_ifs
  all_goals first
    | (exfalso; omega)
    | after_reads_at
  all_goals rfl

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

section Blocks

variable (t : Fin cfg0.N) (r : Fin 512) (k : Fin 1024)

theorem tok_val : (512 * t.val + r.val) % 4096 = 512 * t.val + r.val := by
  have h : t.val < 8 := t.isLt
  omega

theorem blk0 : (iblk m c 0 t (ix2 r k) : EReal) = hid m c (tok t.val r) k := by
  obtain ⟨⟨e0, e1⟩, -⟩ := idx t
  have ht := tok_val t r
  unfold hid
  blk_ext [iblk, V, e0, e1, tok, ht]
theorem blk1 (z : Fin 1) : (iblk m c 1 t (ix2 z k) : EReal) = nw m c k := by
  obtain ⟨-, ⟨e0, e1⟩, -⟩ := idx t
  rw [← entry_nw m c z]
  blk_ext [iblk, e0, e1]
theorem blk2 (j : Fin 2816) : (iblk m c 2 t (ix2 j k) : EReal) = V m c main_v9 (ix2 j k) := by
  obtain ⟨-, -, ⟨e0, e1⟩, -⟩ := idx t
  blk_ext [iblk, e0, e1]

/-! The spec at this device's arguments. -/

def sXn (r : Fin 4096) (k : Fin 1024) : EReal := Cert.Inp.xn (hid m c) (nw m c) r k
def sProj (r : Fin 4096) (j : Fin 2816) : EReal := Cert.Inp.proj (hid m c) (nw m c) (wi m c) r j

theorem xn_at : (k0_pay2 (iblk m c 0 t) (iblk m c 1 t) (ix2 r k) : EReal) = sXn m c (tok t.val r) k := by
  rw [pay2_at]
  simp only [blk0, blk1]
  rfl

/-! What a point leaves in the five blocks. -/

theorem out3_at (j : Fin 1024) : (out0_3 (iblk m c 0 t) (iblk m c 1 t) (iblk m c 2 t) (ix2 r j) : EReal) = sXn m c (tok t.val r) j := by
  rw [out3_eq]
  exact xn_at m c t r j
theorem out4_at (j : Fin 640) : (out0_4 (iblk m c 0 t) (iblk m c 1 t) (iblk m c 2 t) (ix2 r j) : EReal) = sProj m c (tok t.val r) (Cert.Inp.wcol 0 j) := by
  rw [out4_eq, pay3_at]
  exact Finset.sum_congr rfl fun k _ => congrArg₂ (fun u v : EReal => u * v) (xn_at m c t r k)
    ((stretch4 _ j k).trans ((blk2 m c t k _).trans (entry_w m c _ k)))
theorem out5_at (j : Fin 1536) : (out0_5 (iblk m c 0 t) (iblk m c 1 t) (iblk m c 2 t) (ix2 r j) : EReal) = sProj m c (tok t.val r) (Cert.Inp.wcol 640 j) := by
  rw [out5_eq, pay4_at]
  exact Finset.sum_congr rfl fun k _ => congrArg₂ (fun u v : EReal => u * v) (xn_at m c t r k)
    ((stretch5 _ j k).trans ((blk2 m c t k _).trans (entry_w m c _ k)))
theorem out6_at (j : Fin 512) : (out0_6 (iblk m c 0 t) (iblk m c 1 t) (iblk m c 2 t) (ix2 r j) : EReal) = sProj m c (tok t.val r) (Cert.Inp.wcol 2176 j) := by
  rw [out6_eq, pay5_at]
  exact Finset.sum_congr rfl fun k _ => congrArg₂ (fun u v : EReal => u * v) (xn_at m c t r k)
    ((stretch6 _ j k).trans ((blk2 m c t k _).trans (entry_w m c _ k)))
theorem out7_at (j : Fin 128) : (out0_7 (iblk m c 0 t) (iblk m c 1 t) (iblk m c 2 t) (ix2 r j) : EReal) = sProj m c (tok t.val r) (Cert.Inp.wcol 2688 j) := by
  rw [out7_eq, pay1_at]
  exact Finset.sum_congr rfl fun k _ => congrArg₂ (fun u v : EReal => u * v) (xn_at m c t r k)
    ((stretch7 _ j k).trans ((blk2 m c t k _).trans (entry_w m c _ k)))
theorem emb3 (j : Fin 1024) : ((cfg0.win 3).blk t).view.emb (ix2 r j) = ix2 (tok t.val r) j := by
  obtain ⟨-, -, -, ⟨e0, e1⟩, -⟩ := idx t
  have ht := tok_val t r
  blk_ext [e0, e1, tok, ht]
theorem emb4 (j : Fin 640) : ((cfg0.win 4).blk t).view.emb (ix2 r j) = ix2 (tok t.val r) j := by
  obtain ⟨-, -, -, -, ⟨e0, e1⟩, -⟩ := idx t
  have ht := tok_val t r
  blk_ext [e0, e1, tok, ht]
theorem emb5 (j : Fin 1536) : ((cfg0.win 5).blk t).view.emb (ix2 r j) = ix2 (tok t.val r) j := by
  obtain ⟨-, -, -, -, -, ⟨e0, e1⟩, -⟩ := idx t
  have ht := tok_val t r
  blk_ext [e0, e1, tok, ht]
theorem emb6 (j : Fin 512) : ((cfg0.win 6).blk t).view.emb (ix2 r j) = ix2 (tok t.val r) j := by
  obtain ⟨-, -, -, -, -, -, ⟨e0, e1⟩, -⟩ := idx t
  have ht := tok_val t r
  blk_ext [e0, e1, tok, ht]
theorem emb7 (j : Fin 128) : ((cfg0.win 7).blk t).view.emb (ix2 r j) = ix2 (tok t.val r) j := by
  obtain ⟨-, -, -, -, -, -, -, ⟨e0, e1⟩⟩ := idx t
  have ht := tok_val t r
  blk_ext [e0, e1, tok, ht]

end Blocks

/-! The five result arrays. -/

def arr3 : FVec Ideal S4096x1024 .bf16 := fun i => sXn m c (i 0) (i 1)
def arr4 : FVec Ideal S4096x640 .f32 := fun i => sProj m c (i 0) (Cert.Inp.wcol 0 (i 1))
def arr5 : FVec Ideal S4096x1536 .f32 := fun i => sProj m c (i 0) (Cert.Inp.wcol 640 (i 1))
def arr6 : FVec Ideal S4096x512 .f32 := fun i => sProj m c (i 0) (Cert.Inp.wcol 2176 (i 1))
def arr7 : FVec Ideal S4096x128 .f32 := fun i => sProj m c (i 0) (Cert.Inp.wcol 2688 (i 1))

theorem final3 : (dats m 0 c).arrAt 3 cfg0.N = arr3 m c := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, (ix2_eta y).symm⟩
  rw [emb3]
  exact out3_at m c t r j
theorem final4 : (dats m 0 c).arrAt 4 cfg0.N = arr4 m c := by
  refine (dats m 0 c).arrAt_eq_of_covers 4 _ (by decide +kernel) fun t hf y => ?_
  blk_simp
  rw [after0_4]
  obtain ⟨r, j, rfl⟩ : ∃ (r : Fin 512) (j : Fin 640), y = ix2 r j := ⟨y 0, y 1, (ix2_eta y).symm⟩
  rw [emb4]
  exact out4_at m c t r j
theorem final5 : (dats m 0 c).arrAt 5 cfg0.N = arr5 m c := by
  refine (dats m 0 c).arrAt_eq_of_covers 5 _ (by decide +kernel) fun t hf y => ?_
  blk_simp
  rw [after0_5]
  obtain ⟨r, j, rfl⟩ : ∃ (r : Fin 512) (j : Fin 1536), y = ix2 r j := ⟨y 0, y 1, (ix2_eta y).symm⟩
  rw [emb5]
  exact out5_at m c t r j
theorem final6 : (dats m 0 c).arrAt 6 cfg0.N = arr6 m c := by
  refine (dats m 0 c).arrAt_eq_of_covers 6 _ (by decide +kernel) fun t hf y => ?_
  blk_simp
  rw [after0_6]
  obtain ⟨r, j, rfl⟩ : ∃ (r : Fin 512) (j : Fin 512), y = ix2 r j := ⟨y 0, y 1, (ix2_eta y).symm⟩
  rw [emb6]
  exact out6_at m c t r j
theorem final7 : (dats m 0 c).arrAt 7 cfg0.N = arr7 m c := by
  refine (dats m 0 c).arrAt_eq_of_covers 7 _ (by decide +kernel) fun t hf y => ?_
  blk_simp
  rw [after0_7]
  obtain ⟨r, j, rfl⟩ : ∃ (r : Fin 512) (j : Fin 128), y = ix2 r j := ⟨y 0, y 1, (ix2_eta y).symm⟩
  rw [emb7]
  exact out7_at m c t r j

/-- A run leaves the five arrays, and keeps the arguments. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v10_0) = arr3 m c
      ∧ r.2.mem ((c.tc : Thread nD τ).loc main_v10_1) = arr4 m c
      ∧ r.2.mem ((c.tc : Thread nD τ).loc main_v10_2) = arr5 m c
      ∧ r.2.mem ((c.tc : Thread nD τ).loc main_v10_3) = arr6 m c
      ∧ r.2.mem ((c.tc : Thread nD τ).loc main_v10_4) = arr7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (final3 m c), (h c).2.1.trans (final4 m c), (h c).2.2.1.trans (final5 m c), (h c).2.2.2.1.trans (final6 m c),
      (h c).2.2.2.2.1.trans (final7 m c), (h c).2.2.2.2.2⟩) (Value.run_blocks m g)

end Cert.Kernel7Ideal.Inp

namespace Cert.Reference7Ideal.Inp

open Cert.Reference7Ideal Cert.Reference7Ideal.Gen
open Idealize.ShloMosaic Idealize.ShloMosaic.TcCoe

variable (h : FVec Ideal S4096x1024 .f32) (nw : FVec Ideal S1024 .f32) (w : FVec Ideal S1024x2632 .f32)

def wide {F : FTy → Type} [FloatOps F] (w : FVec F S1024x2632 .f32) : FVec F S1024x2816 .f32 :=
  concatenate S1024x2816 1 [⟨S1024x544, ((extractStridedSlice S1024x544 ![0, 0] w slices_S1024x2632_S1024x544_0_0) : (⟨S1024x544, .f32⟩ : BufTy).Contents (Elt F))⟩, ⟨S1024x32, ((broadcastInDim S1024x32 ![] bcast_S_S1024x32 (constant S_ .f32 0x00000000#32)) : (⟨S1024x32, .f32⟩ : BufTy).Contents (Elt F))⟩, ⟨S1024x32, ((extractStridedSlice S1024x32 ![0, 544] w slices_S1024x2632_S1024x32_0_544) : (⟨S1024x32, .f32⟩ : BufTy).Contents (Elt F))⟩, ⟨S1024x32, ((broadcastInDim S1024x32 ![] bcast_S_S1024x32 (constant S_ .f32 0x00000000#32)) : (⟨S1024x32, .f32⟩ : BufTy).Contents (Elt F))⟩, ⟨S1024x2056, ((extractStridedSlice S1024x2056 ![0, 576] w slices_S1024x2632_S1024x2056_0_576) : (⟨S1024x2056, .f32⟩ : BufTy).Contents (Elt F))⟩, ⟨S1024x120, ((broadcastInDim S1024x120 ![] bcast_S_S1024x120 (constant S_ .f32 0x00000000#32)) : (⟨S1024x120, .f32⟩ : BufTy).Contents (Elt F))⟩] concatenates_S1024x544_S1024x32_S1024x32_S1024x32_S1024x2056_S1024x120_S1024x2816_d1

theorem wide_at (j : Fin 2816) (k : Fin 1024) : (wide (F := Ideal) w (ix2 k j) : EReal) = Cert.Inp.wide (fun k j => w (ix2 k j)) k j := by
  pointwise [wide]
  unfold Cert.Inp.wide
  split_ifs
  all_goals first
    | (exfalso; omega)
    | rfl

def ms : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def xn : FVec Ideal S4096x1024 .f32 :=
  mulf (mulf h (broadcastInDim S4096x1024 ![0, 1] bcast_S4096x1_S4096x1024_0_1 (Host.rsqrt (ms h)))) (broadcastInDim S4096x1024 ![0, 1] bcast_S1x1024_S4096x1024_0_1 (broadcastInDim S1x1024 ![1] bcast_S1024_S1x1024_1 nw))
def proj : FVec Ideal S4096x2816 .f32 :=
  Host.dotGeneral dot_S4096x1024_S1024x2816_S4096x2816_1_0_0_1_n_n none (xn h nw) (wide (F := Ideal) w)

def eh (r : Fin 4096) (k : Fin 1024) : EReal := h (ix2 r k)
def en (k : Fin 1024) : EReal := nw (ix1 k)
def ew (k : Fin 1024) (j : Fin 2632) : EReal := w (ix2 k j)

theorem ms_at (r : Fin 4096) (z : Fin 1) : (ms h (ix2 r z) : EReal) = Mlp.ms (eh h) r := by
  pointwise [ms]
  rw [Mlp.div_1024]
  rfl
theorem xn_at (r : Fin 4096) (k : Fin 1024) : (xn h nw (ix2 r k) : EReal) = Cert.Inp.xn (eh h) (en nw) r k := by
  pointwise [xn]
  rw [ms_at]
  rfl
theorem proj_at (r : Fin 4096) (j : Fin 2816) : (proj h nw w (ix2 r j) : EReal) = Cert.Inp.proj (eh h) (en nw) (ew w) r j := by
  pointwise [proj]
  simp only [xn_at, wide_at]
  rfl

/-! The stretches of the projections. -/

theorem part4_at (r : Fin 4096) (j : Fin 640) :
    (extractStridedSlice S4096x640 ![0, 0] (proj h nw w) slices_S4096x2816_S4096x640_0_0 (ix2 r j) : EReal) = Cert.Inp.proj (eh h) (en nw) (ew w) r (Cert.Inp.wcol 0 j) := by
  pointwise
  refine (proj_at h nw w r _).trans (congrArg (Cert.Inp.proj (eh h) (en nw) (ew w) r) (Fin.ext ?_))
  show _ = (0 + j.val) % 2816
  dsimp only
  omega
theorem part5_at (r : Fin 4096) (j : Fin 1536) :
    (extractStridedSlice S4096x1536 ![0, 640] (proj h nw w) slices_S4096x2816_S4096x1536_0_640 (ix2 r j) : EReal) = Cert.Inp.proj (eh h) (en nw) (ew w) r (Cert.Inp.wcol 640 j) := by
  pointwise
  refine (proj_at h nw w r _).trans (congrArg (Cert.Inp.proj (eh h) (en nw) (ew w) r) (Fin.ext ?_))
  show _ = (640 + j.val) % 2816
  dsimp only
  omega
theorem part6_at (r : Fin 4096) (j : Fin 512) :
    (extractStridedSlice S4096x512 ![0, 2176] (proj h nw w) slices_S4096x2816_S4096x512_0_2176 (ix2 r j) : EReal) = Cert.Inp.proj (eh h) (en nw) (ew w) r (Cert.Inp.wcol 2176 j) := by
  pointwise
  refine (proj_at h nw w r _).trans (congrArg (Cert.Inp.proj (eh h) (en nw) (ew w) r) (Fin.ext ?_))
  show _ = (2176 + j.val) % 2816
  dsimp only
  omega
theorem part7_at (r : Fin 4096) (j : Fin 128) :
    (extractStridedSlice S4096x128 ![0, 2688] (proj h nw w) slices_S4096x2816_S4096x128_0_2688 (ix2 r j) : EReal) = Cert.Inp.proj (eh h) (en nw) (ew w) r (Cert.Inp.wcol 2688 j) := by
  pointwise
  refine (proj_at h nw w r _).trans (congrArg (Cert.Inp.proj (eh h) (en nw) (ew w) r) (Fin.ext ?_))
  show _ = (2688 + j.val) % 2816
  dsimp only
  omega

end Cert.Reference7Ideal.Inp

namespace Cert.Inp

open Idealize.ShloMosaic Idealize.ShloMosaic.TcCoe Idealize.SL.Sem

theorem values : Cert.algebraic_Kernel7Ideal_Reference7Ideal := by
  intro m g m' g' _ hag
  refine ⟨_, _, _, _, _, Cert.Kernel7Ideal.Inp.run m g, ?_⟩
  refine (θ_run Cert.Reference7Ideal.defs _ _).mono (fun _ h c => ?_) (Cert.Reference7Ideal.Value.run (F := Ideal) m' g')
  obtain ⟨a0, a1, a2⟩ := hag c
  have e0 : Cert.Reference7Ideal.Inp.eh (m' ((c.tc : Thread Cert.Reference7Ideal.nD Cert.Reference7Ideal.τ).loc Cert.Reference7Ideal.main_arg0)) = Cert.Kernel7Ideal.Inp.hid m c := by rw [a0]; rfl
  have e1 : Cert.Reference7Ideal.Inp.en (m' ((c.tc : Thread Cert.Reference7Ideal.nD Cert.Reference7Ideal.τ).loc Cert.Reference7Ideal.main_arg1)) = Cert.Kernel7Ideal.Inp.nw m c := by rw [a1]; rfl
  have e2 : Cert.Reference7Ideal.Inp.ew (m' ((c.tc : Thread Cert.Reference7Ideal.nD Cert.Reference7Ideal.τ).loc Cert.Reference7Ideal.main_arg2)) = Cert.Kernel7Ideal.Inp.wi m c := by rw [a2]; rfl
  refine ⟨(h c).1.trans ?_, (h c).2.1.trans ?_, (h c).2.2.1.trans ?_, (h c).2.2.2.1.trans ?_, (h c).2.2.2.2.1.trans ?_, (h c).2.2.2.2.2⟩
  all_goals
    funext i
    obtain ⟨a, b, rfl⟩ : ∃ a b, i = ix2 a b := ⟨i 0, i 1, (ix2_eta i).symm⟩
  · refine (Cert.Reference7Ideal.Inp.xn_at _ _ a b).trans ?_
    rw [e0, e1]
    rfl
  · refine (Cert.Reference7Ideal.Inp.part4_at _ _ _ a b).trans ?_
    rw [e0, e1, e2]
    rfl
  · refine (Cert.Reference7Ideal.Inp.part5_at _ _ _ a b).trans ?_
    rw [e0, e1, e2]
    rfl
  · refine (Cert.Reference7Ideal.Inp.part6_at _ _ _ a b).trans ?_
    rw [e0, e1, e2]
    rfl
  · refine (Cert.Reference7Ideal.Inp.part7_at _ _ _ a b).trans ?_
    rw [e0, e1, e2]
    rfl

/-- The reference's run keeps its arguments; it declares no semaphore. -/
theorem frame : Cert.quiescent_Reference7Ideal := fun m g _ =>
  (θ_run Cert.Reference7Ideal.defs _ _).mono (fun r h => ⟨fun c => (h c).2.2.2.2.2, sem_eq_zero_of_no_sems (by decide) r.2⟩)
    (Cert.Reference7Ideal.Value.run (F := Ideal) m g)

end Cert.Inp

end
-- ==== Proof.InBwd.lean ====
/- The input projections' backward call: what the body leaves at a point (the gradient of its rows, and its rows' part of
   the gradient of the norm's weight), and the two results at an index, which are the reference's. -/
module

public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal.Run
public import proofs.«01_k».proof.Proof.InProj
public import proofs.«01_k».proof.Defs
public import Idealize.ShloMosaic.Lib.StableHlo.ReadAt

@[expose] public section

noncomputable section

namespace Cert.Inp

open Idealize.ShloMosaic Cert.Mlp

section Spec

/-! The gradients as functions of the input, the norm's weight, the gradient of the normed rows and the gradient that
    reaches the input past the projections. -/

variable (h : Fin 4096 → Fin 1024 → EReal) (nw : Fin 1024 → EReal) (d : Fin 4096 → Fin 1024 → EReal) (dy : Fin 4096 → Fin 1024 → EReal)

/-- The gradient of the norm's weight. -/
def dnorm (b : Fin 1024) : EReal := ∑ r : Fin 4096, h r b * rs h r * d r b
/-- The factor of a row by which its mean square enters the gradient of the input. -/
def coef (r : Fin 4096) : EReal :=
  (∑ k : Fin 1024, h r k * (d r k * nw k)) * (Ideal.ofBits .f32 0xBF000000#32 * Ideal.div (rs h r) (ms h r)) * inv
/-- The gradient of the input. -/
def dh (r : Fin 4096) (b : Fin 1024) : EReal :=
  d r b * nw b * rs h r + h r b * coef h nw d r + coef h nw d r * h r b + dy r b

end Spec

/-- A sum over the padded layout, stretch by stretch. -/
theorem sum_stretches (f : Fin 2816 → EReal) : ∑ j : Fin 2816, f j
    = (∑ a : Fin 640, f (wcol 0 a)) + (∑ a : Fin 512, f (wcol 640 a)) + (∑ a : Fin 512, f (wcol 1152 a))
      + (∑ a : Fin 512, f (wcol 1664 a)) + (∑ a : Fin 512, f (wcol 2176 a)) + ∑ a : Fin 128, f (wcol 2688 a) := by
  refine (Fin.sum_univ_add (M := EReal) (a := 640 + 512 + 512 + 512 + 512) (b := 128) f).trans ?_
  rw [Fin.sum_univ_add (M := EReal), Fin.sum_univ_add (M := EReal), Fin.sum_univ_add (M := EReal), Fin.sum_univ_add (M := EReal)]
  refine congrArg₂ (· + ·) (congrArg₂ (· + ·) (congrArg₂ (· + ·) (congrArg₂ (· + ·) (congrArg₂ (· + ·) ?_ ?_) ?_) ?_) ?_) ?_
  all_goals
    refine Finset.sum_congr rfl fun a _ => congrArg f (Fin.ext ?_)
    have := a.isLt
    simp only [wcol, Fin.val_castAdd, Fin.val_natAdd]
    omega

end Cert.Inp

namespace Cert.Kernel8Ideal.Inp

open Cert.Kernel8Ideal Cert.Kernel8Ideal.Gen Cert.Mlp
open Idealize.ShloMosaic Idealize.ShloMosaic.TcCoe Idealize.SL.Sem

section Payloads

variable (v4 : Vec Ideal S512x640 .bf16) (v6 : Vec Ideal S640x1024 .bf16) (v10 v16 v22 v28 : Vec Ideal S512x512 .bf16)
  (v12 v18 v24 v30 : Vec Ideal S512x1024 .bf16) (v34 : Vec Ideal S512x128 .bf16) (v36 : Vec Ideal S128x1024 .bf16)
  (v27 : Vec Ideal S512x1024 .f32) (v29 : Vec Ideal S512x512 .bf16) (h d : Vec Ideal S512x1024 .f32) (nw u v : Vec Ideal S1x1024 .f32)
  (r : Fin 512) (b : Fin 1024) (z : Fin 1)

theorem pay2_at : k0_pay2 u v (ix2 z b) = v (ix2 z b) + u (ix2 z b) := by pointwise [k0_pay2]
theorem pay3_at : k0_pay3 (F := Ideal) (ix2 z b) = (0 : EReal) := by pointwise [k0_pay3]
theorem pay6_at : k0_pay6 (k0_pay4 v4 v6 v10 v12 v16 v18 v22 v24) (k0_pay5 v28) v30 v34 v36 (ix2 r b)
    = (∑ a : Fin 640, v4 (ix2 r a) * v6 (ix2 a b)) + (∑ a : Fin 512, v10 (ix2 r a) * v12 (ix2 a b)) + (∑ a : Fin 512, v16 (ix2 r a) * v18 (ix2 a b))
      + (∑ a : Fin 512, v22 (ix2 r a) * v24 (ix2 a b)) + (∑ a : Fin 512, v28 (ix2 r a) * v30 (ix2 a b)) + ∑ a : Fin 128, v34 (ix2 r a) * v36 (ix2 a b) := by
  pointwise [k0_pay6, k0_pay5, k0_pay4]
theorem pay7_at : k0_pay7 h (ix2 r z) = (∑ x : Fin 1024, h (ix2 r x) * h (ix2 r x)) * inv + Ideal.ofBits .f32 0x358637BD#32 := by
  pointwise [k0_pay7]
  rfl
theorem pay8_at : k0_pay8 h (ix2 r z) = Ideal.rsqrt (k0_pay7 h (ix2 r z)) := by pointwise [k0_pay8]
theorem pay9_at : k0_pay9 v27 v29 v30 v34 v36 h (ix2 z b)
    = ∑ x : Fin 512, h (ix2 x b) * k0_pay8 h (ix2 x 0) * k0_pay6 v27 v29 v30 v34 v36 (ix2 x b) := by pointwise [k0_pay9]
theorem pay10_at : k0_pay10 v27 v29 v30 v34 v36 nw (ix2 r b) = k0_pay6 v27 v29 v30 v34 v36 (ix2 r b) * nw (ix2 0 b) := by pointwise [k0_pay10]
theorem pay12_at : k0_pay12 v27 v29 v30 v34 v36 h nw (ix2 r b)
    = (∑ x : Fin 1024, h (ix2 r x) * k0_pay10 v27 v29 v30 v34 v36 nw (ix2 r x))
        * (Ideal.ofBits .f32 0xBF000000#32 * Ideal.div (k0_pay8 h (ix2 r 0)) (k0_pay7 h (ix2 r 0))) * inv := by
  pointwise [k0_pay12]
  rw [Fin.sum_univ_one (M := EReal)]
  rfl
theorem pay1_at : k0_pay1 h (k0_pay11 v27 v29 v30 v34 v36 h nw) (k0_pay12 v27 v29 v30 v34 v36 h nw) (k0_pay13 v27 v29 v30 v34 v36 h nw) d (ix2 r b)
    = k0_pay10 v27 v29 v30 v34 v36 nw (ix2 r b) * k0_pay8 h (ix2 r 0) + h (ix2 r b) * k0_pay12 v27 v29 v30 v34 v36 h nw (ix2 r b)
      + k0_pay12 v27 v29 v30 v34 v36 h nw (ix2 r b) * h (ix2 r b) + d (ix2 r b) := by
  pointwise [k0_pay1, k0_pay11, k0_pay13]

end Payloads

section Points

variable (c : Dev nD) (i : grid0.Coords) (arg1 : Memref sig .tc .vmem S512x640 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S2816x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole)
  (x0 : Vec Ideal S512x640 .bf16) (x1 x2 x3 x4 : Vec Ideal S512x512 .bf16) (x5 : Vec Ideal S512x128 .bf16) (x6 : Vec Ideal S2816x1024 .bf16)
  (x7 : Vec Ideal S512x1024 .f32) (x8 : Vec Ideal S1x1024 .f32) (x9 : Vec Ideal S512x1024 .f32) (xo11 : Vec Ideal S1x1024 .f32)

/-! A point's products of the first four pieces, and the stretches of the weight that meet the last two. -/

def front : Vec Ideal S512x1024 .f32 := k0_pay4 x0 (View.ld x6 (Rect.unit ![0, 0] ![640, 1024] inb_S2816x1024_S640x1024_0_0)) x1 (View.ld x6 (Rect.unit ![640, 0] ![512, 1024] inb_S2816x1024_S512x1024_640_0)) x2 (View.ld x6 (Rect.unit ![1152, 0] ![512, 1024] inb_S2816x1024_S512x1024_1152_0)) x3 (View.ld x6 (Rect.unit ![1664, 0] ![512, 1024] inb_S2816x1024_S512x1024_1664_0))
def w4 : Vec Ideal S512x1024 .bf16 := View.ld x6 (Rect.unit ![2176, 0] ![512, 1024] inb_S2816x1024_S512x1024_2176_0)
def w5 : Vec Ideal S128x1024 .bf16 := View.ld x6 (Rect.unit ![2688, 0] ![128, 1024] inb_S2816x1024_S128x1024_2688_0)
/-- A point's gradient of its normed rows, of its rows, and its part of the gradient of the norm's weight. -/
def dxn : Vec Ideal S512x1024 .f32 := k0_pay6 (front x0 x1 x2 x3 x6) (k0_pay5 x4) (w4 x6) x5 (w5 x6)
def dx : Vec Ideal S512x1024 .f32 := k0_pay1 x7 (k0_pay11 (front x0 x1 x2 x3 x6) (k0_pay5 x4) (w4 x6) x5 (w5 x6) x7 x8) (k0_pay12 (front x0 x1 x2 x3 x6) (k0_pay5 x4) (w4 x6) x5 (w5 x6) x7 x8) (k0_pay13 (front x0 x1 x2 x3 x6) (k0_pay5 x4) (w4 x6) x5 (w5 x6) x7 x8) x9
def dn : Vec Ideal S1x1024 .f32 := k0_pay9 (front x0 x1 x2 x3 x6) (k0_pay5 x4) (w4 x6) x5 (w5 x6) x7

theorem dx_A (h0) : out0_A_10 (F := Ideal) c i arg1 harg1 arg2 harg2 arg3 harg3 arg4 harg4 arg5 harg5 arg6 harg6 arg7 harg7 arg8 harg8 arg9 harg9 arg10 harg10 arg11 harg11 arg12 harg12 h0 x0 x1 x2 x3 x4 x5 x6 x7 x8 x9 = dx x0 x1 x2 x3 x4 x5 x6 x7 x8 x9 := by
  frame_out
  rfl
theorem dn_A (h0) : out0_A_11 (F := Ideal) c i arg1 harg1 arg2 harg2 arg3 harg3 arg4 harg4 arg5 harg5 arg6 harg6 arg7 harg7 arg8 harg8 arg9 harg9 arg10 harg10 arg11 harg11 arg12 harg12 h0 x0 x1 x2 x3 x4 x5 x6 x7 x8 x9 = k0_pay2 (F := Ideal) (dn x0 x1 x2 x3 x4 x5 x6 x7) (k0_pay3 (F := Ideal)) := by
  frame_out
  rfl
theorem dx_B (h0) : out0_B_10 (F := Ideal) c i arg1 harg1 arg2 harg2 arg3 harg3 arg4 harg4 arg5 harg5 arg6 harg6 arg7 harg7 arg8 harg8 arg9 harg9 arg10 harg10 arg11 harg11 arg12 harg12 h0 x0 x1 x2 x3 x4 x5 x6 x7 x8 x9 xo11 = dx x0 x1 x2 x3 x4 x5 x6 x7 x8 x9 := by
  frame_out
  rfl
theorem dn_B (h0) : out0_B_11 (F := Ideal) c i arg1 harg1 arg2 harg2 arg3 harg3 arg4 harg4 arg5 harg5 arg6 harg6 arg7 harg7 arg8 harg8 arg9 harg9 arg10 harg10 arg11 harg11 arg12 harg12 h0 x0 x1 x2 x3 x4 x5 x6 x7 x8 x9 xo11 = k0_pay2 (F := Ideal) (dn x0 x1 x2 x3 x4 x5 x6 x7) xo11 := by
  frame_out
  rfl

/-- The gradient of the normed rows: the pieces side by side, against the weight. -/
theorem dxn_at (r : Fin 512) (b : Fin 1024) : dxn x0 x1 x2 x3 x4 x5 x6 (ix2 r b)
    = ∑ j : Fin 2816, Cert.Inp.cat (fun r a => x0 (ix2 r a)) (fun r a => x1 (ix2 r a)) (fun r a => x2 (ix2 r a)) (fun r a => x3 (ix2 r a))
        (fun r a => x4 (ix2 r a)) (fun r a => x5 (ix2 r a)) r j * x6 (ix2 j b) := by
  unfold dxn front w4 w5
  rw [pay6_at, Cert.Inp.sum_stretches]
  refine congrArg₂ (· + ·) (congrArg₂ (· + ·) (congrArg₂ (· + ·) (congrArg₂ (· + ·) (congrArg₂ (· + ·) ?_ ?_) ?_) ?_) ?_) ?_
  · exact Finset.sum_congr rfl fun a _ => congrArg₂ (fun u v : EReal => u * v)
      (Cert.Inp.cat_0 (fun r a => x0 (ix2 r a)) (fun r a => x1 (ix2 r a)) (fun r a => x2 (ix2 r a)) (fun r a => x3 (ix2 r a))
        (fun r a => x4 (ix2 r a)) (fun r a => x5 (ix2 r a)) r (Cert.Inp.wcol 0 a) a (by show (0 + a.val) % 2816 = 0 + a.val; omega)).symm
      (View.ld_unit_apply_of x6 _ _ _ _ (ix2 (Cert.Inp.wcol 0 a) b) fun i => by
        match i with
        | 0 => show (0 + a.val) % 2816 = 0 + a.val; omega
        | 1 => show b.val = 0 + b.val; omega)
  · exact Finset.sum_congr rfl fun a _ => congrArg₂ (fun u v : EReal => u * v)
      (Cert.Inp.cat_1 (fun r a => x0 (ix2 r a)) (fun r a => x1 (ix2 r a)) (fun r a => x2 (ix2 r a)) (fun r a => x3 (ix2 r a))
        (fun r a => x4 (ix2 r a)) (fun r a => x5 (ix2 r a)) r (Cert.Inp.wcol 640 a) a (by show (640 + a.val) % 2816 = 640 + a.val; omega)).symm
      (View.ld_unit_apply_of x6 _ _ _ _ (ix2 (Cert.Inp.wcol 640 a) b) fun i => by
        match i with
        | 0 => show (640 + a.val) % 2816 = 640 + a.val; omega
        | 1 => show b.val = 0 + b.val; omega)
  · exact Finset.sum_congr rfl fun a _ => congrArg₂ (fun u v : EReal => u * v)
      (Cert.Inp.cat_2 (fun r a => x0 (ix2 r a)) (fun r a => x1 (ix2 r a)) (fun r a => x2 (ix2 r a)) (fun r a => x3 (ix2 r a))
        (fun r a => x4 (ix2 r a)) (fun r a => x5 (ix2 r a)) r (Cert.Inp.wcol 1152 a) a (by show (1152 + a.val) % 2816 = 1152 + a.val; omega)).symm
      (View.ld_unit_apply_of x6 _ _ _ _ (ix2 (Cert.Inp.wcol 1152 a) b) fun i => by
        match i with
        | 0 => show (1152 + a.val) % 2816 = 1152 + a.val; omega
        | 1 => show b.val = 0 + b.val; omega)
  · exact Finset.sum_congr rfl fun a _ => congrArg₂ (fun u v : EReal => u * v)
      (Cert.Inp.cat_3 (fun r a => x0 (ix2 r a)) (fun r a => x1 (ix2 r a)) (fun r a => x2 (ix2 r a)) (fun r a => x3 (ix2 r a))
        (fun r a => x4 (ix2 r a)) (fun r a => x5 (ix2 r a)) r (Cert.Inp.wcol 1664 a) a (by show (1664 + a.val) % 2816 = 1664 + a.val; omega)).symm
      (View.ld_unit_apply_of x6 _ _ _ _ (ix2 (Cert.Inp.wcol 1664 a) b) fun i => by
        match i with
        | 0 => show (1664 + a.val) % 2816 = 1664 + a.val; omega
        | 1 => show b.val = 0 + b.val; omega)
  · exact Finset.sum_congr rfl fun a _ => congrArg₂ (fun u v : EReal => u * v)
      (Cert.Inp.cat_4 (fun r a => x0 (ix2 r a)) (fun r a => x1 (ix2 r a)) (fun r a => x2 (ix2 r a)) (fun r a => x3 (ix2 r a))
        (fun r a => x4 (ix2 r a)) (fun r a => x5 (ix2 r a)) r (Cert.Inp.wcol 2176 a) a (by show (2176 + a.val) % 2816 = 2176 + a.val; omega)).symm
      (View.ld_unit_apply_of x6 _ _ _ _ (ix2 (Cert.Inp.wcol 2176 a) b) fun i => by
        match i with
        | 0 => show (2176 + a.val) % 2816 = 2176 + a.val; omega
        | 1 => show b.val = 0 + b.val; omega)
  · exact Finset.sum_congr rfl fun a _ => congrArg₂ (fun u v : EReal => u * v)
      (Cert.Inp.cat_5 (fun r a => x0 (ix2 r a)) (fun r a => x1 (ix2 r a)) (fun r a => x2 (ix2 r a)) (fun r a => x3 (ix2 r a))
        (fun r a => x4 (ix2 r a)) (fun r a => x5 (ix2 r a)) r (Cert.Inp.wcol 2688 a) a (by show (2688 + a.val) % 2816 = 2688 + a.val; omega)).symm
      (View.ld_unit_apply_of x6 _ _ _ _ (ix2 (Cert.Inp.wcol 2688 a) b) fun i => by
        match i with
        | 0 => show (2688 + a.val) % 2816 = 2688 + a.val; omega
        | 1 => show b.val = 0 + b.val; omega)

end Points

variable (m : (ℓ : Loc nD τ sig) → Buf (Elt Ideal) ℓ) (c : Dev nD)

/-! The arguments' elements: the six pieces, the weight, the rows, the norm's weight and the gradient past the projections. -/

def arg0 (r : Fin 4096) (a : Fin 640) : EReal := m ((c.tc : Thread nD τ).loc main_arg0) (ix2 r a)
def arg1 (r : Fin 4096) (a : Fin 512) : EReal := m ((c.tc : Thread nD τ).loc main_arg1) (ix2 r a)
def arg2 (r : Fin 4096) (a : Fin 512) : EReal := m ((c.tc : Thread nD τ).loc main_arg2) (ix2 r a)
def arg3 (r : Fin 4096) (a : Fin 512) : EReal := m ((c.tc : Thread nD τ).loc main_arg3) (ix2 r a)
def arg4 (r : Fin 4096) (a : Fin 512) : EReal := m ((c.tc : Thread nD τ).loc main_arg4) (ix2 r a)
def arg5 (r : Fin 4096) (a : Fin 128) : EReal := m ((c.tc : Thread nD τ).loc main_arg5) (ix2 r a)
def wi (k : Fin 1024) (j : Fin 2632) : EReal := m ((c.tc : Thread nD τ).loc main_arg6) (ix2 k j)
def hid (r : Fin 4096) (k : Fin 1024) : EReal := m ((c.tc : Thread nD τ).loc main_arg7) (ix2 r k)
def nw (k : Fin 1024) : EReal := m ((c.tc : Thread nD τ).loc main_arg8) (ix1 k)
def dy (r : Fin 4096) (k : Fin 1024) : EReal := m ((c.tc : Thread nD τ).loc main_arg9) (ix2 r k)

theorem entry0 (r : Fin 4096) (a : Fin 640) : V m c main_v8 (ix2 r a) = arg0 m c r a := by
  unfold arg0
  unfold V
  simp only [hostOps0, List.flatten_cons, List.flatten_nil, List.append_nil, List.cons_append, List.nil_append]
  after_reads_at
theorem entry1 (r : Fin 4096) (a : Fin 512) : V m c main_v9 (ix2 r a) = arg1 m c r a := by
  unfold arg1
  unfold V
  simp only [hostOps0, List.flatten_cons, List.flatten_nil, List.append_nil, List.cons_append, List.nil_append]
  after_reads_at
theorem entry2 (r : Fin 4096) (a : Fin 512) : V m c main_v10 (ix2 r a) = arg2 m c r a := by
  unfold arg2
  unfold V
  simp only [hostOps0, List.flatten_cons, List.flatten_nil, List.append_nil, List.cons_append, List.nil_append]
  after_reads_at
theorem entry3 (r : Fin 4096) (a : Fin 512) : V m c main_v11 (ix2 r a) = arg3 m c r a := by
  unfold arg3
  unfold V
  simp only [hostOps0, List.flatten_cons, List.flatten_nil, List.append_nil, List.cons_append, List.nil_append]
  after_reads_at
theorem entry4 (r : Fin 4096) (a : Fin 512) : V m c main_v12 (ix2 r a) = arg4 m c r a := by
  unfold arg4
  unfold V
  simp only [hostOps0, List.flatten_cons, List.flatten_nil, List.append_nil, List.cons_append, List.nil_append]
  after_reads_at
theorem entry5 (r : Fin 4096) (a : Fin 128) : V m c main_v13 (ix2 r a) = arg5 m c r a := by
  unfold arg5
  unfold V
  simp only [hostOps0, List.flatten_cons, List.flatten_nil, List.append_nil, List.cons_append, List.nil_append]
  after_reads_at
theorem entry_w (j : Fin 2816) (k : Fin 1024) : V m c main_v14 (ix2 j k) = Cert.Inp.wide (wi m c) k j := by
  unfold V
  simp only [hostOps0, List.flatten_cons, List.flatten_nil, List.append_nil, List.cons_append, List.nil_append]
  after_reads_at
  unfold Cert.Inp.wide wi
  split_ifs
  all_goals first
    | (exfalso; omega)
    | after_reads_at
  all_goals rfl
theorem entry_nw (z : Fin 1) (k : Fin 1024) : V m c main_v15 (ix2 z k) = nw m c k := by
  unfold nw
  unfold V
  simp only [hostOps0, List.flatten_cons, List.flatten_nil, List.append_nil, List.cons_append, List.nil_append]
  after_reads_at

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0) :=
  (by decide +kernel : ∀ t : Fin grid0.N, _)

section Blocks

variable (t : Fin cfg0.N) (r : Fin 512) (k : Fin 1024)

theorem tok_val : (512 * t.val + r.val) % 4096 = 512 * t.val + r.val := by
  have h : t.val < 8 := t.isLt
  omega

theorem blk0 (a : Fin 640) : (iblk m c 0 t (ix2 r a) : EReal) = arg0 m c (tok t.val r) a := by
  obtain ⟨⟨e0, e1⟩, -⟩ := idx t
  have ht := tok_val t r
  rw [← entry0]
  blk_ext [iblk, e0, e1, tok, ht]
theorem blk1 (a : Fin 512) : (iblk m c 1 t (ix2 r a) : EReal) = arg1 m c (tok t.val r) a := by
  obtain ⟨-, ⟨e0, e1⟩, -⟩ := idx t
  have ht := tok_val t r
  rw [← entry1]
  blk_ext [iblk, e0, e1, tok, ht]
theorem blk2 (a : Fin 512) : (iblk m c 2 t (ix2 r a) : EReal) = arg2 m c (tok t.val r) a := by
  obtain ⟨-, -, ⟨e0, e1⟩, -⟩ := idx t
  have ht := tok_val t r
  rw [← entry2]
  blk_ext [iblk, e0, e1, tok, ht]
theorem blk3 (a : Fin 512) : (iblk m c 3 t (ix2 r a) : EReal) = arg3 m c (tok t.val r) a := by
  obtain ⟨-, -, -, ⟨e0, e1⟩, -⟩ := idx t
  have ht := tok_val t r
  rw [← entry3]
  blk_ext [iblk, e0, e1, tok, ht]
theorem blk4 (a : Fin 512) : (iblk m c 4 t (ix2 r a) : EReal) = arg4 m c (tok t.val r) a := by
  obtain ⟨-, -, -, -, ⟨e0, e1⟩, -⟩ := idx t
  have ht := tok_val t r
  rw [← entry4]
  blk_ext [iblk, e0, e1, tok, ht]
theorem blk5 (a : Fin 128) : (iblk m c 5 t (ix2 r a) : EReal) = arg5 m c (tok t.val r) a := by
  obtain ⟨-, -, -, -, -, ⟨e0, e1⟩, -⟩ := idx t
  have ht := tok_val t r
  rw [← entry5]
  blk_ext [iblk, e0, e1, tok, ht]
theorem blk6 (j : Fin 2816) : (iblk m c 6 t (ix2 j k) : EReal) = Cert.Inp.wide (wi m c) k j := by
  obtain ⟨-, -, -, -, -, -, ⟨e0, e1⟩, -⟩ := idx t
  rw [← entry_w]
  blk_ext [iblk, e0, e1]
theorem blk7 : (iblk m c 7 t (ix2 r k) : EReal) = hid m c (tok t.val r) k := by
  obtain ⟨-, -, -, -, -, -, -, ⟨e0, e1⟩, -⟩ := idx t
  have ht := tok_val t r
  unfold hid
  blk_ext [iblk, V, e0, e1, tok, ht]
theorem blk8 (z : Fin 1) : (iblk m c 8 t (ix2 z k) : EReal) = nw m c k := by
  obtain ⟨-, -, -, -, -, -, -, -, ⟨e0, e1⟩, -⟩ := idx t
  rw [← entry_nw m c z]
  blk_ext [iblk, e0, e1]
theorem blk9 : (iblk m c 9 t (ix2 r k) : EReal) = dy m c (tok t.val r) k := by
  obtain ⟨-, -, -, -, -, -, -, -, -, ⟨e0, e1⟩, -⟩ := idx t
  have ht := tok_val t r
  unfold dy
  blk_ext [iblk, V, e0, e1, tok, ht]
theorem emb10 : ((cfg0.win 10).blk t).view.emb (ix2 r k) = ix2 (tok t.val r) k := by
  obtain ⟨-, -, -, -, -, -, -, -, -, -, ⟨e0, e1⟩, -⟩ := idx t
  have ht := tok_val t r
  blk_ext [e0, e1, tok, ht]
theorem emb11 (z : Fin 1) : ((cfg0.win 11).blk t).view.emb (ix2 z k) = ix2 z k := by
  obtain ⟨-, -, -, -, -, -, -, -, -, -, -, ⟨e0, e1⟩⟩ := idx t
  blk_ext [e0, e1]

/-! The spec at this device's arguments. -/

def sD (r : Fin 4096) (k : Fin 1024) : EReal :=
  ∑ j : Fin 2816, Cert.Inp.cat (arg0 m c) (arg1 m c) (arg2 m c) (arg3 m c) (arg4 m c) (arg5 m c) r j * Cert.Inp.wide (wi m c) k j
def sDh (r : Fin 4096) (k : Fin 1024) : EReal := Cert.Inp.dh (hid m c) (nw m c) (sD m c) (dy m c) r k
def sDn (k : Fin 1024) : EReal := Cert.Inp.dnorm (hid m c) (sD m c) k

theorem d_at : (dxn (iblk m c 0 t) (iblk m c 1 t) (iblk m c 2 t) (iblk m c 3 t) (iblk m c 4 t) (iblk m c 5 t) (iblk m c 6 t) (ix2 r k) : EReal) = sD m c (tok t.val r) k := by
  rw [dxn_at]
  unfold sD
  refine Finset.sum_congr rfl fun j _ => congrArg₂ (fun u v : EReal => u * v) ?_ (blk6 m c t k j)
  unfold Cert.Inp.cat
  simp only [blk0, blk1, blk2, blk3, blk4, blk5]
theorem ms_at (z : Fin 1) : (k0_pay7 (iblk m c 7 t) (ix2 r z) : EReal) = ms (hid m c) (tok t.val r) := by
  rw [pay7_at]
  simp only [blk7]
  rfl
theorem rs_at (z : Fin 1) : (k0_pay8 (iblk m c 7 t) (ix2 r z) : EReal) = rs (hid m c) (tok t.val r) := by
  rw [pay8_at, ms_at]
  rfl

/-- A point's gradient of its rows. -/
theorem dx_at : (dx (iblk m c 0 t) (iblk m c 1 t) (iblk m c 2 t) (iblk m c 3 t) (iblk m c 4 t) (iblk m c 5 t) (iblk m c 6 t) (iblk m c 7 t) (iblk m c 8 t) (iblk m c 9 t) (ix2 r k) : EReal) = sDh m c (tok t.val r) k := by
  have e := d_at m c t r
  unfold dxn at e
  unfold dx
  rw [pay1_at, pay12_at]
  simp only [pay10_at, e, blk7, blk8, blk9, rs_at, ms_at]
  rfl

/-- A point's part of the gradient of the norm's weight. -/
def part (q : Nat) (k : Fin 1024) : EReal := ∑ r : Fin 512, hid m c (tok q r) k * rs (hid m c) (tok q r) * sD m c (tok q r) k

theorem dn_at (z : Fin 1) : (dn (iblk m c 0 t) (iblk m c 1 t) (iblk m c 2 t) (iblk m c 3 t) (iblk m c 4 t) (iblk m c 5 t) (iblk m c 6 t) (iblk m c 7 t) (ix2 z k) : EReal) = part m c t.val k := by
  have e := fun r => d_at m c t r k
  unfold dxn at e
  unfold dn
  rw [pay9_at]
  simp only [e, blk7, rs_at]
  rfl

theorem out10_at : ((outsAt0 m c t.val t.isLt).1 (ix2 r k) : EReal) = sDh m c (tok t.val r) k := by
  by_cases h0 : t.val % 8 = 0
  · rw [outsAt0_A m c t h0]
    dsimp only
    rw [dx_A]
    exact dx_at m c t r k
  · rw [outsAt0_B m c t h0]
    dsimp only
    rw [dx_B]
    exact dx_at m c t r k

end Blocks

theorem norm_at (n : Nat) (h : n < cfg0.N) (z : Fin 1) (k : Fin 1024) :
    ((outsAt0 m c n h).2 (ix2 z k) : EReal) = ∑ q ∈ Finset.range (n + 1), part m c q k := by
  have hN : cfg0.N = 8 := N_0
  induction n with
  | zero =>
    rw [outsAt0_A m c ⟨0, h⟩ (Nat.zero_mod 8)]
    dsimp only
    rw [dn_A, pay2_at, pay3_at, zero_add, Finset.sum_range_one]
    exact dn_at m c ⟨0, h⟩ k z
  | succ n ih =>
    rw [outsAt0_B m c ⟨n + 1, h⟩ (by show ¬ (n + 1) % 8 = 0; omega)]
    dsimp only
    rw [dn_B, pay2_at, Finset.sum_range_succ]
    exact congrArg₂ (fun u v : EReal => u + v) (ih (Nat.lt_of_succ_lt h)) (dn_at m c ⟨n + 1, h⟩ k z)

/-! The two result arrays. -/

def arr10 : FVec Ideal S4096x1024 .f32 := fun i => sDh m c (i 0) (i 1)
def arr11 : FVec Ideal S1x1024 .f32 := fun i => sDn m c (i 1)

theorem final10 : (dats m 0 c).arrAt 10 cfg0.N = arr10 m c := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, (ix2_eta y).symm⟩
  rw [emb10]
  exact out10_at m c t r j

theorem last : ∀ t : Fin cfg0.N, (cfg0.win 11).flush t = true → t.val = 7 :=
  (by decide +kernel : ∀ t : Fin grid0.N, (cfg0.win 11).flush t = true → t.val = 7)

theorem final11 : (dats m 0 c).arrAt 11 cfg0.N = arr11 m c := by
  refine (dats m 0 c).arrAt_eq_of_covers 11 _ (by decide +kernel) fun t hf y => ?_
  have h7 := last t hf
  blk_simp
  rw [after0_11]
  obtain ⟨z, j, rfl⟩ : ∃ (z : Fin 1) (j : Fin 1024), y = ix2 z j := ⟨y 0, y 1, (ix2_eta y).symm⟩
  rw [emb11]
  refine (norm_at m c t.val t.isLt z j).trans ?_
  rw [h7]
  exact sum_tok fun r => hid m c r j * rs (hid m c) r * sD m c r j

/-- A run leaves the two arrays, and keeps the arguments. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v16_0) = arr10 m c
      ∧ r.2.mem ((c.tc : Thread nD τ).loc main_v16_1) = arr11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final10 m c), (h c).2.1.trans (final11 m c), (h c).2.2⟩) (Value.run_blocks m g)

end Cert.Kernel8Ideal.Inp

namespace Cert.Reference8Ideal.Inp

open Cert.Reference8Ideal Cert.Reference8Ideal.Gen
open Idealize.ShloMosaic Idealize.ShloMosaic.TcCoe

/-! The arrays the reference computes, and each at an index. -/

def wide {F : FTy → Type} [FloatOps F] (w : FVec F S1024x2632 .f32) : FVec F S1024x2816 .f32 :=
  concatenate S1024x2816 1 [⟨S1024x544, ((extractStridedSlice S1024x544 ![0, 0] w slices_S1024x2632_S1024x544_0_0) : (⟨S1024x544, .f32⟩ : BufTy).Contents (Elt F))⟩, ⟨S1024x32, ((broadcastInDim S1024x32 ![] bcast_S_S1024x32 (constant S_ .f32 0x00000000#32)) : (⟨S1024x32, .f32⟩ : BufTy).Contents (Elt F))⟩, ⟨S1024x32, ((extractStridedSlice S1024x32 ![0, 544] w slices_S1024x2632_S1024x32_0_544) : (⟨S1024x32, .f32⟩ : BufTy).Contents (Elt F))⟩, ⟨S1024x32, ((broadcastInDim S1024x32 ![] bcast_S_S1024x32 (constant S_ .f32 0x00000000#32)) : (⟨S1024x32, .f32⟩ : BufTy).Contents (Elt F))⟩, ⟨S1024x2056, ((extractStridedSlice S1024x2056 ![0, 576] w slices_S1024x2632_S1024x2056_0_576) : (⟨S1024x2056, .f32⟩ : BufTy).Contents (Elt F))⟩, ⟨S1024x120, ((broadcastInDim S1024x120 ![] bcast_S_S1024x120 (constant S_ .f32 0x00000000#32)) : (⟨S1024x120, .f32⟩ : BufTy).Contents (Elt F))⟩] concatenates_S1024x544_S1024x32_S1024x32_S1024x32_S1024x2056_S1024x120_S1024x2816_d1
def cat {F : FTy → Type} [FloatOps F] (x0 : FVec F S4096x640 .f32) (x1 x2 x3 x4 : FVec F S4096x512 .f32) (x5 : FVec F S4096x128 .f32) : FVec F S4096x2816 .f32 :=
  concatenate S4096x2816 1 [⟨S4096x640, (x0 : (⟨S4096x640, .f32⟩ : BufTy).Contents (Elt F))⟩, ⟨S4096x512, (x1 : (⟨S4096x512, .f32⟩ : BufTy).Contents (Elt F))⟩, ⟨S4096x512, (x2 : (⟨S4096x512, .f32⟩ : BufTy).Contents (Elt F))⟩, ⟨S4096x512, (x3 : (⟨S4096x512, .f32⟩ : BufTy).Contents (Elt F))⟩, ⟨S4096x512, (x4 : (⟨S4096x512, .f32⟩ : BufTy).Contents (Elt F))⟩, ⟨S4096x128, (x5 : (⟨S4096x128, .f32⟩ : BufTy).Contents (Elt F))⟩] concatenates_S4096x640_S4096x512_S4096x512_S4096x512_S4096x512_S4096x128_S4096x2816_d1

variable (x0 : FVec Ideal S4096x640 .f32) (x1 x2 x3 x4 : FVec Ideal S4096x512 .f32) (x5 : FVec Ideal S4096x128 .f32)
  (w : FVec Ideal S1024x2632 .f32) (h : FVec Ideal S4096x1024 .f32) (nw : FVec Ideal S1024 .f32) (dy : FVec Ideal S4096x1024 .f32)

def el {n : Nat} (x : (⟨2, ![4096, n]⟩ : Shape).Idx → EReal) (r : Fin 4096) (a : Fin n) : EReal := x (ix2 r a)
def en (k : Fin 1024) : EReal := nw (ix1 k)
def ew (k : Fin 1024) (j : Fin 2632) : EReal := w (ix2 k j)

theorem wide_at (k : Fin 1024) (j : Fin 2816) : (wide (F := Ideal) w (ix2 k j) : EReal) = Cert.Inp.wide (ew w) k j := by
  pointwise [wide]
  unfold Cert.Inp.wide
  split_ifs
  all_goals first
    | (exfalso; omega)
    | rfl
theorem cat_at (r : Fin 4096) (j : Fin 2816) : (cat (F := Ideal) x0 x1 x2 x3 x4 x5 (ix2 r j) : EReal)
    = Cert.Inp.cat (el x0) (el x1) (el x2) (el x3) (el x4) (el x5) r j := by
  pointwise [cat]
  unfold Cert.Inp.cat
  split_ifs
  all_goals rfl

def ms : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rows : FVec Ideal S4096x1024 .f32 := mulf h (broadcastInDim S4096x1024 ![0, 1] bcast_S4096x1_S4096x1024_0_1 (Host.rsqrt (ms h)))
def weights : FVec Ideal S4096x1024 .f32 := broadcastInDim S4096x1024 ![0, 1] bcast_S1x1024_S4096x1024_0_1 (broadcastInDim S1x1024 ![1] bcast_S1024_S1x1024_1 nw)
def dxn : FVec Ideal S4096x1024 .f32 :=
  Host.dotGeneral dot_S4096x2816_S1024x2816_S4096x1024_1_1_0_0_n_n none (cat (F := Ideal) x0 x1 x2 x3 x4 x5) (wide (F := Ideal) w)

variable (d : FVec Ideal S4096x1024 .f32)

def coef : FVec Ideal S4096x1024 .f32 :=
  broadcastInDim S4096x1024 ![0] bcast_S4096_S4096x1024_0 (Host.reduceAdd (Host.divf (mulf (shapeCast _ (Host.reduceAdd (mulf h (mulf d (weights nw))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms h)) (ms h)))) (broadcastInDim S4096x1 ![] bcast_S_S4096x1 (constant S_ .f32 0x44800000#32))) (constant S_ .f32 0x00000000#32) reducesTo_S4096x1_S4096_d1 h_S_)
def dnorm : FVec Ideal S1x1024 .f32 :=
  shapeCast _ (Host.reduceAdd (shapeCast S1x1024 (Host.reduceAdd (mulf (rows h) d) (constant S_ .f32 0x00000000#32) reducesTo_S4096x1024_S1024_d0 h_S_) shapeCasts_S1024_S1x1024) (constant S_ .f32 0x00000000#32) reducesTo_S1x1024_S1024_d0 h_S_) shapeCasts_S1024_S1x1024
def dh : FVec Ideal S4096x1024 .f32 :=
  addf (addf (addf (mulf (mulf d (weights nw)) (broadcastInDim S4096x1024 ![0, 1] bcast_S4096x1_S4096x1024_0_1 (Host.rsqrt (ms h)))) (mulf h (coef h nw d))) (mulf (coef h nw d) h)) dy

theorem ms_at (r : Fin 4096) (z : Fin 1) : (ms h (ix2 r z) : EReal) = Mlp.ms (el h) r := by
  pointwise [ms]
  rw [Mlp.div_1024]
  rfl
theorem rows_at (r : Fin 4096) (k : Fin 1024) : (rows h (ix2 r k) : EReal) = el h r k * Mlp.rs (el h) r := by
  pointwise [rows]
  rw [ms_at]
  rfl
theorem weights_at (r : Fin 4096) (k : Fin 1024) : (weights nw (ix2 r k) : EReal) = en nw k := by
  pointwise [weights]
  rfl
theorem dxn_at (r : Fin 4096) (k : Fin 1024) : (dxn x0 x1 x2 x3 x4 x5 w (ix2 r k) : EReal)
    = ∑ j : Fin 2816, Cert.Inp.cat (el x0) (el x1) (el x2) (el x3) (el x4) (el x5) r j * Cert.Inp.wide (ew w) k j := by
  pointwise [dxn]
  simp only [cat_at, wide_at]
theorem coef_at (r : Fin 4096) (b : Fin 1024) : (coef h nw d (ix2 r b) : EReal) = Cert.Inp.coef (el h) (en nw) (el d) r := by
  pointwise [coef]
  simp only [Mlp.div_1024, ms_at, weights_at]
  exact Fin.sum_univ_one (M := EReal) _
theorem dnorm_at (z : Fin 1) (b : Fin 1024) : (dnorm h d (ix2 z b) : EReal) = Cert.Inp.dnorm (el h) (el d) b := by
  pointwise [dnorm]
  simp only [rows_at]
  exact Fin.sum_univ_one (M := EReal) _
theorem dh_at (r : Fin 4096) (b : Fin 1024) : (dh h nw dy d (ix2 r b) : EReal) = Cert.Inp.dh (el h) (en nw) (el d) (el dy) r b := by
  pointwise [dh]
  simp only [ms_at, weights_at, coef_at]
  rfl

end Cert.Reference8Ideal.Inp

namespace Cert.Inp

open Idealize.ShloMosaic Idealize.ShloMosaic.TcCoe Idealize.SL.Sem

theorem grads : Cert.algebraic_Kernel8Ideal_Reference8Ideal := by
  intro m g m' g' _ hag
  refine ⟨_, _, Cert.Kernel8Ideal.Inp.run m g, ?_⟩
  refine (θ_run Cert.Reference8Ideal.defs _ _).mono (fun _ h c => ?_) (Cert.Reference8Ideal.Value.run (F := Ideal) m' g')
  obtain ⟨a0, a1, a2, a3, a4, a5, a6, a7, a8, a9⟩ := hag c

  have ed : Cert.Reference8Ideal.Inp.el (Cert.Reference8Ideal.Inp.dxn (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))) = Cert.Kernel8Ideal.Inp.sD m c := by
    funext r k
    refine (Cert.Reference8Ideal.Inp.dxn_at _ _ _ _ _ _ _ r k).trans ?_
    rw [a0, a1, a2, a3, a4, a5, a6]
    rfl
  have e7 : Cert.Reference8Ideal.Inp.el (m' ((c.tc : Thread Cert.Reference8Ideal.nD Cert.Reference8Ideal.τ).loc Cert.Reference8Ideal.main_arg7)) = Cert.Kernel8Ideal.Inp.hid m c := by rw [a7]; rfl
  have e8 : Cert.Reference8Ideal.Inp.en (m' ((c.tc : Thread Cert.Reference8Ideal.nD Cert.Reference8Ideal.τ).loc Cert.Reference8Ideal.main_arg8)) = Cert.Kernel8Ideal.Inp.nw m c := by rw [a8]; rfl
  have e9 : Cert.Reference8Ideal.Inp.el (m' ((c.tc : Thread Cert.Reference8Ideal.nD Cert.Reference8Ideal.τ).loc Cert.Reference8Ideal.main_arg9)) = Cert.Kernel8Ideal.Inp.dy m c := by rw [a9]; rfl
  refine ⟨(h c).1.trans ?_, (h c).2.1.trans ?_, (h c).2.2⟩
  · funext i
    obtain ⟨a, b, rfl⟩ : ∃ a b, i = ix2 a b := ⟨i 0, i 1, (ix2_eta i).symm⟩
    refine (Cert.Reference8Ideal.Inp.dh_at (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8)) (m' ((c.tc : Thread Cert.Reference8Ideal.nD Cert.Reference8Ideal.τ).loc Cert.Reference8Ideal.main_arg9)) (Cert.Reference8Ideal.Inp.dxn (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))) a b).trans ?_
    rw [ed, e7, e8, e9]
    rfl
  · funext i
    obtain ⟨z, b, rfl⟩ : ∃ z b, i = ix2 z b := ⟨i 0, i 1, (ix2_eta i).symm⟩
    refine (Cert.Reference8Ideal.Inp.dnorm_at (m' ((c.tc : Thread Cert.Reference8Ideal.nD Cert.Reference8Ideal.τ).loc Cert.Reference8Ideal.main_arg7)) (Cert.Reference8Ideal.Inp.dxn (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))) z b).trans ?_
    rw [ed, e7]
    rfl

/-- The reference's run keeps its arguments; it declares no semaphore. -/
theorem grads_frame : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

end Cert.Inp

end
-- ==== Proof.InGrad.lean ====
/- The gradient of the projections' weight: what the body adds to the accumulator at a point, the accumulator after the
   four points, and the result at an index. -/
module

public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal.Run
public import proofs.«01_k».proof.Proof.InProj
public import proofs.«01_k».proof.Defs

@[expose] public section

noncomputable section

namespace Cert.Kernel9Ideal.Grad

open Cert.Kernel9Ideal Cert.Kernel9Ideal.Gen Cert.Grad
open Idealize.ShloMosaic Idealize.ShloMosaic.TcCoe Idealize.SL.Sem

section Payloads

variable (a : Fin 512) (b : Fin 1024) (d : Vec Ideal S1024x1024 .bf16) (v : Vec Ideal S512x1024 .f32) (x : Vec Ideal S1024x512 .bf16)

theorem pay1_eq : k0_pay1 (F := Ideal) = fun _ => (0 : EReal) := by
  funext y
  obtain ⟨a, b, rfl⟩ : ∃ a b, y = ix2 a b := ⟨y 0, y 1, (ix2_eta y).symm⟩
  pointwise [k0_pay1]
theorem pay3_at (a : Fin 640) (v : Vec Ideal S640x1024 .f32) (x : Vec Ideal S1024x640 .bf16) :
    k0_pay3 d v x (ix2 a b) = v (ix2 a b) + ∑ k : Fin 1024, x (ix2 k a) * d (ix2 k b) := by pointwise [k0_pay3, k0_pay2]
theorem pay4_at : k0_pay4 d v x (ix2 a b) = v (ix2 a b) + ∑ k : Fin 1024, x (ix2 k a) * d (ix2 k b) := by pointwise [k0_pay4, k0_pay2]
theorem pay5_at : k0_pay6 (k0_pay5 d v x) (ix2 a b) = v (ix2 a b) + ∑ k : Fin 1024, x (ix2 k a) * d (ix2 k b) := by pointwise [k0_pay6, k0_pay5, k0_pay2]
theorem pay7_at : k0_pay7 (k0_pay2 d) v x (ix2 a b) = v (ix2 a b) + ∑ k : Fin 1024, x (ix2 k a) * d (ix2 k b) := by pointwise [k0_pay7, k0_pay2]
theorem pay8_at : k0_pay8 (k0_pay2 d) v x (ix2 a b) = v (ix2 a b) + ∑ k : Fin 1024, x (ix2 k a) * d (ix2 k b) := by pointwise [k0_pay8, k0_pay2]
theorem pay9_at (a : Fin 128) (v : Vec Ideal S128x1024 .f32) (x : Vec Ideal S1024x128 .bf16) :
    k0_pay9 (k0_pay2 d) v x (ix2 a b) = v (ix2 a b) + ∑ k : Fin 1024, x (ix2 k a) * d (ix2 k b) := by pointwise [k0_pay9, k0_pay2]
theorem pay10_eq (v : Vec Ideal S2816x1024 .f32) : k0_pay10 v = v := by
  funext y
  obtain ⟨a, b, rfl⟩ : ∃ a b, y = ix2 a b := ⟨y 0, y 1, (ix2_eta y).symm⟩
  pointwise [k0_pay10]

end Payloads

variable (x0 : Vec Ideal S1024x640 .bf16) (x1 x2 x3 x4 : Vec Ideal S1024x512 .bf16) (x5 : Vec Ideal S1024x128 .bf16)
  (x6 : Vec Ideal S1024x1024 .bf16) (xs : Vec Ideal S2816x1024 .f32)

/-- Row `j` of the stacked transposes of a point's six blocks, at token `k`. -/
def lhs (k : Fin 1024) (j : Fin 2816) : EReal :=
  Cert.Inp.cat (fun k a => x0 (ix2 k a)) (fun k a => x1 (ix2 k a)) (fun k a => x2 (ix2 k a)) (fun k a => x3 (ix2 k a))
    (fun k a => x4 (ix2 k a)) (fun k a => x5 (ix2 k a)) k j

theorem lhs_0 (k : Fin 1024) (j : Fin 2816) (a : Fin 640) (h : j.val = 0 + a.val) :
    lhs x0 x1 x2 x3 x4 x5 k j = x0 (ix2 k a) := by
  unfold lhs
  exact Cert.Inp.cat_0 _ _ _ _ _ _ k j a h
theorem lhs_1 (k : Fin 1024) (j : Fin 2816) (a : Fin 512) (h : j.val = 640 + a.val) :
    lhs x0 x1 x2 x3 x4 x5 k j = x1 (ix2 k a) := by
  unfold lhs
  exact Cert.Inp.cat_1 _ _ _ _ _ _ k j a h
theorem lhs_2 (k : Fin 1024) (j : Fin 2816) (a : Fin 512) (h : j.val = 1152 + a.val) :
    lhs x0 x1 x2 x3 x4 x5 k j = x2 (ix2 k a) := by
  unfold lhs
  exact Cert.Inp.cat_2 _ _ _ _ _ _ k j a h
theorem lhs_3 (k : Fin 1024) (j : Fin 2816) (a : Fin 512) (h : j.val = 1664 + a.val) :
    lhs x0 x1 x2 x3 x4 x5 k j = x3 (ix2 k a) := by
  unfold lhs
  exact Cert.Inp.cat_3 _ _ _ _ _ _ k j a h
theorem lhs_4 (k : Fin 1024) (j : Fin 2816) (a : Fin 512) (h : j.val = 2176 + a.val) :
    lhs x0 x1 x2 x3 x4 x5 k j = x4 (ix2 k a) := by
  unfold lhs
  exact Cert.Inp.cat_4 _ _ _ _ _ _ k j a h
theorem lhs_5 (k : Fin 1024) (j : Fin 2816) (a : Fin 128) (h : j.val = 2688 + a.val) :
    lhs x0 x1 x2 x3 x4 x5 k j = x5 (ix2 k a) := by
  unfold lhs
  exact Cert.Inp.cat_5 _ _ _ _ _ _ k j a h

/-- What a point adds to the accumulator: the product of its blocks, over the block's tokens. -/
def part (y : S2816x1024.Idx) : EReal := ∑ k : Fin 1024, lhs x0 x1 x2 x3 x4 x5 k (y 0) * x6 (ix2 k (y 1))

/-- The six stores of a point, over anything stored before: the accumulator and the point's part. -/
theorem step (T : List (View.Piece (Elt Ideal) S2816x1024 .f32)) :
    View.canon ([⟨Rect.unit ![2688, 0] ![128, 1024] inb_S2816x1024_S128x1024_2688_0, k0_pay9 (k0_pay2 x6) (View.ld xs (Rect.unit ![2688, 0] ![128, 1024] inb_S2816x1024_S128x1024_2688_0)) x5⟩,
        ⟨Rect.unit ![2176, 0] ![512, 1024] inb_S2816x1024_S512x1024_2176_0, k0_pay8 (k0_pay2 x6) (View.ld xs (Rect.unit ![2176, 0] ![512, 1024] inb_S2816x1024_S512x1024_2176_0)) x4⟩,
        ⟨Rect.unit ![1664, 0] ![512, 1024] inb_S2816x1024_S512x1024_1664_0, k0_pay7 (k0_pay2 x6) (View.ld xs (Rect.unit ![1664, 0] ![512, 1024] inb_S2816x1024_S512x1024_1664_0)) x3⟩,
        ⟨Rect.unit ![1152, 0] ![512, 1024] inb_S2816x1024_S512x1024_1152_0, k0_pay6 (k0_pay5 x6 (View.ld xs (Rect.unit ![1152, 0] ![512, 1024] inb_S2816x1024_S512x1024_1152_0)) x2)⟩,
        ⟨Rect.unit ![640, 0] ![512, 1024] inb_S2816x1024_S512x1024_640_0, k0_pay4 x6 (View.ld xs (Rect.unit ![640, 0] ![512, 1024] inb_S2816x1024_S512x1024_640_0)) x1⟩,
        ⟨Rect.unit ![0, 0] ![640, 1024] inb_S2816x1024_S640x1024_0_0, k0_pay3 x6 (View.ld xs (Rect.unit ![0, 0] ![640, 1024] inb_S2816x1024_S640x1024_0_0)) x0⟩] ++ T)
      = fun y => xs y + part x0 x1 x2 x3 x4 x5 x6 y := by
  funext y
  refine canon_append _ T y _ (View.cover_of_tiledBy _ ![128, 1024] (by sl_kernel_rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))
  · obtain ⟨a, b, rfl⟩ : ∃ a b, x = ix2 (n0 := 128) (n1 := 1024) a b := ⟨x 0, x 1, (ix2_eta x).symm⟩
    rw [pay9_at]
    refine congrArg₂ (· + ·) (View.ld_unit_apply_of xs _ _ _ _ y hx) (Finset.sum_congr rfl fun k _ => congrArg₂ (· * ·)
      (lhs_5 x0 x1 x2 x3 x4 x5 k (y 0) a (hx 0)).symm (congrArg (fun b => x6 (ix2 k b)) (Fin.ext ?_)))
    have := hx 1
    simpa using this.symm
  · obtain ⟨a, b, rfl⟩ : ∃ a b, x = ix2 (n0 := 512) (n1 := 1024) a b := ⟨x 0, x 1, (ix2_eta x).symm⟩
    rw [pay8_at]
    refine congrArg₂ (· + ·) (View.ld_unit_apply_of xs _ _ _ _ y hx) (Finset.sum_congr rfl fun k _ => congrArg₂ (· * ·)
      (lhs_4 x0 x1 x2 x3 x4 x5 k (y 0) a (hx 0)).symm (congrArg (fun b => x6 (ix2 k b)) (Fin.ext ?_)))
    have := hx 1
    simpa using this.symm
  · obtain ⟨a, b, rfl⟩ : ∃ a b, x = ix2 (n0 := 512) (n1 := 1024) a b := ⟨x 0, x 1, (ix2_eta x).symm⟩
    rw [pay7_at]
    refine congrArg₂ (· + ·) (View.ld_unit_apply_of xs _ _ _ _ y hx) (Finset.sum_congr rfl fun k _ => congrArg₂ (· * ·)
      (lhs_3 x0 x1 x2 x3 x4 x5 k (y 0) a (hx 0)).symm (congrArg (fun b => x6 (ix2 k b)) (Fin.ext ?_)))
    have := hx 1
    simpa using this.symm
  · obtain ⟨a, b, rfl⟩ : ∃ a b, x = ix2 (n0 := 512) (n1 := 1024) a b := ⟨x 0, x 1, (ix2_eta x).symm⟩
    rw [pay5_at]
    refine congrArg₂ (· + ·) (View.ld_unit_apply_of xs _ _ _ _ y hx) (Finset.sum_congr rfl fun k _ => congrArg₂ (· * ·)
      (lhs_2 x0 x1 x2 x3 x4 x5 k (y 0) a (hx 0)).symm (congrArg (fun b => x6 (ix2 k b)) (Fin.ext ?_)))
    have := hx 1
    simpa using this.symm
  · obtain ⟨a, b, rfl⟩ : ∃ a b, x = ix2 (n0 := 512) (n1 := 1024) a b := ⟨x 0, x 1, (ix2_eta x).symm⟩
    rw [pay4_at]
    refine congrArg₂ (· + ·) (View.ld_unit_apply_of xs _ _ _ _ y hx) (Finset.sum_congr rfl fun k _ => congrArg₂ (· * ·)
      (lhs_1 x0 x1 x2 x3 x4 x5 k (y 0) a (hx 0)).symm (congrArg (fun b => x6 (ix2 k b)) (Fin.ext ?_)))
    have := hx 1
    simpa using this.symm
  · obtain ⟨a, b, rfl⟩ : ∃ a b, x = ix2 (n0 := 640) (n1 := 1024) a b := ⟨x 0, x 1, (ix2_eta x).symm⟩
    rw [pay3_at]
    refine congrArg₂ (· + ·) (View.ld_unit_apply_of xs _ _ _ _ y hx) (Finset.sum_congr rfl fun k _ => congrArg₂ (· * ·)
      (lhs_0 x0 x1 x2 x3 x4 x5 k (y 0) a (hx 0)).symm (congrArg (fun b => x6 (ix2 k b)) (Fin.ext ?_)))
    have := hx 1
    simpa using this.symm

section Points

variable (c : Dev nD) (i : grid0.Coords) (arg1 : Memref sig .tc .vmem S1024x640 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S2816x1024 .bf16) (harg8 : arg8.IsWhole) (arg9 : Memref sig .tc .vmem S2816x1024 .f32) (harg9 : arg9.IsWhole)

theorem scratch_A (h0 h1) : sout0_A_0 (F := Ideal) c i arg1 harg1 arg2 harg2 arg3 harg3 arg4 harg4 arg5 harg5 arg6 harg6 arg7 harg7 arg8 harg8 arg9 harg9 h0 h1 x0 x1 x2 x3 x4 x5 x6 = fun y => 0 + part x0 x1 x2 x3 x4 x5 x6 y := by
  frame_out
  repeat first
    | rw [readCov_whole _ (by decide)]
    | rw [readCov_skip _ _ _ _ _ (by decide)]
  rw [pay1_eq]
  exact step x0 x1 x2 x3 x4 x5 x6 _ [_]

theorem scratch_B (h0 h1) : sout0_B_0 (F := Ideal) c i arg1 harg1 arg2 harg2 arg3 harg3 arg4 harg4 arg5 harg5 arg6 harg6 arg7 harg7 arg8 harg8 arg9 harg9 h0 h1 x0 x1 x2 x3 x4 x5 x6 xs = fun y => xs y + part x0 x1 x2 x3 x4 x5 x6 y := by
  frame_out
  exact step x0 x1 x2 x3 x4 x5 x6 xs []

theorem scratch_C (h0 h1) : sout0_C_0 (F := Ideal) c i arg1 harg1 arg2 harg2 arg3 harg3 arg4 harg4 arg5 harg5 arg6 harg6 arg7 harg7 arg8 harg8 arg9 harg9 h0 h1 x0 x1 x2 x3 x4 x5 x6 xs = fun y => xs y + part x0 x1 x2 x3 x4 x5 x6 y := by
  frame_out
  exact step x0 x1 x2 x3 x4 x5 x6 xs []

theorem out_C (h0 h1) : out0_C_7 (F := Ideal) c i arg1 harg1 arg2 harg2 arg3 harg3 arg4 harg4 arg5 harg5 arg6 harg6 arg7 harg7 arg8 harg8 arg9 harg9 h0 h1 x0 x1 x2 x3 x4 x5 x6 xs = fun y => xs y + part x0 x1 x2 x3 x4 x5 x6 y := by
  frame_out
  rw [pay10_eq, View.readCov_eq_canon_ld _ _ _ (View.cover_of_tiledBy _ ![128, 1024] (by sl_kernel_rfl)), View.ld_unit_lit _ _ (by decide)]
  exact step x0 x1 x2 x3 x4 x5 x6 xs []

end Points

variable (m : (ℓ : Loc nD τ sig) → Buf (Elt Ideal) ℓ) (c : Dev nD)

/-- What point `n` adds. -/
def at_ (n : Nat) (h : n < cfg0.N) : S2816x1024.Idx → EReal :=
  part (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)

theorem scratch_first (n : Nat) (h : n < cfg0.N) (h0 : n % 4 = 0) : (outsAt0 m c n h).2 = fun y => 0 + at_ m c n h y := by
  rw [outsAt0_A m c ⟨n, h⟩ h0 (by show ¬ n % 4 = 3; omega)]
  dsimp only
  rw [scratch_A]
  rfl

theorem scratch_next (n : Nat) (h : n + 1 < cfg0.N) (h0 : ¬ (n + 1) % 4 = 0) :
    (outsAt0 m c (n + 1) h).2 = fun y => (outsAt0 m c n (Nat.lt_of_succ_lt h)).2 y + at_ m c (n + 1) h y := by
  by_cases h1 : (n + 1) % 4 = 3
  · rw [outsAt0_C m c ⟨n + 1, h⟩ h0 h1]
    dsimp only
    rw [scratch_C]
    rfl
  · rw [outsAt0_B m c ⟨n + 1, h⟩ h0 h1]
    dsimp only
    rw [scratch_B]
    rfl

theorem out_last (n : Nat) (h : n < cfg0.N) (h1 : n % 4 = 3) : (outsAt0 m c n h).1 = (outsAt0 m c n h).2 := by
  rw [outsAt0_C m c ⟨n, h⟩ (by show ¬ n % 4 = 0; omega) h1]
  dsimp only
  rw [out_C, scratch_C]

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! The operands' elements: the six pieces and the normed rows. -/

def arg0 (r : Fin 4096) (a : Fin 640) : EReal := m ((c.tc : Thread nD τ).loc main_arg0) (ix2 r a)
def arg1 (r : Fin 4096) (a : Fin 512) : EReal := m ((c.tc : Thread nD τ).loc main_arg1) (ix2 r a)
def arg2 (r : Fin 4096) (a : Fin 512) : EReal := m ((c.tc : Thread nD τ).loc main_arg2) (ix2 r a)
def arg3 (r : Fin 4096) (a : Fin 512) : EReal := m ((c.tc : Thread nD τ).loc main_arg3) (ix2 r a)
def arg4 (r : Fin 4096) (a : Fin 512) : EReal := m ((c.tc : Thread nD τ).loc main_arg4) (ix2 r a)
def arg5 (r : Fin 4096) (a : Fin 128) : EReal := m ((c.tc : Thread nD τ).loc main_arg5) (ix2 r a)
def arg6 (r : Fin 4096) (a : Fin 1024) : EReal := m ((c.tc : Thread nD τ).loc main_arg6) (ix2 r a)

theorem entry0 (r : Fin 4096) (a : Fin 640) : V m c main_v0 (ix2 r a) = arg0 m c r a := by
  unfold arg0
  entry_read
  pointwise
theorem entry1 (r : Fin 4096) (a : Fin 512) : V m c main_v1 (ix2 r a) = arg1 m c r a := by
  unfold arg1
  entry_read
  pointwise
theorem entry2 (r : Fin 4096) (a : Fin 512) : V m c main_v2 (ix2 r a) = arg2 m c r a := by
  unfold arg2
  entry_read
  pointwise
theorem entry3 (r : Fin 4096) (a : Fin 512) : V m c main_v3 (ix2 r a) = arg3 m c r a := by
  unfold arg3
  entry_read
  pointwise
theorem entry4 (r : Fin 4096) (a : Fin 512) : V m c main_v4 (ix2 r a) = arg4 m c r a := by
  unfold arg4
  entry_read
  pointwise
theorem entry5 (r : Fin 4096) (a : Fin 128) : V m c main_v5 (ix2 r a) = arg5 m c r a := by
  unfold arg5
  entry_read
  pointwise
theorem entry6 (r : Fin 4096) (a : Fin 1024) : V m c main_v6 (ix2 r a) = arg6 m c r a := by
  unfold arg6
  entry_read
  pointwise

theorem blk0 (t : Fin 4) (h : t.val < cfg0.N) (k : Fin 1024) (a : Fin 640) : (iblk m c 0 ⟨t.val, h⟩ (ix2 k a) : EReal) = arg0 m c (row t k) a := by
  obtain ⟨⟨e0, e1⟩, -⟩ := idx ⟨t.val, h⟩
  rw [← entry0]
  blk_ext [iblk, e0, e1, row]
theorem blk1 (t : Fin 4) (h : t.val < cfg0.N) (k : Fin 1024) (a : Fin 512) : (iblk m c 1 ⟨t.val, h⟩ (ix2 k a) : EReal) = arg1 m c (row t k) a := by
  obtain ⟨-, ⟨e0, e1⟩, -⟩ := idx ⟨t.val, h⟩
  rw [← entry1]
  blk_ext [iblk, e0, e1, row]
theorem blk2 (t : Fin 4) (h : t.val < cfg0.N) (k : Fin 1024) (a : Fin 512) : (iblk m c 2 ⟨t.val, h⟩ (ix2 k a) : EReal) = arg2 m c (row t k) a := by
  obtain ⟨-, -, ⟨e0, e1⟩, -⟩ := idx ⟨t.val, h⟩
  rw [← entry2]
  blk_ext [iblk, e0, e1, row]
theorem blk3 (t : Fin 4) (h : t.val < cfg0.N) (k : Fin 1024) (a : Fin 512) : (iblk m c 3 ⟨t.val, h⟩ (ix2 k a) : EReal) = arg3 m c (row t k) a := by
  obtain ⟨-, -, -, ⟨e0, e1⟩, -⟩ := idx ⟨t.val, h⟩
  rw [← entry3]
  blk_ext [iblk, e0, e1, row]
theorem blk4 (t : Fin 4) (h : t.val < cfg0.N) (k : Fin 1024) (a : Fin 512) : (iblk m c 4 ⟨t.val, h⟩ (ix2 k a) : EReal) = arg4 m c (row t k) a := by
  obtain ⟨-, -, -, -, ⟨e0, e1⟩, -⟩ := idx ⟨t.val, h⟩
  rw [← entry4]
  blk_ext [iblk, e0, e1, row]
theorem blk5 (t : Fin 4) (h : t.val < cfg0.N) (k : Fin 1024) (a : Fin 128) : (iblk m c 5 ⟨t.val, h⟩ (ix2 k a) : EReal) = arg5 m c (row t k) a := by
  obtain ⟨-, -, -, -, -, ⟨e0, e1⟩, -⟩ := idx ⟨t.val, h⟩
  rw [← entry5]
  blk_ext [iblk, e0, e1, row]
theorem blk6 (t : Fin 4) (h : t.val < cfg0.N) (k : Fin 1024) (a : Fin 1024) : (iblk m c 6 ⟨t.val, h⟩ (ix2 k a) : EReal) = arg6 m c (row t k) a := by
  obtain ⟨-, -, -, -, -, -, ⟨e0, e1⟩⟩ := idx ⟨t.val, h⟩
  rw [← entry6]
  blk_ext [iblk, e0, e1, row]

/-- The pieces side by side. -/
def pieces (r : Fin 4096) (j : Fin 2816) : EReal :=
  Cert.Inp.cat (arg0 m c) (arg1 m c) (arg2 m c) (arg3 m c) (arg4 m c) (arg5 m c) r j

/-- The part of a point, at the operands. -/
theorem at_eq (t : Fin 4) (h : t.val < cfg0.N) (j : Fin 2816) (b : Fin 1024) :
    at_ m c t.val h (ix2 j b) = ∑ k : Fin 1024, pieces m c (row t k) j * arg6 m c (row t k) b := by
  unfold at_ part
  refine Finset.sum_congr rfl fun k _ => congrArg₂ (fun u v : EReal => u * v) ?_ (blk6 m c t h k b)
  unfold lhs pieces Cert.Inp.cat
  simp only [blk0, blk1, blk2, blk3, blk4, blk5]
  rfl

/-- The result at an index: over all the tokens, the product of the two operands. -/
theorem value (j : Fin 2816) (b : Fin 1024) :
    (Value.G7 m c (ix2 j b) : EReal) = ∑ r : Fin 4096, pieces m c r j * arg6 m c r b := by
  have hN : cfg0.N = 4 := N_0
  have hq : Value.pt7Of (ix2 j b) = 3 := by
    show 4 * (1 * (j.val / 2816 - 0) + 1 * (b.val / 1024 - 0)) + 3 = _
    omega
  have hp : 4 * 0 + 3 < cfg0.N := by omega
  unfold Value.G7
  rw [dif_pos (hq ▸ hp), ← Value.outsAt0_sweep m c _ (hq ▸ hp)]
  have e : ∀ n (h : n < cfg0.N), n = 4 * 0 + 3 → outsAt0 m c n h = outsAt0 m c _ hp := by rintro n h rfl; rfl
  rw [e _ _ hq, out_last m c _ _ (by omega),
    run_sum (fun n h => (outsAt0 m c n h).2) (at_ m c) (scratch_first m c) (scratch_next m c), ← sum_rows]
  have hl : Value.loc7Of (ix2 j b) = ix2 j b := by
    funext i
    match i with
    | 0 => exact Fin.ext (show j.val % 2816 = j.val by omega)
    | 1 => exact Fin.ext (show b.val % 1024 = b.val by omega)
  rw [hl]
  refine Finset.sum_congr (M := EReal) rfl fun t _ => ?_
  have e2 : ∀ n (h : n < cfg0.N) (h' : t.val < cfg0.N), n = t.val → at_ m c n h = at_ m c t.val h' := by rintro n h h' rfl; rfl
  rw [e2 _ _ (by omega) (by omega)]
  exact at_eq m c t _ j b

end Cert.Kernel9Ideal.Grad

namespace Cert.Reference9Ideal.Grad

open Cert.Reference9Ideal Cert.Reference9Ideal.Gen Idealize.ShloMosaic

/-- The pieces side by side. -/
def cat {F : FTy → Type} [FloatOps F] (x0 : FVec F S4096x640 .f32) (x1 x2 x3 x4 : FVec F S4096x512 .f32) (x5 : FVec F S4096x128 .f32) : FVec F S4096x2816 .f32 :=
  concatenate S4096x2816 1 [⟨S4096x640, (x0 : (⟨S4096x640, .f32⟩ : BufTy).Contents (Elt F))⟩, ⟨S4096x512, (x1 : (⟨S4096x512, .f32⟩ : BufTy).Contents (Elt F))⟩, ⟨S4096x512, (x2 : (⟨S4096x512, .f32⟩ : BufTy).Contents (Elt F))⟩, ⟨S4096x512, (x3 : (⟨S4096x512, .f32⟩ : BufTy).Contents (Elt F))⟩, ⟨S4096x512, (x4 : (⟨S4096x512, .f32⟩ : BufTy).Contents (Elt F))⟩, ⟨S4096x128, (x5 : (⟨S4096x128, .f32⟩ : BufTy).Contents (Elt F))⟩] concatenates_S4096x640_S4096x512_S4096x512_S4096x512_S4096x512_S4096x128_S4096x2816_d1

variable (x0 : FVec Ideal S4096x640 .f32) (x1 x2 x3 x4 : FVec Ideal S4096x512 .f32) (x5 : FVec Ideal S4096x128 .f32) (xn : FVec Ideal S4096x1024 .f32)

/-- The elements of a piece. -/
def el {n : Nat} (x : (⟨2, ![4096, n]⟩ : Shape).Idx → EReal) (r : Fin 4096) (a : Fin n) : EReal := x (ix2 r a)

theorem cat_at (r : Fin 4096) (j : Fin 2816) : (cat (F := Ideal) x0 x1 x2 x3 x4 x5 (ix2 r j) : EReal)
    = Cert.Inp.cat (el x0) (el x1) (el x2) (el x3) (el x4) (el x5) r j := by
  pointwise [cat]
  unfold Cert.Inp.cat
  split_ifs
  all_goals rfl

/-- The reference's result at an index. -/
theorem value (j : Fin 2816) (b : Fin 1024) :
    (truncf .bf16 (transpose S2816x1024 [1, 0] (transpose S1024x2816 [1, 0] (Host.dotGeneral dot_S4096x2816_S4096x1024_S2816x1024_0_0_1_1_n_n none (cat (F := Ideal) x0 x1 x2 x3 x4 x5) xn) transposes_S2816x1024_S1024x2816_1_0) transposes_S1024x2816_S2816x1024_1_0) bitsLt_bf16_f32) (ix2 j b)
      = ∑ r : Fin 4096, Cert.Inp.cat (el x0) (el x1) (el x2) (el x3) (el x4) (el x5) r j * xn (ix2 r b) := by
  pointwise
  simp only [cat_at]

end Cert.Reference9Ideal.Grad

namespace Cert.Inp

open Idealize.ShloMosaic Idealize.ShloMosaic.TcCoe Idealize.SL.Sem

theorem wgrad : Cert.algebraic_Kernel9Ideal_Reference9Ideal := by
  intro m g m' g' _ hag
  refine ⟨_, Cert.Kernel9Ideal.Value.run m g, ?_⟩
  refine (θ_run Cert.Reference9Ideal.defs _ _).mono (fun _ h c => ?_) (Cert.Reference9Ideal.Value.run (F := Ideal) m' g')
  obtain ⟨a0, a1, a2, a3, a4, a5, a6⟩ := hag c
  refine ⟨(h c).1.trans ?_, (h c).2⟩
  funext i
  obtain ⟨j, b, rfl⟩ : ∃ j b, i = ix2 j b := ⟨i 0, i 1, (ix2_eta i).symm⟩
  refine (Cert.Reference9Ideal.Grad.value _ _ _ _ _ _ _ j b).trans (Eq.trans ?_ (Cert.Kernel9Ideal.Grad.value m c j b).symm)
  rw [a0, a1, a2, a3, a4, a5, a6]
  rfl

/-- The reference's run keeps its arguments; it declares no semaphore. -/
theorem wgrad_frame : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

end Cert.Inp

end
-- ==== Proof.Attn.lean ====
/- Causal attention and its gradients over the extended reals, as sums and quotients of the inputs' elements, in the two
   orders of computation that the reference and the kernel use; and that the two agree at finite inputs. -/
module

public import Idealize.ShloMosaic.Lib.Pointwise

@[expose] public section

noncomputable section

namespace Cert.Attn

open Idealize.ShloMosaic

/-- The scale of the scores, `192 ^ (-1/2)` as a 32-bit float. -/
def scale : EReal := Ideal.ofBits .f32 0x3D93CD3A#32

theorem scale_real : ∃ x : ℝ, scale = (x : EReal) := by
  simp [scale, Ideal.ofBits, Ideal.ieee]
  exact ⟨_, rfl⟩

theorem negInf : Ideal.ofBits .f32 0xFF800000#32 = ⊥ := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (q k : Fin 2 → Fin 2048 → Fin 4 → Fin 192 → EReal) (v g : Fin 2 → Fin 2048 → Fin 4 → Fin 128 → EReal)

/-- The scaled score of query `r` against key `c`, `-∞` where the key comes after the query. -/
def msk (b : Fin 2) (h : Fin 4) (r c : Fin 2048) : EReal :=
  if c ≤ r then (∑ d, q b r h d * k b c h d) * scale else ⊥
/-- The greatest score of a query. -/
def mx (b : Fin 2) (h : Fin 4) (r : Fin 2048) : EReal := Finset.fold max ⊥ (fun c => msk q k b h r c) Finset.univ
/-- The weights before they are normalised. -/
def ex (b : Fin 2) (h : Fin 4) (r c : Fin 2048) : EReal := Ideal.exp (msk q k b h r c - mx q k b h r)
/-- The normaliser of a query. -/
def den (b : Fin 2) (h : Fin 4) (r : Fin 2048) : EReal := ∑ c, ex q k b h r c
/-- The weights. -/
def prb (b : Fin 2) (h : Fin 4) (r c : Fin 2048) : EReal := Ideal.div (ex q k b h r c) (den q k b h r)
/-- The gradient of a weight. -/
def dpr (b : Fin 2) (h : Fin 4) (r c : Fin 2048) : EReal := ∑ d, g b r h d * v b c h d
/-- The gradient of a score, as the derivative of the softmax is taken term by term. -/
def dsc (b : Fin 2) (h : Fin 4) (r c : Fin 2048) : EReal :=
  (if c ≤ r then
      (Ideal.div (dpr v g b h r c) (den q k b h r)
        + -(∑ c', dpr v g b h r c' * Ideal.div 1 (den q k b h r * den q k b h r) * ex q k b h r c'))
      * ex q k b h r c
    else 0) * scale
/-- The gradients of the queries, the keys and the values. -/
def dqR (b : Fin 2) (r : Fin 2048) (h : Fin 4) (d : Fin 192) : EReal := ∑ c, dsc q k v g b h r c * k b c h d
def dkR (b : Fin 2) (c : Fin 2048) (h : Fin 4) (d : Fin 192) : EReal := ∑ r, dsc q k v g b h r c * q b r h d
def dvR (b : Fin 2) (c : Fin 2048) (h : Fin 4) (d : Fin 128) : EReal := ∑ r, g b r h d * prb q k b h r c

/-- What the kernel is handed: the logarithm of each query's normaliser, and the output. -/
def lse (b : Fin 2) (h : Fin 4) (r : Fin 2048) : EReal := mx q k b h r + Ideal.log (den q k b h r)
def out (b : Fin 2) (h : Fin 4) (r : Fin 2048) (d : Fin 128) : EReal := ∑ c, v b c h d * prb q k b h r c
/-- The kernel's weights, taken anew from the scores. -/
def prbK (b : Fin 2) (h : Fin 4) (r c : Fin 2048) : EReal :=
  if c ≤ r then Ideal.exp ((∑ d, k b c h d * q b r h d) * scale - lse q k b h r) else 0
/-- The kernel's gradient of a weight and of a score. -/
def dprK (b : Fin 2) (h : Fin 4) (r c : Fin 2048) : EReal := ∑ d, v b c h d * g b r h d
def dscK (b : Fin 2) (h : Fin 4) (r c : Fin 2048) : EReal :=
  prbK q k b h r c * (dprK v g b h r c - ∑ d, g b r h d * out q k v b h r d) * scale

/-- Every element of the array is a real number. -/
def Real4 {n : ℕ} (x : Fin 2 → Fin 2048 → Fin 4 → Fin n → EReal) : Prop :=
  ∃ X : Fin 2 → Fin 2048 → Fin 4 → Fin n → ℝ, x = fun b r h d => ((X b r h d : ℝ) : EReal)

variable {q k v g}

theorem mx_real (hq : Real4 q) (hk : Real4 k) (b : Fin 2) (h : Fin 4) (r : Fin 2048) : ∃ M : ℝ, mx q k b h r = (M : EReal) := by
  obtain ⟨Q, rfl⟩ := hq
  obtain ⟨K, rfl⟩ := hk
  obtain ⟨σ, hσ⟩ := scale_real
  have hs : ∀ c, c ≤ r → ∃ x : ℝ, msk (fun b r h d => ((Q b r h d : ℝ) : EReal)) (fun b r h d => ((K b r h d : ℝ) : EReal)) b h r c = (x : EReal) := by
    intro c hc
    refine ⟨(∑ d, Q b r h d * K b c h d) * σ, ?_⟩
    rw [msk, if_pos hc, hσ, EReal.coe_mul, coe_sum]
    simp only [EReal.coe_mul]
  have htop : mx (fun b r h d => ((Q b r h d : ℝ) : EReal)) (fun b r h d => ((K b r h d : ℝ) : EReal)) b h r ≠ ⊤ := by
    refine ne_of_lt ((Finset.fold_max_lt _).mpr ⟨bot_lt_top, fun c _ => ?_⟩)
    by_cases hc : c ≤ r
    · obtain ⟨x, hx⟩ := hs c hc
      rw [hx]; exact EReal.coe_lt_top x
    · rw [msk, if_neg hc]; exact bot_lt_top
  have hbot : mx (fun b r h d => ((Q b r h d : ℝ) : EReal)) (fun b r h d => ((K b r h d : ℝ) : EReal)) b h r ≠ ⊥ := by
    obtain ⟨x, hx⟩ := hs r le_rfl
    have : (x : EReal) ≤ mx (fun b r h d => ((Q b r h d : ℝ) : EReal)) (fun b r h d => ((K b r h d : ℝ) : EReal)) b h r :=
      (Finset.le_fold_max _).mpr (Or.inr ⟨r, Finset.mem_univ _, hx.ge⟩)
    exact ne_of_gt (lt_of_lt_of_le (EReal.bot_lt_coe x) this)
  exact ⟨_, (EReal.coe_toReal htop hbot).symm⟩

/-- At finite inputs the weights are real quotients, and the kernel's weights are the reference's. -/
theorem weights (hq : Real4 q) (hk : Real4 k) (b : Fin 2) (h : Fin 4) (r : Fin 2048) :
    ∃ (E : Fin 2048 → ℝ) (L : ℝ), L ≠ 0 ∧ (∀ c, ex q k b h r c = (E c : EReal)) ∧ den q k b h r = (L : EReal)
      ∧ (∀ c, ¬ c ≤ r → E c = 0) ∧ ∀ c, prbK q k b h r c = ((E c / L : ℝ) : EReal) := by
  obtain ⟨M, hM⟩ := mx_real hq hk b h r
  obtain ⟨Q, rfl⟩ := hq
  obtain ⟨K, rfl⟩ := hk
  obtain ⟨σ, hσ⟩ := scale_real
  let S : Fin 2048 → ℝ := fun c => (∑ d, Q b r h d * K b c h d) * σ
  let E : Fin 2048 → ℝ := fun c => if c ≤ r then Real.exp (S c - M) else 0
  have hS : ∀ c, (∑ d, (Q b r h d : EReal) * (K b c h d : EReal)) * scale = (S c : EReal) := by
    intro c
    show _ = (((∑ d, Q b r h d * K b c h d) * σ : ℝ) : EReal)
    rw [hσ, EReal.coe_mul, coe_sum]
    simp only [EReal.coe_mul]
  have hE : ∀ c, ex (fun b r h d => ((Q b r h d : ℝ) : EReal)) (fun b r h d => ((K b r h d : ℝ) : EReal)) b h r c = (E c : EReal) := by
    intro c
    rw [ex, hM, msk]
    by_cases hc : c ≤ r
    · rw [if_pos hc, hS, ← EReal.coe_sub, Ideal.exp_coe]
      show _ = ((if c ≤ r then Real.exp (S c - M) else 0 : ℝ) : EReal)
      rw [if_pos hc]
    · rw [if_neg hc, EReal.bot_sub, Ideal.exp_bot]
      show _ = ((if c ≤ r then Real.exp (S c - M) else 0 : ℝ) : EReal)
      rw [if_neg hc, EReal.coe_zero]
  have hL : den (fun b r h d => ((Q b r h d : ℝ) : EReal)) (fun b r h d => ((K b r h d : ℝ) : EReal)) b h r = ((∑ c, E c : ℝ) : EReal) := by
    rw [den, coe_sum]
    exact Finset.sum_congr rfl fun c _ => hE c
  have hE0 : ∀ c, 0 ≤ E c := fun c => by
    show 0 ≤ (if c ≤ r then Real.exp (S c - M) else 0)
    by_cases hc : c ≤ r
    · rw [if_pos hc]; exact (Real.exp_pos _).le
    · rw [if_neg hc]
  have hLpos : 0 < ∑ c, E c := by
    refine Finset.sum_pos' (fun c _ => hE0 c) ⟨r, Finset.mem_univ _, ?_⟩
    show 0 < (if r ≤ r then Real.exp (S r - M) else 0)
    rw [if_pos le_rfl]; exact Real.exp_pos _
  refine ⟨E, ∑ c, E c, hLpos.ne', hE, hL, fun c hc => if_neg hc, fun c => ?_⟩
  rw [prbK]
  by_cases hc : c ≤ r
  · rw [if_pos hc, lse, hL, hM, Ideal.log_coe, if_neg (not_le.mpr hLpos)]
    have : (∑ d, (K b c h d : EReal) * (Q b r h d : EReal)) = ∑ d, (Q b r h d : EReal) * (K b c h d : EReal) :=
      Finset.sum_congr rfl fun d _ => mul_comm _ _
    rw [this, hS, ← EReal.coe_add, ← EReal.coe_sub, Ideal.exp_coe]
    refine congrArg _ ?_
    show Real.exp (S c - (M + Real.log (∑ c, E c))) = (if c ≤ r then Real.exp (S c - M) else 0) / ∑ c, E c
    rw [if_pos hc, ← sub_sub, Real.exp_sub _ (Real.log _), Real.exp_log hLpos]
  · rw [if_neg hc]
    show (0 : EReal) = (((if c ≤ r then Real.exp (S c - M) else 0) / ∑ c, E c : ℝ) : EReal)
    rw [if_neg hc, zero_div, EReal.coe_zero]

theorem div_real (a b : ℝ) (hb : b ≠ 0) : Ideal.div (a : EReal) (b : EReal) = ((a / b : ℝ) : EReal) := by
  rw [Ideal.div_coe hb, ← EReal.coe_mul]; congr 1; field_simp

/-- The kernel's weights are the reference's. -/
theorem prbK_eq (hq : Real4 q) (hk : Real4 k) (b : Fin 2) (h : Fin 4) (r c : Fin 2048) :
    prbK q k b h r c = prb q k b h r c := by
  obtain ⟨E, L, hL0, hE, hL, _, hP⟩ := weights hq hk b h r
  rw [hP, prb, hE, hL, div_real _ _ hL0]

/-- At finite inputs every weight is real. -/
theorem prb_real (hq : Real4 q) (hk : Real4 k) (b : Fin 2) (h : Fin 4) (r c : Fin 2048) :
    ∃ x : ℝ, prb q k b h r c = (x : EReal) := by
  obtain ⟨E, L, hL0, hE, hL, _, hP⟩ := weights hq hk b h r
  exact ⟨_, by rw [← prbK_eq hq hk, hP]⟩

/-- The kernel's gradient of a score is the reference's, and is real. -/
theorem dscK_eq (hq : Real4 q) (hk : Real4 k) (hv : Real4 v) (hg : Real4 g) (b : Fin 2) (h : Fin 4) (r c : Fin 2048) :
    dscK q k v g b h r c = dsc q k v g b h r c ∧ ∃ x : ℝ, dsc q k v g b h r c = (x : EReal) := by
  obtain ⟨E, L, hL0, hE, hL, hEm, hP⟩ := weights hq hk b h r
  obtain ⟨V, rfl⟩ := hv
  obtain ⟨G, rfl⟩ := hg
  obtain ⟨σ, hσ⟩ := scale_real
  let D : Fin 2048 → ℝ := fun c => ∑ d, G b r h d * V b c h d
  have hD : ∀ c, dpr (fun b r h d => ((V b r h d : ℝ) : EReal)) (fun b r h d => ((G b r h d : ℝ) : EReal)) b h r c = (D c : EReal) := by
    intro c
    show _ = ((∑ d, G b r h d * V b c h d : ℝ) : EReal)
    rw [dpr, coe_sum]; simp only [EReal.coe_mul]
  have hDK : dprK (fun b r h d => ((V b r h d : ℝ) : EReal)) (fun b r h d => ((G b r h d : ℝ) : EReal)) b h r c = (D c : EReal) := by
    rw [← hD, dprK, dpr]
    exact Finset.sum_congr rfl fun d _ => mul_comm _ _
  have hO : ∀ d, out q k (fun b r h d => ((V b r h d : ℝ) : EReal)) b h r d = ((∑ c, V b c h d * (E c / L) : ℝ) : EReal) := by
    intro d
    rw [out, coe_sum]
    refine Finset.sum_congr rfl fun c _ => ?_
    rw [← prbK_eq hq hk, hP, EReal.coe_mul]
  have hsum : (∑ d, ((G b r h d : ℝ) : EReal) * out q k (fun b r h d => ((V b r h d : ℝ) : EReal)) b h r d)
      = ((∑ d, G b r h d * ∑ c, V b c h d * (E c / L) : ℝ) : EReal) := by
    rw [coe_sum]
    exact Finset.sum_congr rfl fun d _ => by rw [hO, EReal.coe_mul]
  have hR : dsc q k (fun b r h d => ((V b r h d : ℝ) : EReal)) (fun b r h d => ((G b r h d : ℝ) : EReal)) b h r c
      = (((D c / L + -∑ c', D c' * (1 / (L * L)) * E c') * E c * σ : ℝ) : EReal) := by
    have hLL : L * L ≠ 0 := mul_ne_zero hL0 hL0
    have hT : (∑ c', dpr (fun b r h d => ((V b r h d : ℝ) : EReal)) (fun b r h d => ((G b r h d : ℝ) : EReal)) b h r c'
          * Ideal.div 1 (den q k b h r * den q k b h r) * ex q k b h r c') = ((∑ c', D c' * (1 / (L * L)) * E c' : ℝ) : EReal) := by
      rw [coe_sum]
      refine Finset.sum_congr rfl fun c' _ => ?_
      rw [hD, hE, hL, ← EReal.coe_mul, ← EReal.coe_one, div_real _ _ hLL, ← EReal.coe_mul, ← EReal.coe_mul]
    rw [dsc, hσ, hT, hD, hE, hL, div_real _ _ hL0, ← EReal.coe_neg, ← EReal.coe_add, ← EReal.coe_mul]
    by_cases hc : c ≤ r
    · rw [if_pos hc, ← EReal.coe_mul]
    · rw [if_neg hc, hEm c hc, mul_zero, zero_mul, zero_mul, EReal.coe_zero]
  refine ⟨?_, _, hR⟩
  rw [hR, dscK, hP, hDK, hsum, hσ, ← EReal.coe_sub, ← EReal.coe_mul, ← EReal.coe_mul]
  refine congrArg _ ?_
  have e : (∑ d, G b r h d * ∑ c, V b c h d * (E c / L)) = (∑ c', D c' * (1 / (L * L)) * E c') * L := by
    simp only [Finset.mul_sum, Finset.sum_mul, D]
    rw [Finset.sum_comm]
    refine Finset.sum_congr rfl fun c' _ => Finset.sum_congr rfl fun d _ => ?_
    field_simp
  rw [e]
  field_simp
  ring

/-! ## Lanes -/

/-- The 192 elements of a head laid out in 256 lanes: 160, then 32 zeros, then 32, then 32 zeros. -/
def lane (x : Fin 192 → EReal) (l : Fin 256) : EReal :=
  if h : l.val < 160 then x ⟨l.val, by omega⟩
  else if l.val < 192 then 0
  else if h : l.val < 224 then x ⟨l.val - 32, by omega⟩
  else 0

/-- A function of 256 lanes that vanishes on the padding sums to its sum over the 192 elements. -/
theorem sum_lanes (f : Fin 256 → EReal) (y : Fin 192 → EReal)
    (h1 : ∀ (l : Fin 256) (h : l.val < 160), f l = y ⟨l.val, by omega⟩)
    (h2 : ∀ l : Fin 256, 160 ≤ l.val → l.val < 192 → f l = 0)
    (h3 : ∀ (l : Fin 256) (_ : 192 ≤ l.val) (h : l.val < 224), f l = y ⟨l.val - 32, by omega⟩)
    (h4 : ∀ l : Fin 256, 224 ≤ l.val → f l = 0) : ∑ l, f l = ∑ d, y d := by
  have e1 : (∑ l : Fin 256, f l) = (∑ a : Fin 160, f ⟨a.val, by omega⟩) + ((∑ a : Fin 32, f ⟨160 + a.val, by omega⟩)
      + ((∑ a : Fin 32, f ⟨160 + (32 + a.val), by omega⟩) + ∑ a : Fin 32, f ⟨160 + (32 + (32 + a.val)), by omega⟩)) := by
    refine (Fin.sum_univ_add (a := 160) (b := 96) f).trans (congrArg₂ (· + ·) rfl ?_)
    refine (Fin.sum_univ_add (a := 32) (b := 64) fun a => f (Fin.natAdd 160 a)).trans (congrArg₂ (· + ·) rfl ?_)
    exact Fin.sum_univ_add (a := 32) (b := 32) fun a => f (Fin.natAdd 160 (Fin.natAdd 32 a))
  have e2 : (∑ d : Fin 192, y d) = (∑ a : Fin 160, y ⟨a.val, by omega⟩) + ∑ a : Fin 32, y ⟨160 + a.val, by omega⟩ :=
    Fin.sum_univ_add (a := 160) (b := 32) y
  have z2 : (∑ a : Fin 32, f ⟨160 + a.val, by omega⟩) = 0 :=
    Finset.sum_eq_zero fun a _ => h2 _ (by show 160 ≤ 160 + a.val; omega) (by show 160 + a.val < 192; omega)
  have z4 : (∑ a : Fin 32, f ⟨160 + (32 + (32 + a.val)), by omega⟩) = 0 :=
    Finset.sum_eq_zero fun a _ => h4 _ (by show 224 ≤ 160 + (32 + (32 + a.val)); omega)
  rw [e1, e2, z2, z4, add_zero, zero_add]
  refine congrArg₂ (· + ·) (Finset.sum_congr rfl fun a _ => h1 ⟨a.val, by omega⟩ a.isLt) (Finset.sum_congr rfl fun a _ => ?_)
  refine (h3 ⟨160 + (32 + a.val), by omega⟩ (by show 192 ≤ 160 + (32 + a.val); omega) (by show 160 + (32 + a.val) < 224; omega)).trans ?_
  exact congrArg y (Fin.ext (by show 160 + (32 + a.val) - 32 = 160 + a.val; omega))

/-- A product of two heads over their lanes is their product over the elements. -/
theorem dot_lane (x y : Fin 192 → EReal) : ∑ l, lane x l * lane y l = ∑ d, x d * y d := by
  refine sum_lanes _ (fun d => x d * y d) (fun l h => ?_) (fun l h h' => ?_) (fun l h h' => ?_) (fun l h => ?_)
  · rw [lane, lane, dif_pos h, dif_pos h]
  · rw [lane, dif_neg (by omega), if_pos h', zero_mul]
  · have a1 : ¬ l.val < 160 := by omega
    have a2 : ¬ l.val < 192 := by omega
    simp only [lane, dif_neg a1, if_neg a2, dif_pos h']
  · rw [lane, dif_neg (by omega), if_neg (by omega), dif_neg (by omega), zero_mul]

/-- A weighted sum of laid-out heads is the laid-out weighted sum. -/
theorem sum_lane {ι : Type} (s : Finset ι) (w : ι → EReal) (x : ι → Fin 192 → EReal) (l : Fin 256) :
    ∑ i ∈ s, w i * lane (x i) l = lane (fun d => ∑ i ∈ s, w i * x i d) l := by
  simp only [lane]
  by_cases h1 : l.val < 160
  · simp only [dif_pos h1]
  · by_cases h2 : l.val < 192
    · simp only [dif_neg h1, if_pos h2, mul_zero, Finset.sum_const_zero]
    · by_cases h3 : l.val < 224
      · simp only [dif_neg h1, if_neg h2, dif_pos h3]
      · simp only [dif_neg h1, if_neg h2, dif_neg h3, mul_zero, Finset.sum_const_zero]

end Cert.Attn
-- ==== Proof.RefA.lean ====
/- The reference's composed terms in stages, each read at an index: the masked scores, their maximum, the weights, the
   normaliser and the gradient of the scores. -/
module

public import proofs.«01_k».proof.Proof.Gen.ReferenceIdeal.Run
public import proofs.«01_k».proof.Proof.Attn
public import Idealize.ShloMosaic.Lib.WordCmp

@[expose] public section

set_option maxRecDepth 16384

noncomputable section

namespace Cert.ReferenceIdeal.Bwd

open Cert.ReferenceIdeal Cert.ReferenceIdeal.Gen Cert.Attn
open Idealize.ShloMosaic Idealize.ShloMosaic.TcCoe Idealize.ShloMosaic.WordCmp

/-- An array of four axes as a function of four coordinates. -/
def el (x : FVec Ideal S2x2048x4x192 .f32) (b : Fin 2) (r : Fin 2048) (h : Fin 4) (d : Fin 192) : EReal := x (ix4 b r h d)
def elv (x : FVec Ideal S2x2048x4x128 .f32) (b : Fin 2) (r : Fin 2048) (h : Fin 4) (d : Fin 128) : EReal := x (ix4 b r h d)

/-- A selection by the comparison of two positions of the sequence. -/
theorem select_pos (a b : Fin 2048) (x y : EReal) :
    Scalar.select (IntOp.cmpi .sle (BitVec.ofNat 32 a.val) (BitVec.ofNat 32 b.val)) x y = if a ≤ b then x else y := by
  rw [cmpi_sle_ofNat (by have := a.isLt; omega) (by have := b.isLt; omega)]
  by_cases h : a ≤ b
  · rw [if_pos h, decide_eq_true (show a.val ≤ b.val from h)]; rfl
  · rw [if_neg h, decide_eq_false (show ¬ a.val ≤ b.val from h)]; rfl

variable (q k : FVec Ideal S2x2048x4x192 .f32) (v g : FVec Ideal S2x2048x4x128 .f32)

/-- Which keys a query sees. -/
def maskA : IVec S2x4x2048x2048 1 :=
  broadcastInDim S2x4x2048x2048 ![2, 3] bcast_S2048x2048_S2x4x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- The masked scores. -/
def mskA : FVec Ideal S2x4x2048x2048 .f32 :=
  select maskA (mulf (Host.dotGeneral dot_S2x2048x4x192_S2x2048x4x192_S2x4x2048x2048_3_3_1_1_02_02 none q k) (broadcastInDim S2x4x2048x2048 ![] bcast_S_S2x4x2048x2048 (constant S_ .f32 0x3D93CD3A#32))) (broadcastInDim S2x4x2048x2048 ![] bcast_S_S2x4x2048x2048 (id (constant S_ .f32 0xFF800000#32)))
/-- The greatest score of each query. -/
def mxA : FVec Ideal S2x4x2048 .f32 :=
  maximumf (broadcastInDim S2x4x2048 ![] bcast_S_S2x4x2048 (constant S_ .f32 0xFF800000#32)) (Host.reduce FloatOps.maximumf (mskA q k) (constant S_ .f32 0xFF800000#32) reducesTo_S2x4x2048x2048_S2x4x2048_d3 h_S_)
/-- The weights before they are normalised. -/
def exA : FVec Ideal S2x4x2048x2048 .f32 :=
  Host.exp (subf (mskA q k) (broadcastInDim S2x4x2048x2048 ![0, 1, 2, 3] bcast_S2x4x2048x1_S2x4x2048x2048_0_1_2_3 (broadcastInDim S2x4x2048x1 ![0, 1, 2] bcast_S2x4x2048_S2x4x2048x1_0_1_2 (mxA q k))))
/-- The normalisers. -/
def denA : FVec Ideal S2x4x2048x1 .f32 :=
  broadcastInDim S2x4x2048x1 ![0, 1, 2] bcast_S2x4x2048_S2x4x2048x1_0_1_2 (Host.reduceAdd (exA q k) (constant S_ .f32 0x00000000#32) reducesTo_S2x4x2048x2048_S2x4x2048_d3 h_S_)
/-- The weights. -/
def prbA : FVec Ideal S2x4x2048x2048 .f32 :=
  Host.divf (exA q k) (broadcastInDim S2x4x2048x2048 ![0, 1, 2, 3] bcast_S2x4x2048x1_S2x4x2048x2048_0_1_2_3 (denA q k))
/-- The gradients of the weights. -/
def dprA : FVec Ideal S2x4x2048x2048 .f32 :=
  Host.dotGeneral dot_S2x4x128x2048_S2x2048x4x128_S2x4x2048x2048_2_3_3_1_01_02 none (transpose S2x4x128x2048 [0, 2, 3, 1] g transposes_S2x2048x4x128_S2x4x128x2048_0_2_3_1) v
/-- The part of a score's gradient that all keys of a query share. -/
def shrA : FVec Ideal S2x4x2048 .f32 :=
  Host.reduceAdd (mulf (mulf (dprA v g) (broadcastInDim S2x4x2048x2048 ![0, 1, 2, 3] bcast_S2x4x2048x1_S2x4x2048x2048_0_1_2_3 (Host.divf (broadcastInDim S2x4x2048x1 ![] bcast_S_S2x4x2048x1 (constant S_ .f32 0x3F800000#32)) (mulf (denA q k) (denA q k))))) (exA q k)) (constant S_ .f32 0x00000000#32) reducesTo_S2x4x2048x2048_S2x4x2048_d3 h_S_
/-- The gradients of the scores. -/
def dscA : FVec Ideal S2x4x2048x2048 .f32 :=
  mulf (select maskA (mulf (addf (Host.divf (dprA v g) (broadcastInDim S2x4x2048x2048 ![0, 1, 2, 3] bcast_S2x4x2048x1_S2x4x2048x2048_0_1_2_3 (denA q k))) (broadcastInDim S2x4x2048x2048 ![0, 1, 2] bcast_S2x4x2048_S2x4x2048x2048_0_1_2 (Host.reduceAdd (Host.negf (shapeCast S2x4x2048x1 (shrA q k v g) shapeCasts_S2x4x2048_S2x4x2048x1)) (constant S_ .f32 0x00000000#32) reducesTo_S2x4x2048x1_S2x4x2048_d3 h_S_))) (exA q k)) (broadcastInDim S2x4x2048x2048 ![] bcast_S_S2x4x2048x2048 (constant S_ .f32 0x00000000#32))) (broadcastInDim S2x4x2048x2048 ![] bcast_S_S2x4x2048x2048 (constant S_ .f32 0x3D93CD3A#32))
/-- The gradients, each laid out in lanes. -/
def dqA : FVec Ideal S2x2048x4x192 .f32 :=
  transpose S2x2048x4x192 [0, 2, 1, 3] (Host.dotGeneral dot_S2x4x2048x2048_S2x2048x4x192_S2x4x2048x192_3_1_2_3_01_02 none (dscA q k v g) k) transposes_S2x4x2048x192_S2x2048x4x192_0_2_1_3
def dkA : FVec Ideal S2x2048x4x192 .f32 :=
  transpose S2x2048x4x192 [0, 2, 1, 3] (Host.dotGeneral dot_S2x4x2048x2048_S2x2048x4x192_S2x4x2048x192_2_1_3_3_01_02 none (dscA q k v g) q) transposes_S2x4x2048x192_S2x2048x4x192_0_2_1_3
def dvA : FVec Ideal S2x2048x4x128 .f32 :=
  transpose S2x2048x4x128 [0, 3, 1, 2] (Host.dotGeneral dot_S2x4x128x2048_S2x4x2048x2048_S2x4x128x2048_3_2_2_3_01_01 none (transpose S2x4x128x2048 [0, 2, 3, 1] g transposes_S2x2048x4x128_S2x4x128x2048_0_2_3_1) (prbA q k)) transposes_S2x4x128x2048_S2x2048x4x128_0_3_1_2

theorem mskA_at (b : Fin 2) (h : Fin 4) (r c : Fin 2048) : mskA q k (ix4 b h r c) = msk (el q) (el k) b h r c := by
  pointwise [mskA, maskA]
  simp only [id_eq]
  pointwise
  rw [select_pos, negInf]
  rfl

theorem max_rows (x : FVec Ideal S2x4x2048x2048 .f32) (b : Fin 2) (h : Fin 4) (r : Fin 2048) :
    Host.reduce FloatOps.maximumf x (constant S_ .f32 0xFF800000#32) reducesTo_S2x4x2048x2048_S2x4x2048_d3 h_S_ (ix3 b h r)
      = Finset.fold max (Ideal.ofBits .f32 0xFF800000#32) (fun c => x (ix4 b h r c)) Finset.univ := by
  pointwise

theorem mxA_at (b : Fin 2) (h : Fin 4) (r : Fin 2048) : mxA q k (ix3 b h r) = mx (el q) (el k) b h r := by
  unfold mxA
  rw [maximumf_apply, max_rows]
  pointwise
  rw [negInf, mx]
  simp only [mskA_at]
  exact max_eq_right bot_le

theorem exA_at (b : Fin 2) (h : Fin 4) (r c : Fin 2048) : exA q k (ix4 b h r c) = ex (el q) (el k) b h r c := by
  pointwise [exA]
  rw [mskA_at, mxA_at, ex]

theorem denA_at (b : Fin 2) (h : Fin 4) (r : Fin 2048) : denA q k (ix4 b h r 0) = den (el q) (el k) b h r := by
  pointwise [denA]
  simp only [exA_at]
  rfl

theorem prbA_at (b : Fin 2) (h : Fin 4) (r c : Fin 2048) : prbA q k (ix4 b h r c) = prb (el q) (el k) b h r c := by
  pointwise [prbA]
  rw [exA_at, denA_at]
  rfl

theorem dprA_at (b : Fin 2) (h : Fin 4) (r c : Fin 2048) : dprA v g (ix4 b h r c) = dpr (elv v) (elv g) b h r c := by
  pointwise [dprA]
  rfl

theorem shrA_at (b : Fin 2) (h : Fin 4) (r : Fin 2048) : shrA q k v g (ix3 b h r)
    = ∑ c, dpr (elv v) (elv g) b h r c * Ideal.div 1 (den (el q) (el k) b h r * den (el q) (el k) b h r) * ex (el q) (el k) b h r c := by
  pointwise [shrA]
  simp only [exA_at, denA_at, dprA_at]

theorem dscA_at (b : Fin 2) (h : Fin 4) (r c : Fin 2048) : dscA q k v g (ix4 b h r c) = dsc (el q) (el k) (elv v) (elv g) b h r c := by
  pointwise [dscA, maskA]
  rw [dprA_at, denA_at, shrA_at, exA_at]
  rw [select_pos, dsc, ite_mul, zero_mul, Fin.sum_univ_one]
  rfl

theorem dqA_at (b : Fin 2) (h : Fin 4) (r : Fin 2048) (d : Fin 192) : dqA q k v g (ix4 b r h d) = dqR (el q) (el k) (elv v) (elv g) b r h d := by
  pointwise [dqA]
  simp only [dscA_at]
  rfl

theorem dkA_at (b : Fin 2) (h : Fin 4) (r : Fin 2048) (d : Fin 192) : dkA q k v g (ix4 b r h d) = dkR (el q) (el k) (elv v) (elv g) b r h d := by
  pointwise [dkA]
  simp only [dscA_at]
  rfl

theorem dvA_at (b : Fin 2) (h : Fin 4) (r : Fin 2048) (d : Fin 128) : dvA q k g (ix4 b r h d) = dvR (el q) (el k) (elv g) b r h d := by
  pointwise [dvA]
  simp only [prbA_at]
  rfl

end Cert.ReferenceIdeal.Bwd
-- ==== Proof.RefB.lean ====
/- The reference's results read at an index. -/
module

public import proofs.«01_k».proof.Proof.RefA

@[expose] public section

set_option maxRecDepth 16384

noncomputable section

namespace Cert.ReferenceIdeal.Bwd

open Cert.ReferenceIdeal Cert.ReferenceIdeal.Gen Cert.Attn
open Idealize.ShloMosaic Idealize.ShloMosaic.TcCoe

def layA (x : FVec Ideal S2x2048x4x192 .f32) : FVec Ideal S2x2048x1024 .f32 :=
  shapeCast S2x2048x1024 (concatenate S2x2048x4x256 3 [⟨S2x2048x4x192, (pad S2x2048x4x192 ![0, 0, 0, 0] ![0, 0, 0, 32] ![0, 0, 0, 0] (extractStridedSlice S2x2048x4x160 ![0, 0, 0, 0] x slices_S2x2048x4x192_S2x2048x4x160_0_0_0_0) (sitofp .f32 (constantI S_ 32 0#32)) pads_S2x2048x4x160_S2x2048x4x192_000_000_000_0320 h_S_)⟩, ⟨S2x2048x4x64, (pad S2x2048x4x64 ![0, 0, 0, 0] ![0, 0, 0, 32] ![0, 0, 0, 0] (extractStridedSlice S2x2048x4x32 ![0, 0, 0, 160] x slices_S2x2048x4x192_S2x2048x4x32_0_0_0_160) (sitofp .f32 (constantI S_ 32 0#32)) pads_S2x2048x4x32_S2x2048x4x64_000_000_000_0320 h_S_)⟩] concatenates_S2x2048x4x192_S2x2048x4x64_S2x2048x4x256_d3) shapeCasts_S2x2048x4x256_S2x2048x1024

variable (m : (ℓ : Loc nD τ sig) → Buf (Elt Ideal) ℓ) (c : Dev nD)

theorem res68_eq : Value.res_main_v68 m c = layA (dqA (m (c.tc.loc main_arg0)) (m (c.tc.loc main_arg1)) (m (c.tc.loc main_arg2)) (m (c.tc.loc main_arg3))) := by
  unfold Value.res_main_v68 layA dqA dscA shrA dprA denA exA mxA mskA maskA; rfl
theorem res74_eq : Value.res_main_v74 m c = layA (dkA (m (c.tc.loc main_arg0)) (m (c.tc.loc main_arg1)) (m (c.tc.loc main_arg2)) (m (c.tc.loc main_arg3))) := by
  unfold Value.res_main_v74 layA dkA dscA shrA dprA denA exA mxA mskA maskA; rfl
theorem res75_eq : Value.res_main_v75 m c = shapeCast S2x2048x512 (dvA (m (c.tc.loc main_arg0)) (m (c.tc.loc main_arg1)) (m (c.tc.loc main_arg3))) shapeCasts_S2x2048x4x128_S2x2048x512 := by
  unfold Value.res_main_v75 dvA prbA denA exA mxA mskA maskA; rfl

theorem pad_value : (sitofp .f32 (constantI S_ 32 0#32) : FVec Ideal S_ .f32) = fun _ => (0 : EReal) := by
  funext i
  show ((((0#32 : BitVec 32).toInt : ℤ) : ℝ) : EReal) = 0
  simp

/-- The two padded pieces of a head, lane by lane. -/
theorem lane_pads (x : Fin 4 → Fin 192 → EReal) (n : ℕ) (hn : n < 1024) :
    (if h : n % 256 < 192 then
        if h1 : n / 256 < 4 ∧ n % 256 < 160 then x ⟨n / 256, h1.1⟩ ⟨n % 256, h⟩ else (0 : EReal)
      else if h1 : n / 256 < 4 ∧ n % 256 - 192 < 32 then x ⟨n / 256, h1.1⟩ ⟨160 + (n % 256 - 192), by omega⟩ else 0)
      = lane (x ⟨n / 256, by omega⟩) ⟨n % 256, by omega⟩ := by
  have hd : n / 256 < 4 := by omega
  by_cases h1 : n % 256 < 160
  · have h2 : n % 256 < 192 := by omega
    simp only [lane, h1, h2, hd, and_self, dite_true]
  · by_cases h2 : n % 256 < 192
    · simp only [lane, h1, h2, and_false, dite_true, dite_false, if_true]
    · by_cases h3 : n % 256 < 224
      · have h4 : n % 256 - 192 < 32 := by omega
        have e : 160 + (n % 256 - 192) = n % 256 - 32 := by omega
        simp only [lane, h1, h2, h3, h4, hd, and_self, dite_true, dite_false, if_false, e]
      · have h4 : ¬ n % 256 - 192 < 32 := by omega
        simp only [lane, h1, h2, h3, h4, and_false, dite_false, if_false]

/-- The lanes of a laid-out array. -/
theorem layA_at (x : FVec Ideal S2x2048x4x192 .f32) (b : Fin 2) (r : Fin 2048) (d : Fin 1024) :
    layA x (ix3 b r d) = lane (fun e => x (ix4 b r ⟨d.val / 256, by omega⟩ e)) ⟨d.val % 256, by omega⟩ := by
  unfold layA
  rw [pad_value]
  pointwise
  exact lane_pads (fun h e => x (ix4 b r h e)) d.val d.isLt

theorem res68_at (b : Fin 2) (r : Fin 2048) (d : Fin 1024) : (Value.res_main_v68 m c : S2x2048x1024.Idx → EReal) (ix3 b r d)
    = lane (dqR (el (m (c.tc.loc main_arg0))) (el (m (c.tc.loc main_arg1))) (elv (m (c.tc.loc main_arg2))) (elv (m (c.tc.loc main_arg3))) b r ⟨d.val / 256, by omega⟩) ⟨d.val % 256, by omega⟩ := by
  rw [res68_eq]
  refine (layA_at _ b r d).trans (congrArg (fun x => lane x _) (funext fun e => ?_))
  exact dqA_at _ _ _ _ b _ r e

theorem res74_at (b : Fin 2) (r : Fin 2048) (d : Fin 1024) : (Value.res_main_v74 m c : S2x2048x1024.Idx → EReal) (ix3 b r d)
    = lane (dkR (el (m (c.tc.loc main_arg0))) (el (m (c.tc.loc main_arg1))) (elv (m (c.tc.loc main_arg2))) (elv (m (c.tc.loc main_arg3))) b r ⟨d.val / 256, by omega⟩) ⟨d.val % 256, by omega⟩ := by
  rw [res74_eq]
  refine (layA_at _ b r d).trans (congrArg (fun x => lane x _) (funext fun e => ?_))
  exact dkA_at _ _ _ _ b _ r e

theorem res75_at (b : Fin 2) (r : Fin 2048) (d : Fin 512) : (Value.res_main_v75 m c : S2x2048x512.Idx → EReal) (ix3 b r d)
    = dvR (el (m (c.tc.loc main_arg0))) (el (m (c.tc.loc main_arg1))) (elv (m (c.tc.loc main_arg3))) b r ⟨d.val / 128, by omega⟩ ⟨d.val % 128, by omega⟩ := by
  rw [res75_eq]
  pointwise
  exact dvA_at _ _ _ b _ r _

end Cert.ReferenceIdeal.Bwd
-- ==== Proof.Pay.lean ====
/- The attention backward kernel's vector expressions read at one index, over the extended reals: each lemma says of
   one expression which sums and products of its operands' elements an element of it is. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.WordCmp

/-- The scale of the scores, `192 ^ (-1/2)` as a 32-bit float. -/
def scale : EReal := Ideal.ofBits .f32 0x3D93CD3A#32

/-- A selection by the comparison of two positions of a block of 512. -/
theorem select_le (a b : Fin 512) (x y : EReal) :
    Scalar.select (IntOp.cmpi .sle (BitVec.ofNat 32 a.val) (BitVec.ofNat 32 b.val)) x y = if a ≤ b then x else y := by
  rw [cmpi_sle_ofNat (by have := a.isLt; omega) (by have := b.isLt; omega)]
  by_cases h : a ≤ b
  · rw [if_pos h, decide_eq_true (show a.val ≤ b.val from h)]; rfl
  · rw [if_neg h, decide_eq_false (show ¬ a.val ≤ b.val from h)]; rfl

theorem pay26_at (v4 : FVec Ideal S512x256 .bf16) (v128 : Vec Ideal S1x512x256 .bf16) (v148 : Vec Ideal S1x1x1x1x512 .f32) (a b : Fin 512) :
    k0_pay26 v4 v128 v148 (ix2 a b) = Ideal.exp ((∑ d : Fin 256, v4 (ix2 a d) * v128 (ix3 0 b d)) * scale - v148 (ix5 0 0 0 0 b)) := by
  pointwise [k0_pay26, k0_pay22, k0_pay23, scale]

theorem pay27_at (v6 : FVec Ideal S512x256 .bf16) (v131 : Vec Ideal S1x512x256 .bf16) (v154 : Vec Ideal S1x1x1x1x512 .f32) (a b : Fin 512) :
    k0_pay27 v6 v131 v154 (ix2 a b) = Ideal.exp ((∑ d : Fin 256, v6 (ix2 a d) * v131 (ix3 0 b d)) * scale - v154 (ix5 0 0 0 0 b)) := by
  pointwise [k0_pay27, k0_pay22, k0_pay23, scale]

theorem pay22_at (v128 : Vec Ideal S1x512x256 .bf16) (a : Fin 512) (d : Fin 256) :
    k0_pay22 v128 (ix2 a d) = v128 (ix3 0 a d) := by
  pointwise [k0_pay22]

theorem pay23_at (v131 : Vec Ideal S1x512x256 .bf16) (a : Fin 512) (d : Fin 256) :
    k0_pay23 v131 (ix2 a d) = v131 (ix3 0 a d) := by
  pointwise [k0_pay23]

theorem pay51_at (v3 : Vec Ideal S1x512x256 .bf16) (a : Fin 512) (d : Fin 256) :
    k0_pay51 v3 (ix2 a d) = v3 (ix3 0 a d) := by
  pointwise [k0_pay51]

theorem pay52_at (v5 : Vec Ideal S1x512x256 .bf16) (a : Fin 512) (d : Fin 256) :
    k0_pay52 v5 (ix2 a d) = v5 (ix3 0 a d) := by
  pointwise [k0_pay52]

theorem pay59_at (v18 : Vec Ideal S1x512x256 .bf16) (a : Fin 512) (d : Fin 256) :
    k0_pay59 v18 (ix2 a d) = v18 (ix3 0 a d) := by
  pointwise [k0_pay59]

theorem pay60_at (v21 : Vec Ideal S1x512x256 .bf16) (a : Fin 512) (d : Fin 256) :
    k0_pay60 v21 (ix2 a d) = v21 (ix3 0 a d) := by
  pointwise [k0_pay60]

theorem pay24_at (v134 : Vec Ideal S1x512x128 .f32) (a : Fin 512) (d : Fin 128) :
    k0_pay24 v134 (ix2 a d) = v134 (ix3 0 a d) := by
  pointwise [k0_pay24]

theorem pay25_at (v138 : Vec Ideal S1x512x128 .f32) (a : Fin 512) (d : Fin 128) :
    k0_pay25 v138 (ix2 a d) = v138 (ix3 0 a d) := by
  pointwise [k0_pay25]

theorem pay53_at (v7 : Vec Ideal S1x512x128 .bf16) (a : Fin 512) (d : Fin 128) :
    k0_pay53 v7 (ix2 a d) = v7 (ix3 0 a d) := by
  pointwise [k0_pay53]

theorem pay54_at (v9 : Vec Ideal S1x512x128 .bf16) (a : Fin 512) (d : Fin 128) :
    k0_pay54 v9 (ix2 a d) = v9 (ix3 0 a d) := by
  pointwise [k0_pay54]

theorem pay61_at (v24 : Vec Ideal S1x512x128 .f32) (a : Fin 512) (d : Fin 128) :
    k0_pay61 v24 (ix2 a d) = v24 (ix3 0 a d) := by
  pointwise [k0_pay61]

theorem pay62_at (v28 : Vec Ideal S1x512x128 .f32) (a : Fin 512) (d : Fin 128) :
    k0_pay62 v28 (ix2 a d) = v28 (ix3 0 a d) := by
  pointwise [k0_pay62]

theorem pay55_at  (a : Fin 512) (d : Fin 256) :
    k0_pay55 (F := Ideal)  (ix2 a d) = (0 : EReal) := by
  pointwise [k0_pay55]

theorem pay57_at  (a : Fin 512) (d : Fin 256) :
    k0_pay57 (F := Ideal)  (ix2 a d) = (0 : EReal) := by
  pointwise [k0_pay57]

theorem pay56_at  (a : Fin 512) (d : Fin 128) :
    k0_pay56 (F := Ideal)  (ix2 a d) = (0 : EReal) := by
  pointwise [k0_pay56]

theorem pay58_at  (a : Fin 512) (d : Fin 128) :
    k0_pay58 (F := Ideal)  (ix2 a d) = (0 : EReal) := by
  pointwise [k0_pay58]

theorem pay28_at (v8 : FVec Ideal S512x128 .bf16) (v134 : Vec Ideal S1x512x128 .f32) (a b : Fin 512) :
    k0_pay28 v8 v134 (ix2 a b) = ∑ d : Fin 128, v8 (ix2 a d) * v134 (ix3 0 b d) := by
  pointwise [k0_pay28, k0_pay24, k0_pay25]

theorem pay29_at (v10 : FVec Ideal S512x128 .bf16) (v138 : Vec Ideal S1x512x128 .f32) (a b : Fin 512) :
    k0_pay29 v10 v138 (ix2 a b) = ∑ d : Fin 128, v10 (ix2 a d) * v138 (ix3 0 b d) := by
  pointwise [k0_pay29, k0_pay24, k0_pay25]

theorem pay30_at (arg15 : FVec Ideal S512x128 .f32) (v136 : FVec Ideal S512x128 .bf16) (v152 : FVec Ideal S512x512 .f32) (a : Fin 512) (d : Fin 128) :
    k0_pay30 arg15 v136 v152 (ix2 a d) = arg15 (ix2 a d) + ∑ b : Fin 512, v152 (ix2 a b) * v136 (ix2 b d) := by
  pointwise [k0_pay30]

theorem pay31_at (arg17 : FVec Ideal S512x128 .f32) (v140 : FVec Ideal S512x128 .bf16) (v158 : FVec Ideal S512x512 .f32) (a : Fin 512) (d : Fin 128) :
    k0_pay31 arg17 v140 v158 (ix2 a d) = arg17 (ix2 a d) + ∑ b : Fin 512, v158 (ix2 a b) * v140 (ix2 b d) := by
  pointwise [k0_pay31]

theorem pay32_at (v152 : FVec Ideal S512x512 .f32) (v159 : FVec Ideal S512x512 .f32) (v168 : Vec Ideal S1x1x1x512 .f32) (a b : Fin 512) :
    k0_pay32 v152 v159 v168 (ix2 a b) = v152 (ix2 a b) * (v159 (ix2 a b) - v168 (ix4 0 0 0 b)) * scale := by
  pointwise [k0_pay32, scale]

theorem pay33_at (v158 : FVec Ideal S512x512 .f32) (v160 : FVec Ideal S512x512 .f32) (v177 : Vec Ideal S1x1x1x512 .f32) (a b : Fin 512) :
    k0_pay33 v158 v160 v177 (ix2 a b) = v158 (ix2 a b) * (v160 (ix2 a b) - v177 (ix4 0 0 0 b)) * scale := by
  pointwise [k0_pay33, scale]

theorem pay71_at (v56 : FVec Ideal S512x512 .f32) (v58 : FVec Ideal S512x512 .f32) (v75 : Vec Ideal S1x1x1x512 .f32) (a b : Fin 512) :
    k0_pay71 v56 v58 v75 (ix2 a b) = v56 (ix2 a b) * (v58 (ix2 a b) - v75 (ix4 0 0 0 b)) * scale := by
  pointwise [k0_pay71, scale]

theorem pay70_at (v53 : FVec Ideal S512x512 .f32) (v57 : FVec Ideal S512x512 .f32) (v67 : FVec Ideal S1x512 .f32) (a b : Fin 512) :
    k0_pay70 v53 v57 v67 (ix2 a b) = v53 (ix2 a b) * (v57 (ix2 a b) - v67 (ix2 0 b)) * scale := by
  pointwise [k0_pay70, scale]

theorem pay69_at (v66 : Vec Ideal S1x1x1x512 .f32) (b : Fin 512) :
    k0_pay69 v66 (ix2 0 b) = v66 (ix4 0 0 0 b) := by
  pointwise [k0_pay69]

theorem pay34_at (v4 : FVec Ideal S512x256 .bf16) (v152 : FVec Ideal S512x512 .f32) (v159 : FVec Ideal S512x512 .f32) (v168 : Vec Ideal S1x1x1x512 .f32) (v186 : Vec Ideal S1x512x256 .f32) (b : Fin 512) (d : Fin 256) :
    k0_pay34 v4 v152 v159 v168 v186 (ix3 0 b d) = v186 (ix3 0 b d) + ∑ a : Fin 512, k0_pay32 v152 v159 v168 (ix2 a b) * v4 (ix2 a d) := by
  pointwise [k0_pay34]

theorem pay72_at (v4 : FVec Ideal S512x256 .bf16) (v53 : FVec Ideal S512x512 .f32) (v57 : FVec Ideal S512x512 .f32) (v67 : FVec Ideal S1x512 .f32) (v84 : Vec Ideal S1x512x256 .f32) (b : Fin 512) (d : Fin 256) :
    k0_pay72 v4 v53 v57 v67 v84 (ix3 0 b d) = v84 (ix3 0 b d) + ∑ a : Fin 512, k0_pay70 v53 v57 v67 (ix2 a b) * v4 (ix2 a d) := by
  pointwise [k0_pay72]

theorem pay73_at (v6 : FVec Ideal S512x256 .bf16) (v56 : FVec Ideal S512x512 .f32) (v58 : FVec Ideal S512x512 .f32) (v75 : Vec Ideal S1x1x1x512 .f32) (v93 : Vec Ideal S1x512x256 .f32) (b : Fin 512) (d : Fin 256) :
    k0_pay73 v6 v56 v58 v75 v93 (ix3 0 b d) = v93 (ix3 0 b d) + ∑ a : Fin 512, k0_pay71 v56 v58 v75 (ix2 a b) * v6 (ix2 a d) := by
  pointwise [k0_pay73]

theorem pay35_at (v6 : FVec Ideal S512x256 .bf16) (v158 : FVec Ideal S512x512 .f32) (v160 : FVec Ideal S512x512 .f32) (v177 : Vec Ideal S1x1x1x512 .f32) (v195 : Vec Ideal S1x512x256 .f32) (b : Fin 512) (d : Fin 256) :
    k0_pay35 v6 v158 v160 v177 v195 (ix2 b d) = v195 (ix3 0 b d) + ∑ a : Fin 512, k0_pay33 v158 v160 v177 (ix2 a b) * v6 (ix2 a d) := by
  pointwise [k0_pay35]

theorem pay1_at (v198 : FVec Ideal S512x256 .f32) (a : Fin 512) (d : Fin 256) :
    k0_pay1 v198 (ix3 0 a d) = v198 (ix2 a d) := by
  pointwise [k0_pay1]

theorem pay4_at (v198 : FVec Ideal S512x256 .f32) (a : Fin 512) (d : Fin 256) :
    k0_pay4 v198 (ix3 0 a d) = v198 (ix2 a d) := by
  pointwise [k0_pay4]

theorem pay7_at (v112_0 : FVec Ideal S512x256 .f32) (a : Fin 512) (d : Fin 256) :
    k0_pay7 v112_0 (ix3 0 a d) = v112_0 (ix2 a d) := by
  pointwise [k0_pay7]

theorem pay9_at (v112_2 : FVec Ideal S512x256 .f32) (a : Fin 512) (d : Fin 256) :
    k0_pay9 v112_2 (ix3 0 a d) = v112_2 (ix2 a d) := by
  pointwise [k0_pay9]

theorem pay8_at (v112_1 : FVec Ideal S512x128 .f32) (a : Fin 512) (d : Fin 128) :
    k0_pay8 v112_1 (ix3 0 a d) = v112_1 (ix2 a d) := by
  pointwise [k0_pay8]

theorem pay10_at (v112_3 : FVec Ideal S512x128 .f32) (a : Fin 512) (d : Fin 128) :
    k0_pay10 v112_3 (ix3 0 a d) = v112_3 (ix2 a d) := by
  pointwise [k0_pay10]

theorem pay2_at (arg14 : FVec Ideal S512x256 .f32) (v129 : FVec Ideal S512x256 .bf16) (v175 : FVec Ideal S512x512 .bf16) (a : Fin 512) (d : Fin 256) :
    k0_pay2 arg14 v129 v175 (ix2 a d) = arg14 (ix2 a d) + ∑ b : Fin 512, v175 (ix2 a b) * v129 (ix2 b d) := by
  pointwise [k0_pay2]

theorem pay3_at (arg16 : FVec Ideal S512x256 .f32) (v132 : FVec Ideal S512x256 .bf16) (v184 : FVec Ideal S512x512 .bf16) (a : Fin 512) (d : Fin 256) :
    k0_pay3 arg16 v132 v184 (ix2 a d) = arg16 (ix2 a d) + ∑ b : Fin 512, v184 (ix2 a b) * v132 (ix2 b d) := by
  pointwise [k0_pay3]

theorem pay5_at (arg14 : FVec Ideal S512x256 .f32) (v129 : FVec Ideal S512x256 .bf16) (v175 : FVec Ideal S512x512 .bf16) (a : Fin 512) (d : Fin 256) :
    k0_pay5 arg14 v129 v175 (ix2 a d) = arg14 (ix2 a d) + ∑ b : Fin 512, v175 (ix2 a b) * v129 (ix2 b d) := by
  pointwise [k0_pay5]

theorem pay6_at (arg16 : FVec Ideal S512x256 .f32) (v132 : FVec Ideal S512x256 .bf16) (v184 : FVec Ideal S512x512 .bf16) (a : Fin 512) (d : Fin 256) :
    k0_pay6 arg16 v132 v184 (ix2 a d) = arg16 (ix2 a d) + ∑ b : Fin 512, v184 (ix2 a b) * v132 (ix2 b d) := by
  pointwise [k0_pay6]

theorem pay11_at  (r : Fin 2048) (d : Fin 512) :
    k0_pay11 (F := Ideal)  (ix3 0 r d) = (0 : EReal) := by
  pointwise [k0_pay11]

theorem pay12_at (v127 : Vec Ideal S1x512x128 .f32) (v129 : Vec Ideal S1x512x128 .f32) (b : Fin 512) :
    k0_pay12 v127 v129 (ix4 0 0 0 b) = ∑ d : Fin 128, v127 (ix3 0 b d) * v129 (ix3 0 b d) := by
  pointwise [k0_pay12]

theorem pay13_at (v138 : Vec Ideal S1x512x128 .f32) (v140 : Vec Ideal S1x512x128 .f32) (b : Fin 512) :
    k0_pay13 v138 v140 (ix4 0 0 0 b) = ∑ d : Fin 128, v138 (ix3 0 b d) * v140 (ix3 0 b d) := by
  pointwise [k0_pay13]

theorem pay16_at (v160 : Vec Ideal S1x512x128 .f32) (v162 : Vec Ideal S1x512x128 .f32) (b : Fin 512) :
    k0_pay16 v160 v162 (ix4 0 0 0 b) = ∑ d : Fin 128, v160 (ix3 0 b d) * v162 (ix3 0 b d) := by
  pointwise [k0_pay16]

theorem pay19_at (v182 : Vec Ideal S1x512x128 .f32) (v184 : Vec Ideal S1x512x128 .f32) (b : Fin 512) :
    k0_pay19 v182 v184 (ix4 0 0 0 b) = ∑ d : Fin 128, v182 (ix3 0 b d) * v184 (ix3 0 b d) := by
  pointwise [k0_pay19]

theorem pay20_at (v193 : Vec Ideal S1x512x128 .f32) (v195 : Vec Ideal S1x512x128 .f32) (b : Fin 512) :
    k0_pay20 v193 v195 (ix4 0 0 0 b) = ∑ d : Fin 128, v193 (ix3 0 b d) * v195 (ix3 0 b d) := by
  pointwise [k0_pay20]

theorem pay21_at (v204 : Vec Ideal S1x512x128 .f32) (v206 : Vec Ideal S1x512x128 .f32) (a : Fin 512) (d : Fin 128) :
    k0_pay21 v204 v206 (ix2 a d) = v204 (ix3 0 a d) * v206 (ix3 0 a d) := by
  pointwise [k0_pay21]

theorem pay50_at (v208 : FVec Ideal S512x128 .f32) (b : Fin 512) :
    k0_pay50 v208 (ix4 0 0 0 b) = ∑ d : Fin 128, v208 (ix2 b d) := by
  pointwise [k0_pay50]

theorem pay63_at (v4 : FVec Ideal S512x256 .bf16) (v19 : FVec Ideal S512x256 .bf16) (v38 : Vec Ideal S1x1x1x1x512 .f32) (a b : Fin 512) :
    k0_pay63 v4 v19 v38 (ix2 a b) = if a ≤ b then Ideal.exp ((∑ d : Fin 256, v4 (ix2 a d) * v19 (ix2 b d)) * scale - v38 (ix5 0 0 0 0 b)) else 0 := by
  pointwise [k0_pay63, scale, select_le]

theorem pay64_at (v6 : FVec Ideal S512x256 .bf16) (v22 : FVec Ideal S512x256 .bf16) (v44 : Vec Ideal S1x1x1x1x512 .f32) (a b : Fin 512) :
    k0_pay64 v6 v22 v44 (ix2 a b) = if a ≤ b then Ideal.exp ((∑ d : Fin 256, v6 (ix2 a d) * v22 (ix2 b d)) * scale - v44 (ix5 0 0 0 0 b)) else 0 := by
  pointwise [k0_pay64, scale, select_le]

theorem pay65_at (v8 : FVec Ideal S512x128 .bf16) (v26 : FVec Ideal S512x128 .bf16) (a b : Fin 512) :
    k0_pay65 v8 v26 (ix2 a b) = ∑ d : Fin 128, v8 (ix2 a d) * v26 (ix2 b d) := by
  pointwise [k0_pay65]

theorem pay66_at (v10 : FVec Ideal S512x128 .bf16) (v28 : Vec Ideal S1x512x128 .f32) (a b : Fin 512) :
    k0_pay66 v10 v28 (ix2 a b) = ∑ d : Fin 128, v10 (ix2 a d) * v28 (ix3 0 b d) := by
  pointwise [k0_pay66, k0_pay62]

theorem pay67_at (v4 : FVec Ideal S512x256 .bf16) (v12 : FVec Ideal S512x128 .f32) (v19 : FVec Ideal S512x256 .bf16) (v26 : FVec Ideal S512x128 .bf16) (v38 : Vec Ideal S1x1x1x1x512 .f32) (a : Fin 512) (d : Fin 128) :
    k0_pay67 v4 v12 v19 v26 v38 (ix2 a d) = v12 (ix2 a d) + ∑ b : Fin 512, k0_pay63 v4 v19 v38 (ix2 a b) * v26 (ix2 b d) := by
  pointwise [k0_pay67]

theorem pay68_at (v6 : FVec Ideal S512x256 .bf16) (v14 : FVec Ideal S512x128 .f32) (v22 : FVec Ideal S512x256 .bf16) (v28 : Vec Ideal S1x512x128 .f32) (v44 : Vec Ideal S1x1x1x1x512 .f32) (a : Fin 512) (d : Fin 128) :
    k0_pay68 v6 v14 v22 v28 v44 (ix2 a d) = v14 (ix2 a d) + ∑ b : Fin 512, k0_pay64 v6 v22 v44 (ix2 a b) * v28 (ix3 0 b d) := by
  pointwise [k0_pay68, k0_pay62]

theorem pay74_at (v11 : FVec Ideal S512x256 .f32) (v19 : FVec Ideal S512x256 .bf16) (v53 : FVec Ideal S512x512 .f32) (v57 : FVec Ideal S512x512 .f32) (v67 : FVec Ideal S1x512 .f32) (a : Fin 512) (d : Fin 256) :
    k0_pay74 v11 v19 v53 v57 v67 (ix2 a d) = v11 (ix2 a d) + ∑ b : Fin 512, k0_pay70 v53 v57 v67 (ix2 a b) * v19 (ix2 b d) := by
  pointwise [k0_pay74]

theorem pay75_at (v13 : FVec Ideal S512x256 .f32) (v22 : FVec Ideal S512x256 .bf16) (v56 : FVec Ideal S512x512 .f32) (v58 : FVec Ideal S512x512 .f32) (v75 : Vec Ideal S1x1x1x512 .f32) (a : Fin 512) (d : Fin 256) :
    k0_pay75 v13 v22 v56 v58 v75 (ix2 a d) = v13 (ix2 a d) + ∑ b : Fin 512, k0_pay71 v56 v58 v75 (ix2 a b) * v22 (ix2 b d) := by
  pointwise [k0_pay75]

theorem pay14_at (v149 : Vec Ideal S1x512x128 .f32) (a : Fin 512) (d : Fin 128) :
    k0_pay14 v149 (ix2 a d) = v149 (ix3 0 a d) := by
  pointwise [k0_pay14]

theorem pay15_at (v150 : FVec Ideal S512x128 .f32) (v151 : Vec Ideal S1x512x128 .f32) (b : Fin 512) :
    k0_pay15 v150 v151 (ix4 0 0 0 b) = ∑ d : Fin 128, v150 (ix2 b d) * v151 (ix3 0 b d) := by
  pointwise [k0_pay15]

theorem pay17_at (v171 : Vec Ideal S1x512x128 .f32) (v173 : Vec Ideal S1x512x128 .f32) (b : Fin 512) :
    k0_pay17 v171 v173 (ix2 0 b) = ∑ d : Fin 128, v171 (ix3 0 b d) * v173 (ix3 0 b d) := by
  pointwise [k0_pay17]

theorem pay18_at (v178 : FVec Ideal S1x512 .f32) (b : Fin 512) :
    k0_pay18 v178 (ix4 0 0 0 b) = v178 (ix2 0 b) := by
  pointwise [k0_pay18]

end Cert.KernelIdeal.Bwd

end
-- ==== Proof.Tile.lean ====
/- The mathematics of one tile of the attention's backward pass: 512 keys against 512 queries of one head, from the
   blocks the kernel's body is handed. -/
module

public import proofs.«01_k».proof.Proof.Pay
public import Idealize.ShloMosaic.Lib.WritesUnit
public import Idealize.ShloMosaic.Lib.Pipeline.ValueKit.Tiles

@[expose] public section

set_option maxRecDepth 16384

noncomputable section

namespace Cert.KernelIdeal.Bwd

open Cert.KernelIdeal Cert.KernelIdeal.Gen
open Idealize.ShloMosaic

/-- Query `b` of tile `t`, as a row of the sequence. -/
def row (t : Fin 4) (b : Fin 512) : Fin 2048 := ⟨512 * t.val + b.val, by omega⟩
/-- Lane `d` of head `h` among the lanes of the two heads handled at once. -/
def col (h : Fin 2) (d : Fin 256) : Fin 512 := ⟨256 * h.val + d.val, by omega⟩
/-- Lane `d` of head `h` among the value lanes of the two heads handled at once. -/
def vcol (h : Fin 2) (d : Fin 128) : Fin 256 := ⟨128 * h.val + d.val, by omega⟩

theorem row_val (t : Fin 4) (b : Fin 512) : (row t b).val = 512 * t.val + b.val := rfl
theorem col_val (h : Fin 2) (d : Fin 256) : (col h d).val = 256 * h.val + d.val := rfl
theorem vcol_val (h : Fin 2) (d : Fin 128) : (vcol h d).val = 128 * h.val + d.val := rfl

theorem exists_row (r : Fin 2048) : ∃ t b, r = row t b :=
  ⟨⟨r.val / 512, by omega⟩, ⟨r.val % 512, by omega⟩, Fin.ext (by simp only [row_val]; omega)⟩
theorem exists_col (r : Fin 512) : ∃ h d, r = col h d :=
  ⟨⟨r.val / 256, by omega⟩, ⟨r.val % 256, by omega⟩, Fin.ext (by simp only [col_val]; omega)⟩
theorem exists_vcol (r : Fin 256) : ∃ h d, r = vcol h d :=
  ⟨⟨r.val / 128, by omega⟩, ⟨r.val % 128, by omega⟩, Fin.ext (by simp only [vcol_val]; omega)⟩

/-- What the body reads: the queries and the output's gradient of the whole sequence, one block of keys and values,
    the logarithm of each query's denominator and the row sums of `do · o`. -/
structure Blocks where
  q : Vec Ideal S1x2048x512 .bf16
  k : Vec Ideal S1x512x512 .bf16
  v : Vec Ideal S1x512x256 .bf16
  lse : Vec Ideal S1x2x4x1x512 .f32
  g : Vec Ideal S1x2048x256 .f32
  dsum : Vec Ideal S2x4x1x512 .f32

variable (B : Blocks) (j : Fin 4)

/-- The weight of key `a` of block `j` for query `b` of tile `t`: on the diagonal tile zero above the diagonal. -/
def prob (h : Fin 2) (t : Fin 4) (a b : Fin 512) : EReal :=
  if t = j ∧ ¬ a ≤ b then 0
  else Ideal.exp ((∑ d : Fin 256, B.k (ix3 0 a (col h d)) * B.q (ix3 0 (row t b) (col h d))) * scale - B.lse (ix5 0 h t 0 b))
/-- The gradient of that weight. -/
def dprob (h : Fin 2) (t : Fin 4) (a b : Fin 512) : EReal :=
  ∑ d : Fin 128, B.v (ix3 0 a (vcol h d)) * B.g (ix3 0 (row t b) (vcol h d))
/-- The gradient of the score, scaled. -/
def dscore (h : Fin 2) (t : Fin 4) (a b : Fin 512) : EReal :=
  prob B j h t a b * (dprob B h t a b - B.dsum (ix4 h t 0 b)) * scale
/-- What the tile adds to a query's gradient. -/
def dqTile (h : Fin 2) (t : Fin 4) (b : Fin 512) (d : Fin 256) : EReal :=
  ∑ a : Fin 512, dscore B j h t a b * B.k (ix3 0 a (col h d))
/-- What the tile adds to a key's gradient. -/
def dkTile (h : Fin 2) (t : Fin 4) (a : Fin 512) (d : Fin 256) : EReal :=
  ∑ b : Fin 512, dscore B j h t a b * B.q (ix3 0 (row t b) (col h d))
/-- What the tile adds to a value's gradient. -/
def dvTile (h : Fin 2) (t : Fin 4) (a : Fin 512) (d : Fin 128) : EReal :=
  ∑ b : Fin 512, prob B j h t a b * B.g (ix3 0 (row t b) (vcol h d))

section Reads

variable {sig : RefSig} {κ : Kind} {sp : Space} {s : Shape} {e : EltTy} {Val : EltTy → Type}

/-- A load of a rectangle, at one index, reads the buffer at the index's place. -/
theorem readAt_at (v : View sig κ sp s e) (f : v.ty.Contents Val) {off off' size : Fin s.rank → ℕ} {inb}
    (h : off = off') (x : (Rect.unit off size inb).shape.Idx) (y : s.Idx) (hy : ∀ a, (y a).val = off' a + (x a).val) :
    v.readAt Val (Rect.unit off size inb).toLoadRect f x = v.read Val f y := by
  subst h
  exact View.ld_unit_apply_of (v.read Val f) off size inb x y hy

/-- A load of 512 rows of one head, at one index. -/
theorem load_row (v : View sig κ sp S1x2048x512 e) (f : v.ty.Contents Val) {off : Fin 3 → ℕ} {inb} (t : Fin 4) (h : Fin 2)
    (ho : off = ![0, 512 * t.val, 256 * h.val]) (b : Fin 512) (d : Fin 256) :
    v.readAt Val (Rect.unit (s := S1x2048x512) off S1x512x256.size inb).toLoadRect f (ix3 0 b d)
      = v.read Val f (ix3 0 (row t b) (col h d)) :=
  readAt_at v f ho _ _ fun a => by
    match a with
    | 0 => rfl
    | 1 => rfl
    | 2 => rfl

/-- A load of 512 rows of one head's value lanes, at one index. -/
theorem load_vrow (v : View sig κ sp S1x2048x256 e) (f : v.ty.Contents Val) {off : Fin 3 → ℕ} {inb} (t : Fin 4) (h : Fin 2)
    (ho : off = ![0, 512 * t.val, 128 * h.val]) (b : Fin 512) (d : Fin 128) :
    v.readAt Val (Rect.unit (s := S1x2048x256) off S1x512x128.size inb).toLoadRect f (ix3 0 b d)
      = v.read Val f (ix3 0 (row t b) (vcol h d)) :=
  readAt_at v f ho _ _ fun a => by
    match a with
    | 0 => rfl
    | 1 => rfl
    | 2 => rfl

/-- A load of one head's lanes of the block of keys, at one index. -/
theorem load_key (v : View sig κ sp S1x512x512 e) (f : v.ty.Contents Val) {off : Fin 3 → ℕ} {inb} (h : Fin 2)
    (ho : off = ![0, 0, 256 * h.val]) (b : Fin 512) (d : Fin 256) :
    v.readAt Val (Rect.unit (s := S1x512x512) off S1x512x256.size inb).toLoadRect f (ix3 0 b d)
      = v.read Val f (ix3 0 b (col h d)) :=
  readAt_at v f ho _ _ fun a => by
    match a with
    | 0 => rfl
    | 1 => exact (Nat.zero_add _).symm
    | 2 => rfl

/-- A load of one head's lanes of the block of values, at one index. -/
theorem load_val (v : View sig κ sp S1x512x256 e) (f : v.ty.Contents Val) {off : Fin 3 → ℕ} {inb} (h : Fin 2)
    (ho : off = ![0, 0, 128 * h.val]) (b : Fin 512) (d : Fin 128) :
    v.readAt Val (Rect.unit (s := S1x512x256) off S1x512x128.size inb).toLoadRect f (ix3 0 b d)
      = v.read Val f (ix3 0 b (vcol h d)) :=
  readAt_at v f ho _ _ fun a => by
    match a with
    | 0 => rfl
    | 1 => exact (Nat.zero_add _).symm
    | 2 => rfl

/-- A load of one tile's logarithms, at one index. -/
theorem load_lse (v : View sig κ sp S1x2x4x1x512 e) (f : v.ty.Contents Val) {off : Fin 5 → ℕ} {inb} (t : Fin 4) (h : Fin 2)
    (ho : off = ![0, h.val, t.val, 0, 0]) (b : Fin 512) :
    v.readAt Val (Rect.unit (s := S1x2x4x1x512) off S1x1x1x1x512.size inb).toLoadRect f (ix5 0 0 0 0 b)
      = v.read Val f (ix5 0 h t 0 b) :=
  readAt_at v f ho _ _ fun a => by
    match a with
    | 0 => rfl
    | 1 => rfl
    | 2 => rfl
    | 3 => rfl
    | 4 => exact (Nat.zero_add _).symm

/-- A load of one tile's row sums, at one index. -/
theorem load_dsum (v : View sig κ sp S2x4x1x512 e) (f : v.ty.Contents Val) {off : Fin 4 → ℕ} {inb} (t : Fin 4) (h : Fin 2)
    (ho : off = ![h.val, t.val, 0, 0]) (b : Fin 512) :
    v.readAt Val (Rect.unit (s := S2x4x1x512) off S1x1x1x512.size inb).toLoadRect f (ix4 0 0 0 b)
      = v.read Val f (ix4 h t 0 b) :=
  readAt_at v f ho _ _ fun a => by
    match a with
    | 0 => rfl
    | 1 => rfl
    | 2 => rfl
    | 3 => exact (Nat.zero_add _).symm

/-- A store of 512 rows of one head over earlier stores: its own rows and lanes read the stored value, every other
    place what was there. -/
theorem store_row (v : View sig κ sp S1x2048x512 e) (f : v.ty.Contents Val) {off : Fin 3 → ℕ} {inb} (t : Fin 4) (h : Fin 2)
    (ho : off = ![0, 512 * t.val, 256 * h.val]) (w : S1x512x256.Idx → Val e) (L : List (View.Piece Val S1x2048x512 e))
    (t' : Fin 4) (b : Fin 512) (h' : Fin 2) (d : Fin 256) :
    v.read Val (v.writes Val f ((⟨Rect.unit (s := S1x2048x512) off S1x512x256.size inb, w⟩ : View.Piece Val S1x2048x512 e) :: L))
        (ix3 0 (row t' b) (col h' d))
      = if t' = t ∧ h' = h then w (ix3 0 b d) else v.read Val (v.writes Val f L) (ix3 0 (row t' b) (col h' d)) := by
  by_cases ht : t' = t
  · by_cases hh : h' = h
    · subst ht; subst hh
      rw [if_pos ⟨rfl, rfl⟩]
      exact View.read_writes_cons_unit_of_mem v f inb w L _ (ix3 0 b d) ho fun a => by
        match a with
        | 0 => rfl
        | 1 => rfl
        | 2 => rfl
    · rw [if_neg (fun h => hh h.2)]
      refine View.read_writes_cons_unit_of_not_mem v f inb w L _ ho 2 ?_
      have : h'.val ≠ h.val := fun e => hh (Fin.ext e)
      show (col h' d).val < 256 * h.val ∨ 256 * h.val + 256 ≤ (col h' d).val
      rw [col_val]; omega
  · rw [if_neg (fun h => ht h.1)]
    refine View.read_writes_cons_unit_of_not_mem v f inb w L _ ho 1 ?_
    have : t'.val ≠ t.val := fun e => ht (Fin.ext e)
    show (row t' b).val < 512 * t.val ∨ 512 * t.val + 512 ≤ (row t' b).val
    rw [row_val]; omega

end Reads

end Cert.KernelIdeal.Bwd

end
-- ==== Proof.Trip.lean ====
/- One trip of the kernel's loop over query tiles, read: what it adds to the keys' and values' gradients it carries
   and to the block of query gradients; then the whole loop. -/
module

public import proofs.«01_k».proof.Proof.Tile
public import proofs.«01_k».proof.Proof.Gen.KernelIdeal.Loops

@[expose] public section

set_option maxRecDepth 16384

noncomputable section

namespace Cert.KernelIdeal.Bwd

open Cert.KernelIdeal Cert.KernelIdeal.Gen
open Idealize.ShloMosaic Idealize.ShloMosaic.TcCoe

/-- The key block of a grid point. -/
def jOf (i : grid0.Coords) : Fin 4 := ⟨(i 2).val, (i 2).isLt⟩

theorem trips_eq : ∀ i, (k0_t1_loop i).trips = 3 - (i 2).val := by decide +kernel

/-- The query tile of a trip. -/
def tile (i : grid0.Coords) (k : Fin (k0_t1_loop i).trips) : Fin 4 :=
  ⟨(i 2).val + 1 + k.val, by have h := k.isLt; have e := trips_eq i; omega⟩

theorem off9_eq : ∀ i k, k0_off9 i k = ![0, 512 * (tile i k).val, 256 * (0 : Fin 2).val] := by decide +kernel
theorem off10_eq : ∀ i k, k0_off10 i k = ![0, 512 * (tile i k).val, 256 * (1 : Fin 2).val] := by decide +kernel
theorem off11_eq : ∀ i k, k0_off11 i k = ![0, 512 * (tile i k).val, 128 * (0 : Fin 2).val] := by decide +kernel
theorem off12_eq : ∀ i k, k0_off12 i k = ![0, 512 * (tile i k).val, 128 * (1 : Fin 2).val] := by decide +kernel
theorem off13_eq : ∀ i k, k0_off13 i k = ![0, (0 : Fin 2).val, (tile i k).val, 0, 0] := by decide +kernel
theorem off14_eq : ∀ i k, k0_off14 i k = ![0, (1 : Fin 2).val, (tile i k).val, 0, 0] := by decide +kernel
theorem off15_eq : ∀ i k, k0_off15 i k = ![(0 : Fin 2).val, (tile i k).val, 0, 0] := by decide +kernel
theorem off16_eq : ∀ i k, k0_off16 i k = ![(1 : Fin 2).val, (tile i k).val, 0, 0] := by decide +kernel

section

variable (𝒱 : Variants) (c : Dev nD) (bd : Option 𝒱.V)
    (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (v4 : FVec Ideal S512x256 .bf16) (v6 : FVec Ideal S512x256 .bf16) (v8 : FVec Ideal S512x128 .bf16) (v10 : FVec Ideal S512x128 .bf16) (v105 : BitVec 32)
    (X_arg3 : BufTy.Contents (Elt Ideal) arg3.view.ty) (X_arg7 : BufTy.Contents (Elt Ideal) arg7.view.ty) (X_arg8 : BufTy.Contents (Elt Ideal) arg8.view.ty) (X_arg12 : BufTy.Contents (Elt Ideal) arg12.view.ty)
variable (B : Blocks) (h3 : arg3.view.read (Elt Ideal) X_arg3 = B.q) (h7 : arg7.view.read (Elt Ideal) X_arg7 = B.lse)
  (h8 : arg8.view.read (Elt Ideal) X_arg8 = B.g) (h12 : arg12.view.read (Elt Ideal) X_arg12 = B.dsum)
  (hk0 : ∀ a d, v4 (ix2 a d) = B.k (ix3 0 a (col 0 d))) (hk1 : ∀ a d, v6 (ix2 a d) = B.k (ix3 0 a (col 1 d)))
  (hv0 : ∀ a d, v8 (ix2 a d) = B.v (ix3 0 a (vcol 0 d))) (hv1 : ∀ a d, v10 (ix2 a d) = B.v (ix3 0 a (vcol 1 d)))
  (k : Fin (k0_t1_loop i).trips)

theorem tile_ne : tile i k ≠ jOf i := fun h => by
  have e : (i 2).val + 1 + k.val = (i 2).val := congrArg Fin.val h
  omega

theorem prob_off (h : Fin 2) (a b : Fin 512) : prob B (jOf i) h (tile i k) a b
    = Ideal.exp ((∑ d : Fin 256, B.k (ix3 0 a (col h d)) * B.q (ix3 0 (row (tile i k) b) (col h d))) * scale
        - B.lse (ix5 0 h (tile i k) 0 b)) :=
  if_neg fun h => tile_ne i k h.1

include h3 in
theorem r_at (b : Fin 512) (d : Fin 256) :
    trip_k0_t1.sl.r i arg3 X_arg3 k (ix2 b d) = B.q (ix3 0 (row (tile i k) b) (col 0 d)) := by
  unfold trip_k0_t1.sl.r
  rw [pay22_at, load_row _ _ (tile i k) 0 (off9_eq i k), h3]
include h3 in
theorem r_1_at (b : Fin 512) (d : Fin 256) :
    trip_k0_t1.sl.r_1 i arg3 X_arg3 k (ix2 b d) = B.q (ix3 0 (row (tile i k) b) (col 1 d)) := by
  unfold trip_k0_t1.sl.r_1
  rw [pay23_at, load_row _ _ (tile i k) 1 (off10_eq i k), h3]
include h8 in
theorem r_2_at (b : Fin 512) (d : Fin 128) :
    trip_k0_t1.sl.r_2 i arg8 X_arg8 k (ix2 b d) = B.g (ix3 0 (row (tile i k) b) (vcol 0 d)) := by
  unfold trip_k0_t1.sl.r_2
  rw [pay24_at, load_vrow _ _ (tile i k) 0 (off11_eq i k), h8]
include h8 in
theorem r_3_at (b : Fin 512) (d : Fin 128) :
    trip_k0_t1.sl.r_3 i arg8 X_arg8 k (ix2 b d) = B.g (ix3 0 (row (tile i k) b) (vcol 1 d)) := by
  unfold trip_k0_t1.sl.r_3
  rw [pay25_at, load_vrow _ _ (tile i k) 1 (off12_eq i k), h8]
include h3 h7 hk0 in
theorem r_4_at (a b : Fin 512) :
    trip_k0_t1.sl.r_4 i arg3 arg7 v4 X_arg3 X_arg7 k (ix2 a b) = prob B (jOf i) 0 (tile i k) a b := by
  unfold trip_k0_t1.sl.r_4
  rw [pay26_at, prob_off, load_lse _ _ (tile i k) 0 (off13_eq i k), h7]
  refine congrArg (fun s => Ideal.exp (s * scale - _)) (Finset.sum_congr rfl fun d _ => ?_)
  rw [hk0, load_row _ _ (tile i k) 0 (off9_eq i k), h3]
include h3 h7 hk1 in
theorem r_5_at (a b : Fin 512) :
    trip_k0_t1.sl.r_5 i arg3 arg7 v6 X_arg3 X_arg7 k (ix2 a b) = prob B (jOf i) 1 (tile i k) a b := by
  unfold trip_k0_t1.sl.r_5
  rw [pay27_at, prob_off, load_lse _ _ (tile i k) 1 (off14_eq i k), h7]
  refine congrArg (fun s => Ideal.exp (s * scale - _)) (Finset.sum_congr rfl fun d _ => ?_)
  rw [hk1, load_row _ _ (tile i k) 1 (off10_eq i k), h3]
include h8 hv0 in
theorem r_6_at (a b : Fin 512) :
    trip_k0_t1.sl.r_6 i arg8 v8 X_arg8 k (ix2 a b) = dprob B 0 (tile i k) a b := by
  unfold trip_k0_t1.sl.r_6
  rw [pay28_at]
  refine Finset.sum_congr rfl fun d _ => ?_
  rw [hv0, load_vrow _ _ (tile i k) 0 (off11_eq i k), h8]
include h8 hv1 in
theorem r_7_at (a b : Fin 512) :
    trip_k0_t1.sl.r_7 i arg8 v10 X_arg8 k (ix2 a b) = dprob B 1 (tile i k) a b := by
  unfold trip_k0_t1.sl.r_7
  rw [pay29_at]
  refine Finset.sum_congr rfl fun d _ => ?_
  rw [hv1, load_vrow _ _ (tile i k) 1 (off12_eq i k), h8]

include h3 h7 h8 h12 hk0 hv0 in
theorem dscore0_at (a b : Fin 512) :
    k0_pay32 (trip_k0_t1.sl.r_4 i arg3 arg7 v4 X_arg3 X_arg7 k) (trip_k0_t1.sl.r_6 i arg8 v8 X_arg8 k)
      (View.readAt (Elt Ideal) arg12.view (Rect.unit (s := S2x4x1x512) (k0_off15 i k) S1x1x1x512.size (k0_off15_inb i k)).toLoadRect X_arg12) (ix2 a b)
      = dscore B (jOf i) 0 (tile i k) a b := by
  rw [pay32_at]
  rw [r_4_at (h3 := h3) (h7 := h7) (hk0 := hk0), r_6_at (h8 := h8) (hv0 := hv0),
    load_dsum _ _ (tile i k) 0 (off15_eq i k), h12]
  rfl
include h3 h7 h8 h12 hk1 hv1 in
theorem dscore1_at (a b : Fin 512) :
    k0_pay33 (trip_k0_t1.sl.r_5 i arg3 arg7 v6 X_arg3 X_arg7 k) (trip_k0_t1.sl.r_7 i arg8 v10 X_arg8 k)
      (View.readAt (Elt Ideal) arg12.view (Rect.unit (s := S2x4x1x512) (k0_off16 i k) S1x1x1x512.size (k0_off16_inb i k)).toLoadRect X_arg12) (ix2 a b)
      = dscore B (jOf i) 1 (tile i k) a b := by
  rw [pay33_at]
  rw [r_5_at (h3 := h3) (h7 := h7) (hk1 := hk1), r_7_at (h8 := h8) (hv1 := hv1),
    load_dsum _ _ (tile i k) 1 (off16_eq i k), h12]
  rfl
include h3 h7 h8 h12 hk0 hv0 in
theorem trip_dk0 (acc : FVec Ideal S512x256 .f32 × FVec Ideal S512x128 .f32 × FVec Ideal S512x256 .f32 × FVec Ideal S512x128 .f32) (f : BufTy.Contents (Elt Ideal) arg9.view.ty) (a : Fin 512) (d : Fin 256) :
    ((trip_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 k).1 acc f).1 (ix2 a d) = acc.1 (ix2 a d) + dkTile B (jOf i) 0 (tile i k) a d := by
  unfold trip_k0_t1
  dsimp only
  rw [pay2_at]
  refine congrArg (_ + ·) (Finset.sum_congr rfl fun b _ => ?_)
  unfold trip_k0_t1.sl.r_10
  rw [dscore0_at (B := B) (h3 := h3) (h7 := h7) (h8 := h8) (h12 := h12) (hk0 := hk0) (hv0 := hv0), r_at (h3 := h3)]
include h3 h7 h8 hk0 in
theorem trip_dv0 (acc : FVec Ideal S512x256 .f32 × FVec Ideal S512x128 .f32 × FVec Ideal S512x256 .f32 × FVec Ideal S512x128 .f32) (f : BufTy.Contents (Elt Ideal) arg9.view.ty) (a : Fin 512) (d : Fin 128) :
    ((trip_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 k).1 acc f).2.1 (ix2 a d) = acc.2.1 (ix2 a d) + dvTile B (jOf i) 0 (tile i k) a d := by
  unfold trip_k0_t1
  dsimp only
  unfold trip_k0_t1.sl.r_8
  rw [pay30_at]
  refine congrArg (_ + ·) (Finset.sum_congr rfl fun b _ => ?_)
  rw [r_4_at (h3 := h3) (h7 := h7) (hk0 := hk0), r_2_at (h8 := h8)]
include h3 h7 h8 h12 hk1 hv1 in
theorem trip_dk1 (acc : FVec Ideal S512x256 .f32 × FVec Ideal S512x128 .f32 × FVec Ideal S512x256 .f32 × FVec Ideal S512x128 .f32) (f : BufTy.Contents (Elt Ideal) arg9.view.ty) (a : Fin 512) (d : Fin 256) :
    ((trip_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 k).1 acc f).2.2.1 (ix2 a d) = acc.2.2.1 (ix2 a d) + dkTile B (jOf i) 1 (tile i k) a d := by
  unfold trip_k0_t1
  dsimp only
  rw [pay3_at]
  refine congrArg (_ + ·) (Finset.sum_congr rfl fun b _ => ?_)
  unfold trip_k0_t1.sl.r_11
  rw [dscore1_at (B := B) (h3 := h3) (h7 := h7) (h8 := h8) (h12 := h12) (hk1 := hk1) (hv1 := hv1), r_1_at (h3 := h3)]
include h3 h7 h8 hk1 in
theorem trip_dv1 (acc : FVec Ideal S512x256 .f32 × FVec Ideal S512x128 .f32 × FVec Ideal S512x256 .f32 × FVec Ideal S512x128 .f32) (f : BufTy.Contents (Elt Ideal) arg9.view.ty) (a : Fin 512) (d : Fin 128) :
    ((trip_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 k).1 acc f).2.2.2 (ix2 a d) = acc.2.2.2 (ix2 a d) + dvTile B (jOf i) 1 (tile i k) a d := by
  unfold trip_k0_t1
  dsimp only
  unfold trip_k0_t1.sl.r_9
  rw [pay31_at]
  refine congrArg (_ + ·) (Finset.sum_congr rfl fun b _ => ?_)
  rw [r_5_at (h3 := h3) (h7 := h7) (hk1 := hk1), r_3_at (h8 := h8)]
include h3 h7 h8 h12 hk0 hk1 hv0 hv1 in
theorem trip_dq (acc : FVec Ideal S512x256 .f32 × FVec Ideal S512x128 .f32 × FVec Ideal S512x256 .f32 × FVec Ideal S512x128 .f32) (f : BufTy.Contents (Elt Ideal) arg9.view.ty) (t : Fin 4) (b : Fin 512) (h : Fin 2) (d : Fin 256) :
    arg9.view.read (Elt Ideal) (arg9.view.writes (Elt Ideal) f ((trip_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 k).2.1 acc f)) (ix3 0 (row t b) (col h d))
      = arg9.view.read (Elt Ideal) f (ix3 0 (row t b) (col h d)) + if t = tile i k then dqTile B (jOf i) h (tile i k) b d else 0 := by
  unfold trip_k0_t1
  dsimp only
  rw [store_row arg9.view f (tile i k) 1 (off10_eq i k), store_row arg9.view f (tile i k) 0 (off9_eq i k)]
  by_cases ht : t = tile i k
  · rw [if_pos ht]
    rcases (by omega : h = 0 ∨ h = 1) with hh | hh
    · rw [if_neg (fun e => absurd (hh.symm.trans e.2) (by decide)), if_pos ⟨ht, hh⟩, ht, hh, pay34_at, load_row _ _ (tile i k) 0 (off9_eq i k)]
      refine congrArg (_ + ·) (Finset.sum_congr rfl fun a _ => ?_)
      rw [dscore0_at (B := B) (h3 := h3) (h7 := h7) (h8 := h8) (h12 := h12) (hk0 := hk0) (hv0 := hv0), hk0]
    · rw [if_pos ⟨ht, hh⟩, ht, hh, pay1_at]
      unfold trip_k0_t1.sl.r_12
      rw [pay35_at]
      unfold trip_k0_t1.sl.v195
      rw [load_row _ _ (tile i k) 1 (off10_eq i k)]
      refine congrArg (_ + ·) (Finset.sum_congr rfl fun a _ => ?_)
      rw [dscore1_at (B := B) (h3 := h3) (h7 := h7) (h8 := h8) (h12 := h12) (hk1 := hk1) (hv1 := hv1), hk1]
  · rw [if_neg ht, if_neg (fun h => ht h.1), if_neg (fun h => ht h.1), add_zero]
    rfl

/-- The tiles of the loop's first `n` trips. -/
def done (i : grid0.Coords) (n : ℕ) : Finset (Fin 4) := Finset.univ.filter fun t => (i 2).val < t.val ∧ t.val ≤ (i 2).val + n

theorem done_zero : done i 0 = ∅ := by
  refine Finset.filter_eq_empty_iff.2 fun t _ h => ?_
  omega
theorem done_succ : done i (k.val + 1) = insert (tile i k) (done i k.val) := by
  ext t
  simp only [done, Finset.mem_filter, Finset.mem_insert, Finset.mem_univ, true_and]
  have e : (tile i k).val = (i 2).val + 1 + k.val := rfl
  constructor
  · intro h
    by_cases ht : t.val = (i 2).val + 1 + k.val
    · exact .inl (Fin.ext (ht.trans e.symm))
    · exact .inr (by omega)
  · rintro (h | h)
    · rw [h, e]; omega
    · omega
theorem tile_not_mem : tile i k ∉ done i k.val := by
  intro h
  have e : (tile i k).val = (i 2).val + 1 + k.val := rfl
  have := (Finset.mem_filter.1 h).2.2
  omega

variable (G : BufTy.Contents (Elt Ideal) arg9.view.ty) (init : FVec Ideal S512x256 .f32 × FVec Ideal S512x128 .f32 × FVec Ideal S512x256 .f32 × FVec Ideal S512x128 .f32)

include h3 h7 h8 h12 hk0 hv0 in
theorem loop_dk0 (a : Fin 512) (d : Fin 256) (n : ℕ) (hn : n ≤ (k0_t1_loop i).trips) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init n).1.1 (ix2 a d) = init.1 (ix2 a d) + ∑ t ∈ done i n, dkTile B (jOf i) 0 t a d := by
  induction n with
  | zero => rw [done_zero, Finset.sum_empty, add_zero]; rfl
  | succ n ih =>
    have e := st_k0_t1_succ (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init ⟨n, hn⟩
    rw [show n + 1 = (⟨n, hn⟩ : Fin (k0_t1_loop i).trips).val + 1 from rfl, e]
    refine (trip_dk0 (B := B) (h3 := h3) (h7 := h7) (h8 := h8) (h12 := h12) (hk0 := hk0) (hv0 := hv0) (k := ⟨n, hn⟩) ..).trans ?_
    rw [ih (by omega), done_succ i ⟨n, hn⟩, Finset.sum_insert (tile_not_mem i ⟨n, hn⟩), add_assoc, add_comm (dkTile _ _ _ _ _ _)]
include h3 h7 h8 hk0 in
theorem loop_dv0 (a : Fin 512) (d : Fin 128) (n : ℕ) (hn : n ≤ (k0_t1_loop i).trips) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init n).1.2.1 (ix2 a d) = init.2.1 (ix2 a d) + ∑ t ∈ done i n, dvTile B (jOf i) 0 t a d := by
  induction n with
  | zero => rw [done_zero, Finset.sum_empty, add_zero]; rfl
  | succ n ih =>
    have e := st_k0_t1_succ (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init ⟨n, hn⟩
    rw [show n + 1 = (⟨n, hn⟩ : Fin (k0_t1_loop i).trips).val + 1 from rfl, e]
    refine (trip_dv0 (B := B) (h3 := h3) (h7 := h7) (h8 := h8) (hk0 := hk0) (k := ⟨n, hn⟩) ..).trans ?_
    rw [ih (by omega), done_succ i ⟨n, hn⟩, Finset.sum_insert (tile_not_mem i ⟨n, hn⟩), add_assoc, add_comm (dvTile _ _ _ _ _ _)]
include h3 h7 h8 h12 hk1 hv1 in
theorem loop_dk1 (a : Fin 512) (d : Fin 256) (n : ℕ) (hn : n ≤ (k0_t1_loop i).trips) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init n).1.2.2.1 (ix2 a d) = init.2.2.1 (ix2 a d) + ∑ t ∈ done i n, dkTile B (jOf i) 1 t a d := by
  induction n with
  | zero => rw [done_zero, Finset.sum_empty, add_zero]; rfl
  | succ n ih =>
    have e := st_k0_t1_succ (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init ⟨n, hn⟩
    rw [show n + 1 = (⟨n, hn⟩ : Fin (k0_t1_loop i).trips).val + 1 from rfl, e]
    refine (trip_dk1 (B := B) (h3 := h3) (h7 := h7) (h8 := h8) (h12 := h12) (hk1 := hk1) (hv1 := hv1) (k := ⟨n, hn⟩) ..).trans ?_
    rw [ih (by omega), done_succ i ⟨n, hn⟩, Finset.sum_insert (tile_not_mem i ⟨n, hn⟩), add_assoc, add_comm (dkTile _ _ _ _ _ _)]
include h3 h7 h8 hk1 in
theorem loop_dv1 (a : Fin 512) (d : Fin 128) (n : ℕ) (hn : n ≤ (k0_t1_loop i).trips) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init n).1.2.2.2 (ix2 a d) = init.2.2.2 (ix2 a d) + ∑ t ∈ done i n, dvTile B (jOf i) 1 t a d := by
  induction n with
  | zero => rw [done_zero, Finset.sum_empty, add_zero]; rfl
  | succ n ih =>
    have e := st_k0_t1_succ (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init ⟨n, hn⟩
    rw [show n + 1 = (⟨n, hn⟩ : Fin (k0_t1_loop i).trips).val + 1 from rfl, e]
    refine (trip_dv1 (B := B) (h3 := h3) (h7 := h7) (h8 := h8) (hk1 := hk1) (k := ⟨n, hn⟩) ..).trans ?_
    rw [ih (by omega), done_succ i ⟨n, hn⟩, Finset.sum_insert (tile_not_mem i ⟨n, hn⟩), add_assoc, add_comm (dvTile _ _ _ _ _ _)]
include h3 h7 h8 h12 hk0 hk1 hv0 hv1 in
theorem loop_dq (t : Fin 4) (b : Fin 512) (h : Fin 2) (d : Fin 256) (n : ℕ) (hn : n ≤ (k0_t1_loop i).trips) :
    arg9.view.read (Elt Ideal) (arg9.view.writes (Elt Ideal) G (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init n).2) (ix3 0 (row t b) (col h d))
      = arg9.view.read (Elt Ideal) G (ix3 0 (row t b) (col h d)) + if t ∈ done i n then dqTile B (jOf i) h t b d else 0 := by
  induction n with
  | zero => rw [done_zero, if_neg (Finset.notMem_empty t), add_zero]; rfl
  | succ n ih =>
    have e := st_k0_t1_succ (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init ⟨n, hn⟩
    rw [show n + 1 = (⟨n, hn⟩ : Fin (k0_t1_loop i).trips).val + 1 from rfl, e, View.writes_append]
    refine (trip_dq (B := B) (h3 := h3) (h7 := h7) (h8 := h8) (h12 := h12) (hk0 := hk0) (hk1 := hk1) (hv0 := hv0) (hv1 := hv1) (k := ⟨n, hn⟩) ..).trans ?_
    rw [ih (by omega), add_assoc]
    refine congrArg (_ + ·) ?_
    by_cases ht : t = tile i ⟨n, hn⟩
    · rw [if_pos ht, if_neg (ht ▸ tile_not_mem i ⟨n, hn⟩), if_pos (by rw [done_succ, ht]; exact Finset.mem_insert_self _ _), zero_add, ht]
    · rw [if_neg ht, add_zero, done_succ]
      exact if_congr (by rw [Finset.mem_insert]; exact ⟨.inr, fun h => h.resolve_left ht⟩) rfl rfl

end

end Cert.KernelIdeal.Bwd

end
-- ==== Proof.Diag.lean ====
/- The body's own tile, on the diagonal, and all the tiles of one key block together: what the block's keys and
   values receive, and what every query receives from the block. -/
module

public import proofs.«01_k».proof.Proof.Trip

@[expose] public section

set_option maxRecDepth 16384

noncomputable section

namespace Cert.KernelIdeal.Bwd

open Cert.KernelIdeal Cert.KernelIdeal.Gen
open Idealize.ShloMosaic Idealize.ShloMosaic.TcCoe

/-- The tile, and the place in the tile, of a row of the sequence; the head, and the lane, of a column. -/
def tq (r : Fin 2048) : Fin 4 := ⟨r.val / 512, by omega⟩
def bq (r : Fin 2048) : Fin 512 := ⟨r.val % 512, by omega⟩
def hq (r : Fin 512) : Fin 2 := ⟨r.val / 256, by omega⟩
def lq (r : Fin 512) : Fin 256 := ⟨r.val % 256, by omega⟩
def hv (r : Fin 256) : Fin 2 := ⟨r.val / 128, by omega⟩
def lv (r : Fin 256) : Fin 128 := ⟨r.val % 128, by omega⟩

theorem tq_row (t : Fin 4) (b : Fin 512) : tq (row t b) = t := Fin.ext (by show (512 * t.val + b.val) / 512 = t.val; omega)
theorem bq_row (t : Fin 4) (b : Fin 512) : bq (row t b) = b := Fin.ext (by show (512 * t.val + b.val) % 512 = b.val; omega)
theorem hq_col (t : Fin 2) (b : Fin 256) : hq (col t b) = t := Fin.ext (by show (256 * t.val + b.val) / 256 = t.val; omega)
theorem lq_col (t : Fin 2) (b : Fin 256) : lq (col t b) = b := Fin.ext (by show (256 * t.val + b.val) % 256 = b.val; omega)
theorem hv_vcol (t : Fin 2) (b : Fin 128) : hv (vcol t b) = t := Fin.ext (by show (128 * t.val + b.val) / 128 = t.val; omega)
theorem lv_vcol (t : Fin 2) (b : Fin 128) : lv (vcol t b) = b := Fin.ext (by show (128 * t.val + b.val) % 128 = b.val; omega)
theorem row_tq (r : Fin 2048) : row (tq r) (bq r) = r := Fin.ext (by show 512 * (r.val / 512) + r.val % 512 = r.val; omega)
theorem col_hq (r : Fin 512) : col (hq r) (lq r) = r := Fin.ext (by show 256 * (r.val / 256) + r.val % 256 = r.val; omega)
theorem vcol_hv (r : Fin 256) : vcol (hv r) (lv r) = r := Fin.ext (by show 128 * (r.val / 128) + r.val % 128 = r.val; omega)

theorem idx_row (y : S1x2048x512.Idx) : ∃ (t : Fin 4) (b : Fin 512) (h : Fin 2) (d : Fin 256), y = ix3 0 (row t b) (col h d) := by
  obtain ⟨t, b, hr⟩ := exists_row (y 1)
  obtain ⟨h, d, hc⟩ := exists_col (y 2)
  exact ⟨t, b, h, d, by rw [← hr, ← hc, ← Fin.eq_zero (y 0)]; exact (ix3_eta y).symm⟩

/-- The tiles at or after the diagonal. -/
def from' (j : Fin 4) : Finset (Fin 4) := Finset.univ.filter (j ≤ ·)

/-- What a grid point leaves in the block of query gradients, starting from `x`. -/
def dqOut (B : Blocks) (j : Fin 4) (x : Vec Ideal S1x2048x512 .f32) : Vec Ideal S1x2048x512 .f32 := fun y =>
  x y + if j ≤ tq (y 1) then dqTile B j (hq (y 2)) (tq (y 1)) (bq (y 1)) (lq (y 2)) else 0
/-- What it leaves in its block of key gradients. -/
def dkOut (B : Blocks) (j : Fin 4) : Vec Ideal S1x512x512 .f32 := fun y =>
  ∑ t ∈ from' j, dkTile B j (hq (y 2)) t (y 1) (lq (y 2))
/-- What it leaves in its block of value gradients. -/
def dvOut (B : Blocks) (j : Fin 4) : Vec Ideal S1x512x256 .f32 := fun y =>
  ∑ t ∈ from' j, dvTile B j (hv (y 2)) t (y 1) (lv (y 2))
/-- The row sums of `do · o`. -/
def rowSums (o g : Vec Ideal S1x2048x256 .f32) : Vec Ideal S2x4x1x512 .f32 := fun y =>
  ∑ d : Fin 128, g (ix3 0 (row (y 1) (y 3)) (vcol (y 0) d)) * o (ix3 0 (row (y 1) (y 3)) (vcol (y 0) d))

theorem off1_eq : ∀ i, k0_off1 i = ![0, 512 * (jOf i).val, 256 * (0 : Fin 2).val] := by decide +kernel
theorem off2_eq : ∀ i, k0_off2 i = ![0, 512 * (jOf i).val, 256 * (1 : Fin 2).val] := by decide +kernel
theorem off3_eq : ∀ i, k0_off3 i = ![0, 512 * (jOf i).val, 128 * (0 : Fin 2).val] := by decide +kernel
theorem off4_eq : ∀ i, k0_off4 i = ![0, 512 * (jOf i).val, 128 * (1 : Fin 2).val] := by decide +kernel
theorem off5_eq : ∀ i, k0_off5 i = ![0, (0 : Fin 2).val, (jOf i).val, 0, 0] := by decide +kernel
theorem off6_eq : ∀ i, k0_off6 i = ![0, (1 : Fin 2).val, (jOf i).val, 0, 0] := by decide +kernel
theorem off7_eq : ∀ i, k0_off7 i = ![(0 : Fin 2).val, (jOf i).val, 0, 0] := by decide +kernel
theorem off8_eq : ∀ i, k0_off8 i = ![(1 : Fin 2).val, (jOf i).val, 0, 0] := by decide +kernel

theorem trips1 : ∀ i : grid0.Coords, Scf.trips (Scalar.addi (BitVec.ofNat 32 (i 2).val) 1#32)
    (Scalar.addi (Scalar.addi (BitVec.ofNat 32 (i 2).val) 1#32)
      (Scalar.muli (Scalar.divsi (Scalar.subi (4#32) (Scalar.addi (BitVec.ofNat 32 (i 2).val) 1#32)) 1#32) 1#32)) 1#32
      = 3 - (jOf i).val := by decide +kernel
theorem trips2 : ∀ i : grid0.Coords, Scf.trips
    (Scalar.addi (Scalar.addi (BitVec.ofNat 32 (i 2).val) 1#32)
      (Scalar.muli (Scalar.divsi (Scalar.subi (4#32) (Scalar.addi (BitVec.ofNat 32 (i 2).val) 1#32)) 1#32) 1#32))
    (Scalar.addi (Scalar.addi (BitVec.ofNat 32 (i 2).val) 1#32)
      (Scalar.subi (4#32) (Scalar.addi (BitVec.ofNat 32 (i 2).val) 1#32))) 1#32 = 0 := by decide +kernel

theorem from_eq (i : grid0.Coords) : from' (jOf i) = insert (jOf i) (done i (3 - (jOf i).val)) := by
  ext t
  simp only [from', done, Finset.mem_filter, Finset.mem_insert, Finset.mem_univ, true_and]
  have e : (jOf i).val = (i 2).val := rfl
  have := t.isLt
  rw [Fin.le_def, Fin.ext_iff]
  omega
theorem diag_not_mem (i : grid0.Coords) (n : ℕ) : jOf i ∉ done i n := fun h => by
  have := (Finset.mem_filter.1 h).2.1
  have e : (jOf i).val = (i 2).val := rfl
  omega

section

variable (𝒱 : Variants) (c : Dev nD) (bd : Option 𝒱.V)
    (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (v4 : FVec Ideal S512x256 .bf16) (v6 : FVec Ideal S512x256 .bf16) (v8 : FVec Ideal S512x128 .bf16) (v10 : FVec Ideal S512x128 .bf16) (v105 : BitVec 32)
    (X_arg3 : BufTy.Contents (Elt Ideal) arg3.view.ty) (X_arg7 : BufTy.Contents (Elt Ideal) arg7.view.ty) (X_arg8 : BufTy.Contents (Elt Ideal) arg8.view.ty) (X_arg12 : BufTy.Contents (Elt Ideal) arg12.view.ty)
variable (B : Blocks) (h3 : arg3.view.read (Elt Ideal) X_arg3 = B.q) (h7 : arg7.view.read (Elt Ideal) X_arg7 = B.lse)
  (h8 : arg8.view.read (Elt Ideal) X_arg8 = B.g) (h12 : arg12.view.read (Elt Ideal) X_arg12 = B.dsum)
  (hk0 : ∀ a d, v4 (ix2 a d) = B.k (ix3 0 a (col 0 d))) (hk1 : ∀ a d, v6 (ix2 a d) = B.k (ix3 0 a (col 1 d)))
  (hv0 : ∀ a d, v8 (ix2 a d) = B.v (ix3 0 a (vcol 0 d))) (hv1 : ∀ a d, v10 (ix2 a d) = B.v (ix3 0 a (vcol 1 d)))
  (q0 q1 : FVec Ideal S512x256 .bf16) (g0 : FVec Ideal S512x128 .bf16) (g1 : Vec Ideal S1x512x128 .f32) (l0 l1 : Vec Ideal S1x1x1x1x512 .f32)
  (D0 : FVec Ideal S1x512 .f32) (D1 : Vec Ideal S1x1x1x512 .f32)
  (hq0 : ∀ b d, q0 (ix2 b d) = B.q (ix3 0 (row (jOf i) b) (col 0 d))) (hq1 : ∀ b d, q1 (ix2 b d) = B.q (ix3 0 (row (jOf i) b) (col 1 d)))
  (hg0 : ∀ b d, g0 (ix2 b d) = B.g (ix3 0 (row (jOf i) b) (vcol 0 d))) (hg1 : ∀ b d, g1 (ix3 0 b d) = B.g (ix3 0 (row (jOf i) b) (vcol 1 d)))
  (hl0 : ∀ b, l0 (ix5 0 0 0 0 b) = B.lse (ix5 0 0 (jOf i) 0 b)) (hl1 : ∀ b, l1 (ix5 0 0 0 0 b) = B.lse (ix5 0 1 (jOf i) 0 b))
  (hD0 : ∀ b, D0 (ix2 0 b) = B.dsum (ix4 0 (jOf i) 0 b)) (hD1 : ∀ b, D1 (ix4 0 0 0 b) = B.dsum (ix4 1 (jOf i) 0 b))

theorem prob_on (h : Fin 2) (a b : Fin 512) : prob B (jOf i) h (jOf i) a b
    = if a ≤ b then Ideal.exp ((∑ d : Fin 256, B.k (ix3 0 a (col h d)) * B.q (ix3 0 (row (jOf i) b) (col h d))) * scale
        - B.lse (ix5 0 h (jOf i) 0 b)) else 0 := by
  unfold prob
  by_cases h : a ≤ b
  · rw [if_neg (fun e => e.2 h), if_pos h]
  · rw [if_pos ⟨rfl, h⟩, if_neg h]

include hk0 hq0 hl0 in
theorem diag_prob0 (a b : Fin 512) : k0_pay63 v4 q0 l0 (ix2 a b) = prob B (jOf i) 0 (jOf i) a b := by
  rw [pay63_at, prob_on, hl0]
  refine if_congr Iff.rfl (congrArg (fun s => Ideal.exp (s * scale - _)) (Finset.sum_congr rfl fun d _ => ?_)) rfl
  rw [hk0, hq0]
include hv0 hg0 in
theorem diag_dprob0 (a b : Fin 512) : k0_pay65 v8 g0 (ix2 a b) = dprob B 0 (jOf i) a b := by
  rw [pay65_at]
  refine Finset.sum_congr rfl fun d _ => ?_
  rw [hv0, hg0]
include hk0 hv0 hq0 hg0 hl0 hD0 in
theorem diag_dscore0 (a b : Fin 512) : k0_pay70 (k0_pay63 v4 q0 l0) (k0_pay65 v8 g0) D0 (ix2 a b) = dscore B (jOf i) 0 (jOf i) a b := by
  rw [pay70_at, diag_prob0 (hk0 := hk0) (hq0 := hq0) (hl0 := hl0), diag_dprob0 (hv0 := hv0) (hg0 := hg0), hD0]
  rfl
include hk0 hq0 hg0 hl0 in
theorem diag_dv0 (a : Fin 512) (d : Fin 128) :
    k0_pay67 v4 k0_pay56 q0 g0 l0 (ix2 a d) = dvTile B (jOf i) 0 (jOf i) a d := by
  rw [pay67_at, pay56_at, zero_add]
  refine Finset.sum_congr rfl fun b _ => ?_
  rw [diag_prob0 (hk0 := hk0) (hq0 := hq0) (hl0 := hl0), hg0]
include hk0 hv0 hq0 hg0 hl0 hD0 in
theorem diag_dk0 (a : Fin 512) (d : Fin 256) :
    k0_pay74 k0_pay55 q0 (k0_pay63 v4 q0 l0) (k0_pay65 v8 g0) D0 (ix2 a d) = dkTile B (jOf i) 0 (jOf i) a d := by
  rw [pay74_at, pay55_at, zero_add]
  refine Finset.sum_congr rfl fun b _ => ?_
  rw [diag_dscore0 (hk0 := hk0) (hv0 := hv0) (hq0 := hq0) (hg0 := hg0) (hl0 := hl0) (hD0 := hD0), hq0]
include hk0 hv0 hq0 hg0 hl0 hD0 in
theorem diag_dq0 (x : Vec Ideal S1x512x256 .f32) (b : Fin 512) (d : Fin 256) :
    k0_pay72 v4 (k0_pay63 v4 q0 l0) (k0_pay65 v8 g0) D0 x (ix3 0 b d) = x (ix3 0 b d) + dqTile B (jOf i) 0 (jOf i) b d := by
  rw [pay72_at]
  refine congrArg (_ + ·) (Finset.sum_congr rfl fun a _ => ?_)
  rw [diag_dscore0 (hk0 := hk0) (hv0 := hv0) (hq0 := hq0) (hg0 := hg0) (hl0 := hl0) (hD0 := hD0), hk0]
include hk1 hq1 hl1 in
theorem diag_prob1 (a b : Fin 512) : k0_pay64 v6 q1 l1 (ix2 a b) = prob B (jOf i) 1 (jOf i) a b := by
  rw [pay64_at, prob_on, hl1]
  refine if_congr Iff.rfl (congrArg (fun s => Ideal.exp (s * scale - _)) (Finset.sum_congr rfl fun d _ => ?_)) rfl
  rw [hk1, hq1]
include hv1 hg1 in
theorem diag_dprob1 (a b : Fin 512) : k0_pay66 v10 g1 (ix2 a b) = dprob B 1 (jOf i) a b := by
  rw [pay66_at]
  refine Finset.sum_congr rfl fun d _ => ?_
  rw [hv1, hg1]
include hk1 hv1 hq1 hg1 hl1 hD1 in
theorem diag_dscore1 (a b : Fin 512) : k0_pay71 (k0_pay64 v6 q1 l1) (k0_pay66 v10 g1) D1 (ix2 a b) = dscore B (jOf i) 1 (jOf i) a b := by
  rw [pay71_at, diag_prob1 (hk1 := hk1) (hq1 := hq1) (hl1 := hl1), diag_dprob1 (hv1 := hv1) (hg1 := hg1), hD1]
  rfl
include hk1 hq1 hg1 hl1 in
theorem diag_dv1 (a : Fin 512) (d : Fin 128) :
    k0_pay68 v6 k0_pay58 q1 g1 l1 (ix2 a d) = dvTile B (jOf i) 1 (jOf i) a d := by
  rw [pay68_at, pay58_at, zero_add]
  refine Finset.sum_congr rfl fun b _ => ?_
  rw [diag_prob1 (hk1 := hk1) (hq1 := hq1) (hl1 := hl1), hg1]
include hk1 hv1 hq1 hg1 hl1 hD1 in
theorem diag_dk1 (a : Fin 512) (d : Fin 256) :
    k0_pay75 k0_pay57 q1 (k0_pay64 v6 q1 l1) (k0_pay66 v10 g1) D1 (ix2 a d) = dkTile B (jOf i) 1 (jOf i) a d := by
  rw [pay75_at, pay57_at, zero_add]
  refine Finset.sum_congr rfl fun b _ => ?_
  rw [diag_dscore1 (hk1 := hk1) (hv1 := hv1) (hq1 := hq1) (hg1 := hg1) (hl1 := hl1) (hD1 := hD1), hq1]
include hk1 hv1 hq1 hg1 hl1 hD1 in
theorem diag_dq1 (x : Vec Ideal S1x512x256 .f32) (b : Fin 512) (d : Fin 256) :
    k0_pay73 v6 (k0_pay64 v6 q1 l1) (k0_pay66 v10 g1) D1 x (ix3 0 b d) = x (ix3 0 b d) + dqTile B (jOf i) 1 (jOf i) b d := by
  rw [pay73_at]
  refine congrArg (_ + ·) (Finset.sum_congr rfl fun a _ => ?_)
  rw [diag_dscore1 (hk1 := hk1) (hv1 := hv1) (hq1 := hq1) (hg1 := hg1) (hl1 := hl1) (hD1 := hD1), hk1]
include hk0 hv0 hq0 hg0 hl0 hD0 hk1 hv1 hq1 hg1 hl1 hD1 in
/-- The diagonal tile's two stores, over contents that read `x`. -/
theorem diag_dq (f : BufTy.Contents (Elt Ideal) arg9.view.ty) (L : List (View.Piece (Elt Ideal) S1x2048x512 .f32)) (x : Vec Ideal S1x2048x512 .f32)
    (i1 : ∀ a, k0_off1 i a + S1x512x256.size a ≤ S1x2048x512.size a) (i2 : ∀ a, k0_off2 i a + S1x512x256.size a ≤ S1x2048x512.size a)
    (old0 old1 : Vec Ideal S1x512x256 .f32) (hx : arg9.view.read (Elt Ideal) (arg9.view.writes (Elt Ideal) f L) = x)
    (ho0 : ∀ b d, old0 (ix3 0 b d) = x (ix3 0 (row (jOf i) b) (col 0 d)))
    (ho1 : ∀ b d, old1 (ix3 0 b d) = x (ix3 0 (row (jOf i) b) (col 1 d)))
    (t : Fin 4) (b : Fin 512) (h : Fin 2) (d : Fin 256) :
    arg9.view.read (Elt Ideal) (arg9.view.writes (Elt Ideal) f (⟨Rect.unit (s := S1x2048x512) (k0_off2 i) S1x512x256.size i2, k0_pay73 v6 (k0_pay64 v6 q1 l1) (k0_pay66 v10 g1) D1 old1⟩
        :: ⟨Rect.unit (s := S1x2048x512) (k0_off1 i) S1x512x256.size i1, k0_pay72 v4 (k0_pay63 v4 q0 l0) (k0_pay65 v8 g0) D0 old0⟩ :: L)) (ix3 0 (row t b) (col h d))
      = x (ix3 0 (row t b) (col h d)) + if t = jOf i then dqTile B (jOf i) h (jOf i) b d else 0 := by
  rw [store_row arg9.view f (jOf i) 1 (off2_eq i), store_row arg9.view f (jOf i) 0 (off1_eq i), hx]
  by_cases ht : t = jOf i
  · rw [if_pos ht]
    rcases (by omega : h = 0 ∨ h = 1) with hh | hh
    · rw [if_neg (fun e => absurd (hh.symm.trans e.2) (by decide)), if_pos ⟨ht, hh⟩, ht, hh,
        diag_dq0 (hk0 := hk0) (hv0 := hv0) (hq0 := hq0) (hg0 := hg0) (hl0 := hl0) (hD0 := hD0), ho0]
    · rw [if_pos ⟨ht, hh⟩, ht, hh, diag_dq1 (hk1 := hk1) (hv1 := hv1) (hq1 := hq1) (hg1 := hg1) (hl1 := hl1) (hD1 := hD1), ho1]
  · rw [if_neg ht, if_neg (fun h => ht h.1), if_neg (fun h => ht h.1), add_zero]

variable (G : BufTy.Contents (Elt Ideal) arg9.view.ty) (init : FVec Ideal S512x256 .f32 × FVec Ideal S512x128 .f32 × FVec Ideal S512x256 .f32 × FVec Ideal S512x128 .f32)

theorem le_trips : 3 - (jOf i).val ≤ (k0_t1_loop i).trips := (trips_eq i).ge

include h3 h7 h8 h12 hk0 hv0 in
theorem all_dk0 (a : Fin 512) (d : Fin 256) (e : init.1 (ix2 a d) = dkTile B (jOf i) 0 (jOf i) a d) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init (3 - (jOf i).val)).1.1 (ix2 a d) = ∑ t ∈ from' (jOf i), dkTile B (jOf i) 0 t a d := by
  rw [loop_dk0 (B := B) (h3 := h3) (h7 := h7) (h8 := h8) (h12 := h12) (hk0 := hk0) (hv0 := hv0) (hn := le_trips i), e, from_eq, Finset.sum_insert (diag_not_mem i _)]
include h3 h7 h8 hk0 in
theorem all_dv0 (a : Fin 512) (d : Fin 128) (e : init.2.1 (ix2 a d) = dvTile B (jOf i) 0 (jOf i) a d) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init (3 - (jOf i).val)).1.2.1 (ix2 a d) = ∑ t ∈ from' (jOf i), dvTile B (jOf i) 0 t a d := by
  rw [loop_dv0 (B := B) (h3 := h3) (h7 := h7) (h8 := h8) (hk0 := hk0) (hn := le_trips i), e, from_eq, Finset.sum_insert (diag_not_mem i _)]
include h3 h7 h8 h12 hk1 hv1 in
theorem all_dk1 (a : Fin 512) (d : Fin 256) (e : init.2.2.1 (ix2 a d) = dkTile B (jOf i) 1 (jOf i) a d) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init (3 - (jOf i).val)).1.2.2.1 (ix2 a d) = ∑ t ∈ from' (jOf i), dkTile B (jOf i) 1 t a d := by
  rw [loop_dk1 (B := B) (h3 := h3) (h7 := h7) (h8 := h8) (h12 := h12) (hk1 := hk1) (hv1 := hv1) (hn := le_trips i), e, from_eq, Finset.sum_insert (diag_not_mem i _)]
include h3 h7 h8 hk1 in
theorem all_dv1 (a : Fin 512) (d : Fin 128) (e : init.2.2.2 (ix2 a d) = dvTile B (jOf i) 1 (jOf i) a d) :
    (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init (3 - (jOf i).val)).1.2.2.2 (ix2 a d) = ∑ t ∈ from' (jOf i), dvTile B (jOf i) 1 t a d := by
  rw [loop_dv1 (B := B) (h3 := h3) (h7 := h7) (h8 := h8) (hk1 := hk1) (hn := le_trips i), e, from_eq, Finset.sum_insert (diag_not_mem i _)]
include h3 h7 h8 h12 hk0 hk1 hv0 hv1 in
theorem all_dq (x : Vec Ideal S1x2048x512 .f32)
    (e : ∀ t b h d, arg9.view.read (Elt Ideal) G (ix3 0 (row t b) (col h d))
      = x (ix3 0 (row t b) (col h d)) + if t = jOf i then dqTile B (jOf i) h (jOf i) b d else 0) :
    arg9.view.read (Elt Ideal) (arg9.view.writes (Elt Ideal) G (st_k0_t1 (F := Ideal) 𝒱 c bd i arg3 harg3 arg4 harg4 arg5 harg5 arg6 harg6 arg7 harg7 arg8 harg8 arg9 harg9 arg10 harg10 arg11 harg11 arg12 harg12
        v4 v6 v8 v10 v105 X_arg3 X_arg7 X_arg8 X_arg12 G init (3 - (jOf i).val)).2) = dqOut B (jOf i) x := by
  funext y
  obtain ⟨t, b, h, d, rfl⟩ := idx_row y
  rw [loop_dq (B := B) (h3 := h3) (h7 := h7) (h8 := h8) (h12 := h12) (hk0 := hk0) (hk1 := hk1) (hv0 := hv0) (hv1 := hv1) (hn := le_trips i), e, add_assoc]
  show _ = x _ + if jOf i ≤ tq (row t b) then dqTile B (jOf i) (hq (col h d)) (tq (row t b)) (bq (row t b)) (lq (col h d)) else 0
  rw [tq_row, bq_row, hq_col, lq_col]
  refine congrArg (_ + ·) ?_
  have hm : jOf i ≤ t ↔ t ∈ from' (jOf i) := by simp [from']
  rw [if_congr hm rfl rfl, from_eq]
  by_cases ht : t = jOf i
  · rw [if_pos ht, ht, if_neg (diag_not_mem i _), add_zero, if_pos (Finset.mem_insert_self _ _)]
  · rw [if_neg ht, zero_add]
    exact if_congr (by rw [Finset.mem_insert]; exact ⟨.inr, fun h => h.resolve_left ht⟩) rfl rfl

end

theorem idx_col (y : S1x512x512.Idx) : ∃ (a : Fin 512) (h : Fin 2) (d : Fin 256), y = ix3 0 a (col h d) := by
  obtain ⟨h, d, hc⟩ := exists_col (y 2)
  exact ⟨y 1, h, d, by rw [← hc, ← Fin.eq_zero (y 0)]; exact (ix3_eta y).symm⟩
theorem idx_vcol (y : S1x512x256.Idx) : ∃ (a : Fin 512) (h : Fin 2) (d : Fin 128), y = ix3 0 a (vcol h d) := by
  obtain ⟨h, d, hc⟩ := exists_vcol (y 2)
  exact ⟨y 1, h, d, by rw [← hc, ← Fin.eq_zero (y 0)]; exact (ix3_eta y).symm⟩

section Stores

variable {sig : RefSig} {κ : Kind} {sp : Space} {e : EltTy} {Val : EltTy → Type}

/-- The two heads' stores of a block of key gradients. -/
theorem stores_key (v : View sig κ sp S1x512x512 e) (f : v.ty.Contents Val) {i0 i1}
    (w0 w1 : S1x512x256.Idx → Val e) (r : S1x512x512.Idx → Val e)
    (h0 : ∀ a d, w0 (ix3 0 a d) = r (ix3 0 a (col 0 d))) (h1 : ∀ a d, w1 (ix3 0 a d) = r (ix3 0 a (col 1 d))) :
    v.read Val (v.writes Val f [⟨Rect.unit (s := S1x512x512) ![0, 0, 256] S1x512x256.size i1, w1⟩,
      ⟨Rect.unit (s := S1x512x512) ![0, 0, 0] S1x512x256.size i0, w0⟩]) = r := by
  funext y
  obtain ⟨a, h, d, rfl⟩ := idx_col y
  rcases (by omega : h = 0 ∨ h = 1) with hh | hh <;> subst hh
  · rw [View.read_writes_cons_unit_of_not_mem v f i1 w1 _ _ rfl 2 (by
      left; show (col 0 d).val < 256; rw [col_val]; show 256 * 0 + d.val < 256; omega), ← h0]
    exact View.read_writes_cons_unit_of_mem v f i0 w0 _ _ (ix3 0 a d) rfl fun a => by
      match a with
      | 0 => rfl
      | 1 => exact (Nat.zero_add _).symm
      | 2 => rfl
  · rw [← h1]
    exact View.read_writes_cons_unit_of_mem v f i1 w1 _ _ (ix3 0 a d) rfl fun a => by
      match a with
      | 0 => rfl
      | 1 => exact (Nat.zero_add _).symm
      | 2 => rfl

/-- The two heads' stores of a block of value gradients. -/
theorem stores_val (v : View sig κ sp S1x512x256 e) (f : v.ty.Contents Val) {i0 i1}
    (w0 w1 : S1x512x128.Idx → Val e) (r : S1x512x256.Idx → Val e)
    (h0 : ∀ a d, w0 (ix3 0 a d) = r (ix3 0 a (vcol 0 d))) (h1 : ∀ a d, w1 (ix3 0 a d) = r (ix3 0 a (vcol 1 d))) :
    v.read Val (v.writes Val f [⟨Rect.unit (s := S1x512x256) ![0, 0, 128] S1x512x128.size i1, w1⟩,
      ⟨Rect.unit (s := S1x512x256) ![0, 0, 0] S1x512x128.size i0, w0⟩]) = r := by
  funext y
  obtain ⟨a, h, d, rfl⟩ := idx_vcol y
  rcases (by omega : h = 0 ∨ h = 1) with hh | hh <;> subst hh
  · rw [View.read_writes_cons_unit_of_not_mem v f i1 w1 _ _ rfl 2 (by
      left; show (vcol 0 d).val < 128; rw [vcol_val]; show 128 * 0 + d.val < 128; omega), ← h0]
    exact View.read_writes_cons_unit_of_mem v f i0 w0 _ _ (ix3 0 a d) rfl fun a => by
      match a with
      | 0 => rfl
      | 1 => exact (Nat.zero_add _).symm
      | 2 => rfl
  · rw [← h1]
    exact View.read_writes_cons_unit_of_mem v f i1 w1 _ _ (ix3 0 a d) rfl fun a => by
      match a with
      | 0 => rfl
      | 1 => exact (Nat.zero_add _).symm
      | 2 => rfl

/-- A store of one tile's row sums over earlier stores. -/
theorem store_dsum (v : View sig κ sp S2x4x1x512 e) (f : v.ty.Contents Val) {off : Fin 4 → ℕ} {inb} (t : Fin 4) (h : Fin 2)
    (ho : off = ![h.val, t.val, 0, 0]) (w : S1x1x1x512.Idx → Val e) (L : List (View.Piece Val S2x4x1x512 e))
    (t' : Fin 4) (h' : Fin 2) (b : Fin 512) :
    v.read Val (v.writes Val f ((⟨Rect.unit (s := S2x4x1x512) off S1x1x1x512.size inb, w⟩ : View.Piece Val S2x4x1x512 e) :: L)) (ix4 h' t' 0 b)
      = if t' = t ∧ h' = h then w (ix4 0 0 0 b) else v.read Val (v.writes Val f L) (ix4 h' t' 0 b) := by
  by_cases ht : t' = t
  · by_cases hh : h' = h
    · subst ht; subst hh
      rw [if_pos ⟨rfl, rfl⟩]
      exact View.read_writes_cons_unit_of_mem v f inb w L _ (ix4 0 0 0 b) ho fun a => by
        match a with
        | 0 => rfl
        | 1 => rfl
        | 2 => rfl
        | 3 => exact (Nat.zero_add _).symm
    · rw [if_neg (fun h => hh h.2)]
      refine View.read_writes_cons_unit_of_not_mem v f inb w L _ ho 0 ?_
      have : h'.val ≠ h.val := fun e => hh (Fin.ext e)
      show h'.val < h.val ∨ h.val + 1 ≤ h'.val
      omega
  · rw [if_neg (fun h => ht h.1)]
    refine View.read_writes_cons_unit_of_not_mem v f inb w L _ ho 1 ?_
    have : t'.val ≠ t.val := fun e => ht (Fin.ext e)
    show t'.val < t.val ∨ t.val + 1 ≤ t'.val
    omega

end Stores

end Cert.KernelIdeal.Bwd

end
-- ==== Proof.BodyA.lean ====
/- What the body leaves at a first key block, as the mathematics of its tiles. -/
module

public import proofs.«01_k».proof.Proof.Diag
public import proofs.«01_k».proof.Proof.RunA

@[expose] public section

set_option maxRecDepth 16384

noncomputable section

namespace Cert.KernelIdeal.Bwd

open Cert.KernelIdeal Cert.KernelIdeal.Gen
open Idealize.ShloMosaic Idealize.ShloMosaic.TcCoe

section

variable (c : Dev nD) (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (x0 : Vec Ideal S1x2048x512 .bf16) (x1 : Vec Ideal S1x512x512 .bf16) (x2 : Vec Ideal S1x512x256 .bf16) (x3 : Vec Ideal S1x2048x256 .f32)
    (x4 : Vec Ideal S1x2x4x1x512 .f32) (x5 : Vec Ideal S1x2048x256 .f32)

theorem k0w_A (a : Fin 512) (d : Fin 256) : runA.sl.r_3 c arg4 harg4 x1 (ix2 a d) = x1 (ix3 0 a (col 0 d)) := by
  unfold runA.sl.r_3
  rw [pay51_at, load_key _ _ 0 (by rfl), harg4.read_unread]
theorem k1w_A (a : Fin 512) (d : Fin 256) : runA.sl.r_4 c arg4 harg4 x1 (ix2 a d) = x1 (ix3 0 a (col 1 d)) := by
  unfold runA.sl.r_4
  rw [pay52_at, load_key _ _ 1 (by rfl), harg4.read_unread]
theorem v0w_A (a : Fin 512) (d : Fin 128) : runA.sl.r_5 c arg5 harg5 x2 (ix2 a d) = x2 (ix3 0 a (vcol 0 d)) := by
  unfold runA.sl.r_5
  rw [pay53_at, load_val _ _ 0 (by rfl), harg5.read_unread]
theorem v1w_A (a : Fin 512) (d : Fin 128) : runA.sl.r_6 c arg5 harg5 x2 (ix2 a d) = x2 (ix3 0 a (vcol 1 d)) := by
  unfold runA.sl.r_6
  rw [pay54_at, load_val _ _ 1 (by rfl), harg5.read_unread]
theorem q0w_A (b : Fin 512) (d : Fin 256) : runA.sl.r_7 c i arg3 harg3 x0 (ix2 b d) = x0 (ix3 0 (row (jOf i) b) (col 0 d)) := by
  unfold runA.sl.r_7
  rw [pay59_at, load_row _ _ (jOf i) 0 (off1_eq i), harg3.read_unread]
theorem q1w_A (b : Fin 512) (d : Fin 256) : runA.sl.r_8 c i arg3 harg3 x0 (ix2 b d) = x0 (ix3 0 (row (jOf i) b) (col 1 d)) := by
  unfold runA.sl.r_8
  rw [pay60_at, load_row _ _ (jOf i) 1 (off2_eq i), harg3.read_unread]
theorem g0w_A (b : Fin 512) (d : Fin 128) : runA.sl.r_9 c i arg8 harg8 x5 (ix2 b d) = x5 (ix3 0 (row (jOf i) b) (vcol 0 d)) := by
  unfold runA.sl.r_9
  rw [pay61_at, load_vrow _ _ (jOf i) 0 (off3_eq i), harg8.read_unread]
theorem g1w_A (b : Fin 512) (d : Fin 128) : runA.sl.r_10 c i arg8 harg8 x5 (ix3 0 b d) = x5 (ix3 0 (row (jOf i) b) (vcol 1 d)) := by
  unfold runA.sl.r_10
  rw [load_vrow _ _ (jOf i) 1 (off4_eq i), harg8.read_unread]
theorem l0w_A (inb) (b : Fin 512) : arg7.view.readAt (Elt Ideal) (Rect.unit (s := S1x2x4x1x512) (k0_off5 i) S1x1x1x1x512.size inb).toLoadRect
    (harg7.unread x4) (ix5 0 0 0 0 b) = x4 (ix5 0 0 (jOf i) 0 b) := by
  rw [load_lse _ _ (jOf i) 0 (off5_eq i), harg7.read_unread]
theorem l1w_A (inb) (b : Fin 512) : arg7.view.readAt (Elt Ideal) (Rect.unit (s := S1x2x4x1x512) (k0_off6 i) S1x1x1x1x512.size inb).toLoadRect
    (harg7.unread x4) (ix5 0 0 0 0 b) = x4 (ix5 0 1 (jOf i) 0 b) := by
  rw [load_lse _ _ (jOf i) 1 (off6_eq i), harg7.read_unread]
theorem rowSums_at (t : Fin 4) (h : Fin 2) (b : Fin 512) : rowSums x3 x5 (ix4 h t 0 b)
    = ∑ d : Fin 128, x5 (ix3 0 (row t b) (vcol h d)) * x3 (ix3 0 (row t b) (vcol h d)) := rfl

/-- The eight stores of row sums leave the row sums. -/
theorem dsum_A (f : BufTy.Contents (Elt Ideal) arg12.view.ty) :
    arg12.view.read (Elt Ideal) (arg12.view.writes (Elt Ideal) f (runA.sl.HS_8 c arg6 harg6 arg8 harg8 x3 x5)) = rowSums x3 x5 := by
  funext y
  obtain ⟨h, t, b, rfl⟩ : ∃ (h : Fin 2) (t : Fin 4) (b : Fin 512), y = ix4 h t 0 b :=
    ⟨y 0, y 1, y 3, by rw [← Fin.eq_zero (y 2)]; exact (ix4_eta y).symm⟩
  unfold runA.sl.HS_8 runA.sl.r runA.sl.r_1 runA.sl.r_2
  rw [rowSums_at]
  rw [store_dsum arg12.view f 3 1 (by rfl)]
  rw [store_dsum arg12.view f 2 1 (by rfl)]
  rw [store_dsum arg12.view f 1 1 (by rfl)]
  rw [store_dsum arg12.view f 0 1 (by rfl)]
  rw [store_dsum arg12.view f 3 0 (by rfl)]
  rw [store_dsum arg12.view f 2 0 (by rfl)]
  rw [store_dsum arg12.view f 1 0 (by rfl)]
  rw [store_dsum arg12.view f 0 0 (by rfl)]
  by_cases e13 : t = 3 ∧ h = 1
  · rw [if_pos e13, e13.1, e13.2, pay50_at]
    refine Finset.sum_congr rfl fun d _ => ?_
    rw [pay21_at, load_vrow _ _ 3 1 (by rfl), load_vrow _ _ 3 1 (by rfl), harg6.read_unread, harg8.read_unread]
  rw [if_neg e13]
  by_cases e12 : t = 2 ∧ h = 1
  · rw [if_pos e12, e12.1, e12.2, pay20_at]
    refine Finset.sum_congr rfl fun d _ => ?_
    rw [load_vrow _ _ 2 1 (by rfl), load_vrow _ _ 2 1 (by rfl), harg6.read_unread, harg8.read_unread]
  rw [if_neg e12]
  by_cases e11 : t = 1 ∧ h = 1
  · rw [if_pos e11, e11.1, e11.2, pay19_at]
    refine Finset.sum_congr rfl fun d _ => ?_
    rw [load_vrow _ _ 1 1 (by rfl), load_vrow _ _ 1 1 (by rfl), harg6.read_unread, harg8.read_unread]
  rw [if_neg e11]
  by_cases e10 : t = 0 ∧ h = 1
  · rw [if_pos e10, e10.1, e10.2, pay18_at, pay17_at]
    refine Finset.sum_congr rfl fun d _ => ?_
    rw [load_vrow _ _ 0 1 (by rfl), load_vrow _ _ 0 1 (by rfl), harg6.read_unread, harg8.read_unread]
  rw [if_neg e10]
  by_cases e03 : t = 3 ∧ h = 0
  · rw [if_pos e03, e03.1, e03.2, pay16_at]
    refine Finset.sum_congr rfl fun d _ => ?_
    rw [load_vrow _ _ 3 0 (by rfl), load_vrow _ _ 3 0 (by rfl), harg6.read_unread, harg8.read_unread]
  rw [if_neg e03]
  by_cases e02 : t = 2 ∧ h = 0
  · rw [if_pos e02, e02.1, e02.2, pay15_at]
    refine Finset.sum_congr rfl fun d _ => ?_
    rw [pay14_at, load_vrow _ _ 2 0 (by rfl), load_vrow _ _ 2 0 (by rfl), harg6.read_unread, harg8.read_unread]
  rw [if_neg e02]
  by_cases e01 : t = 1 ∧ h = 0
  · rw [if_pos e01, e01.1, e01.2, pay13_at]
    refine Finset.sum_congr rfl fun d _ => ?_
    rw [load_vrow _ _ 1 0 (by rfl), load_vrow _ _ 1 0 (by rfl), harg6.read_unread, harg8.read_unread]
  rw [if_neg e01]
  by_cases e00 : t = 0 ∧ h = 0
  · rw [if_pos e00, e00.1, e00.2, pay12_at]
    refine Finset.sum_congr rfl fun d _ => ?_
    rw [load_vrow _ _ 0 0 (by rfl), load_vrow _ _ 0 0 (by rfl), harg6.read_unread, harg8.read_unread]
  rw [if_neg e00]
  exfalso
  have h1 := t.isLt
  have h2 := h.isLt
  simp only [Fin.ext_iff] at *
  omega
theorem D0w_A (b : Fin 512) : runA.sl.r_17 c i arg6 harg6 arg8 harg8 arg12 x3 x5 (ix2 0 b) = (rowSums x3 x5) (ix4 0 (jOf i) 0 b) := by
  unfold runA.sl.r_17 runA.sl.v66
  rw [pay69_at, load_dsum _ _ (jOf i) 0 (off7_eq i), dsum_A]
theorem D1w_A (b : Fin 512) : runA.sl.v75 c i arg6 harg6 arg8 harg8 arg12 x3 x5 (ix4 0 0 0 b) = (rowSums x3 x5) (ix4 1 (jOf i) 0 b) := by
  unfold runA.sl.v75
  rw [load_dsum _ _ (jOf i) 1 (off8_eq i), dsum_A]
theorem dk0w_A (a : Fin 512) (d : Fin 256) : runA.sl.r_18 c i arg3 harg3 arg4 harg4 arg5 harg5 arg6 harg6 arg7 harg7 arg8 harg8 arg12 x0 x1 x2 x3 x4 x5 (ix2 a d) = dkTile (⟨x0, x1, x2, x4, x5, rowSums x3 x5⟩ : Blocks) (jOf i) 0 (jOf i) a d := by
  unfold runA.sl.r_18 runA.sl.r_11 runA.sl.r_13
  exact diag_dk0 (B := (⟨x0, x1, x2, x4, x5, rowSums x3 x5⟩ : Blocks)) (hk0 := fun _ _ => k0w_A ..) (hv0 := fun _ _ => v0w_A ..) (hq0 := fun _ _ => q0w_A ..) (hg0 := fun _ _ => g0w_A ..) (hl0 := fun _ => l0w_A (harg7 := harg7) (x4 := x4) ..) (hD0 := fun _ => D0w_A ..) ..
theorem dv0w_A (a : Fin 512) (d : Fin 128) : runA.sl.r_15 c i arg3 harg3 arg4 harg4 arg7 harg7 arg8 harg8 x0 x1 x4 x5 (ix2 a d) = dvTile ⟨x0, x1, x2, x4, x5, rowSums x3 x5⟩ (jOf i) 0 (jOf i) a d := by
  unfold runA.sl.r_15
  exact diag_dv0 (B := ⟨x0, x1, x2, x4, x5, rowSums x3 x5⟩) (hk0 := fun _ _ => k0w_A ..) (hq0 := fun _ _ => q0w_A ..) (hg0 := fun _ _ => g0w_A ..) (hl0 := fun _ => l0w_A (harg7 := harg7) (x4 := x4) ..) ..
theorem dk1w_A (a : Fin 512) (d : Fin 256) : runA.sl.r_19 c i arg3 harg3 arg4 harg4 arg5 harg5 arg6 harg6 arg7 harg7 arg8 harg8 arg12 x0 x1 x2 x3 x4 x5 (ix2 a d) = dkTile (⟨x0, x1, x2, x4, x5, rowSums x3 x5⟩ : Blocks) (jOf i) 1 (jOf i) a d := by
  unfold runA.sl.r_19 runA.sl.r_12 runA.sl.r_14
  exact diag_dk1 (B := (⟨x0, x1, x2, x4, x5, rowSums x3 x5⟩ : Blocks)) (hk1 := fun _ _ => k1w_A ..) (hv1 := fun _ _ => v1w_A ..) (hq1 := fun _ _ => q1w_A ..) (hg1 := fun _ _ => g1w_A ..) (hl1 := fun _ => l1w_A (harg7 := harg7) (x4 := x4) ..) (hD1 := fun _ => D1w_A ..) ..
theorem dv1w_A (a : Fin 512) (d : Fin 128) : runA.sl.r_16 c i arg3 harg3 arg4 harg4 arg7 harg7 arg8 harg8 x0 x1 x4 x5 (ix2 a d) = dvTile ⟨x0, x1, x2, x4, x5, rowSums x3 x5⟩ (jOf i) 1 (jOf i) a d := by
  unfold runA.sl.r_16
  exact diag_dv1 (B := ⟨x0, x1, x2, x4, x5, rowSums x3 x5⟩) (hk1 := fun _ _ => k1w_A ..) (hq1 := fun _ _ => q1w_A ..) (hg1 := fun _ _ => g1w_A ..) (hl1 := fun _ => l1w_A (harg7 := harg7) (x4 := x4) ..) ..
/-- The run's block of key gradients. -/
theorem runA_dk (hc : cond0 i) (f : BufTy.Contents (Elt Ideal) arg10.view.ty) :
    arg10.view.read (Elt Ideal) (arg10.view.writes (Elt Ideal) f (runA (F := Ideal) c i arg3 harg3 arg4 harg4 arg5 harg5 arg6 harg6 arg7 harg7 arg8 harg8 arg9 harg9 arg10 harg10 arg11 harg11 arg12 harg12 hc x0 x1 x2 x3 x4 x5).2.1) = dkOut (⟨x0, x1, x2, x4, x5, rowSums x3 x5⟩ : Blocks) (jOf i) := by
  unfold runA
  dsimp only
  rw [trips2, trips1, st_k0_t2.eq_1]
  refine stores_key arg10.view f _ _ _ (fun a d => ?_) (fun a d => ?_)
  · rw [pay7_at]
    refine (all_dk0 (B := (⟨x0, x1, x2, x4, x5, rowSums x3 x5⟩ : Blocks)) (h3 := harg3.read_unread _) (h7 := harg7.read_unread _) (h8 := harg8.read_unread _) (h12 := (dsum_A ..)) (hk0 := fun _ _ => k0w_A ..) (hv0 := fun _ _ => v0w_A ..) (e := dk0w_A ..) ..).trans ?_
    show _ = ∑ t ∈ from' (jOf i), dkTile (⟨x0, x1, x2, x4, x5, rowSums x3 x5⟩ : Blocks) (jOf i) (hq (col 0 d)) t a (lq (col 0 d))
    rw [hq_col, lq_col]
  · rw [pay9_at]
    refine (all_dk1 (B := (⟨x0, x1, x2, x4, x5, rowSums x3 x5⟩ : Blocks)) (h3 := harg3.read_unread _) (h7 := harg7.read_unread _) (h8 := harg8.read_unread _) (h12 := (dsum_A ..)) (hk1 := fun _ _ => k1w_A ..) (hv1 := fun _ _ => v1w_A ..) (e := dk1w_A ..) ..).trans ?_
    show _ = ∑ t ∈ from' (jOf i), dkTile (⟨x0, x1, x2, x4, x5, rowSums x3 x5⟩ : Blocks) (jOf i) (hq (col 1 d)) t a (lq (col 1 d))
    rw [hq_col, lq_col]
/-- The run's block of value gradients. -/
theorem runA_dv (hc : cond0 i) (f : BufTy.Contents (Elt Ideal) arg11.view.ty) :
    arg11.view.read (Elt Ideal) (arg11.view.writes (Elt Ideal) f (runA (F := Ideal) c i arg3 harg3 arg4 harg4 arg5 harg5 arg6 harg6 arg7 harg7 arg8 harg8 arg9 harg9 arg10 harg10 arg11 harg11 arg12 harg12 hc x0 x1 x2 x3 x4 x5).2.2.1) = dvOut (⟨x0, x1, x2, x4, x5, rowSums x3 x5⟩ : Blocks) (jOf i) := by
  unfold runA
  dsimp only
  rw [trips2, trips1, st_k0_t2.eq_1]
  refine stores_val arg11.view f _ _ _ (fun a d => ?_) (fun a d => ?_)
  · rw [pay8_at]
    refine (all_dv0 (B := (⟨x0, x1, x2, x4, x5, rowSums x3 x5⟩ : Blocks)) (h3 := harg3.read_unread _) (h7 := harg7.read_unread _) (h8 := harg8.read_unread _) (hk0 := fun _ _ => k0w_A ..) (e := dv0w_A ..) ..).trans ?_
    show _ = ∑ t ∈ from' (jOf i), dvTile (⟨x0, x1, x2, x4, x5, rowSums x3 x5⟩ : Blocks) (jOf i) (hv (vcol 0 d)) t a (lv (vcol 0 d))
    rw [hv_vcol, lv_vcol]
  · rw [pay10_at]
    refine (all_dv1 (B := (⟨x0, x1, x2, x4, x5, rowSums x3 x5⟩ : Blocks)) (h3 := harg3.read_unread _) (h7 := harg7.read_unread _) (h8 := harg8.read_unread _) (hk1 := fun _ _ => k1w_A ..) (e := dv1w_A ..) ..).trans ?_
    show _ = ∑ t ∈ from' (jOf i), dvTile (⟨x0, x1, x2, x4, x5, rowSums x3 x5⟩ : Blocks) (jOf i) (hv (vcol 1 d)) t a (lv (vcol 1 d))
    rw [hv_vcol, lv_vcol]
theorem zeros_A (f : BufTy.Contents (Elt Ideal) arg9.view.ty) :
    arg9.view.read (Elt Ideal) (arg9.view.writes (Elt Ideal) f runA.sl.H6_1) = fun _ => (0 : EReal) := by
  funext y
  unfold runA.sl.H6_1
  refine (View.read_writes_cons_unit_of_mem arg9.view f _ _ _ y y rfl fun a => by
    match a with
    | 0 => exact (Nat.zero_add _).symm
    | 1 => exact (Nat.zero_add _).symm
    | 2 => exact (Nat.zero_add _).symm).trans ?_
  obtain ⟨t, b, h, d, rfl⟩ := idx_row y
  exact pay11_at _ _
/-- The run's block of query gradients. -/
theorem runA_dq0 (hc : cond0 i) :
    arg9.view.read (Elt Ideal) (arg9.view.writes (Elt Ideal) arg9.view.junk (runA (F := Ideal) c i arg3 harg3 arg4 harg4 arg5 harg5 arg6 harg6 arg7 harg7 arg8 harg8 arg9 harg9 arg10 harg10 arg11 harg11 arg12 harg12 hc x0 x1 x2 x3 x4 x5).1) = dqOut (⟨x0, x1, x2, x4, x5, rowSums x3 x5⟩ : Blocks) (jOf i) (fun _ => (0 : EReal)) := by
  unfold runA
  dsimp only
  rw [trips2, trips1, st_k0_t2.eq_1, List.nil_append, View.writes_append]
  refine all_dq (B := (⟨x0, x1, x2, x4, x5, rowSums x3 x5⟩ : Blocks)) (h3 := harg3.read_unread _) (h7 := harg7.read_unread _) (h8 := harg8.read_unread _) (h12 := (dsum_A ..))
    (hk0 := fun _ _ => k0w_A ..) (hk1 := fun _ _ => k1w_A ..) (hv0 := fun _ _ => v0w_A ..) (hv1 := fun _ _ => v1w_A ..) (e := fun t b h d => ?_) ..
  unfold runA.sl.H6_2
  unfold runA.sl.r_11 runA.sl.r_12 runA.sl.r_13 runA.sl.r_14
  exact diag_dq (B := (⟨x0, x1, x2, x4, x5, rowSums x3 x5⟩ : Blocks)) (hk0 := fun _ _ => k0w_A ..) (hv0 := fun _ _ => v0w_A ..) (hq0 := fun _ _ => q0w_A ..) (hg0 := fun _ _ => g0w_A ..) (hl0 := fun _ => l0w_A (harg7 := harg7) (x4 := x4) ..) (hD0 := fun _ => D0w_A ..)
    (hk1 := fun _ _ => k1w_A ..) (hv1 := fun _ _ => v1w_A ..) (hq1 := fun _ _ => q1w_A ..) (hg1 := fun _ _ => g1w_A ..) (hl1 := fun _ => l1w_A (harg7 := harg7) (x4 := x4) ..) (hD1 := fun _ => D1w_A ..) (L := runA.sl.H6_1) (x := (fun _ => (0 : EReal))) (hx := zeros_A ..)
    (ho0 := fun b d => by rw [load_row _ _ (jOf i) 0 (off1_eq i), zeros_A])
    (ho1 := fun b d => by
      unfold runA.sl.v93 runA.sl.H6_2
      rw [load_row _ _ (jOf i) 1 (off2_eq i), store_row _ _ (jOf i) 0 (off1_eq i), if_neg (fun e => absurd e.2 (by decide)), zeros_A]) ..
/-- The same whatever the block held before. -/
theorem runA_dq (hc : cond0 i) (f : BufTy.Contents (Elt Ideal) arg9.view.ty) :
    arg9.view.read (Elt Ideal) (arg9.view.writes (Elt Ideal) f (runA (F := Ideal) c i arg3 harg3 arg4 harg4 arg5 harg5 arg6 harg6 arg7 harg7 arg8 harg8 arg9 harg9 arg10 harg10 arg11 harg11 arg12 harg12 hc x0 x1 x2 x3 x4 x5).1) = dqOut (⟨x0, x1, x2, x4, x5, rowSums x3 x5⟩ : Blocks) (jOf i) (fun _ => (0 : EReal)) := by
  refine (View.read_writes_of_cover _ _ _ _ _ fun y => ⟨⟨Rect.unit ![0, 0, 0] S1x2048x512.size inb_S1x2048x512_S1x2048x512_0_0_0, k0_pay11 (F := Ideal)⟩, ?_, ?_⟩).trans (runA_dq0 (hc := hc) ..)
  · unfold runA
    dsimp only
    rw [trips2, trips1, st_k0_t2.eq_1]
    refine List.mem_append_right _ (List.mem_append_right _ (List.mem_cons_of_mem _ ?_))
    unfold runA.sl.H6_2
    refine List.mem_cons_of_mem _ ?_
    unfold runA.sl.H6_1
    exact List.mem_cons_self
  · show y ∈ (Rect.unit (s := S1x2048x512) ![0, 0, 0] S1x2048x512.size inb_S1x2048x512_S1x2048x512_0_0_0).set
    rw [Rect.mem_set_unit]
    intro a
    match a with
    | 0 => exact ⟨Nat.zero_le _, Nat.lt_of_lt_of_eq (y 0).isLt (Nat.zero_add _).symm⟩
    | 1 => exact ⟨Nat.zero_le _, Nat.lt_of_lt_of_eq (y 1).isLt (Nat.zero_add _).symm⟩
    | 2 => exact ⟨Nat.zero_le _, Nat.lt_of_lt_of_eq (y 2).isLt (Nat.zero_add _).symm⟩
/-- The run's row sums. -/
theorem runA_dsum (hc : cond0 i) (f : BufTy.Contents (Elt Ideal) arg12.view.ty) :
    arg12.view.read (Elt Ideal) (arg12.view.writes (Elt Ideal) f (runA (F := Ideal) c i arg3 harg3 arg4 harg4 arg5 harg5 arg6 harg6 arg7 harg7 arg8 harg8 arg9 harg9 arg10 harg10 arg11 harg11 arg12 harg12 hc x0 x1 x2 x3 x4 x5).2.2.2.1) = rowSums x3 x5 := by
  unfold runA
  exact dsum_A ..

end

end Cert.KernelIdeal.Bwd

end
-- ==== Proof.BodyB.lean ====
/- What the body leaves at a later key block, as the mathematics of its tiles. -/
module

public import proofs.«01_k».proof.Proof.Diag
public import proofs.«01_k».proof.Proof.RunB

@[expose] public section

set_option maxRecDepth 16384

noncomputable section

namespace Cert.KernelIdeal.Bwd

open Cert.KernelIdeal Cert.KernelIdeal.Gen
open Idealize.ShloMosaic Idealize.ShloMosaic.TcCoe

section

variable (c : Dev nD) (i : grid0.Coords)
    (arg3 : Memref sig .tc .vmem S1x2048x512 .bf16) (harg3 : arg3.IsWhole)
    (arg4 : Memref sig .tc .vmem S1x512x512 .bf16) (harg4 : arg4.IsWhole)
    (arg5 : Memref sig .tc .vmem S1x512x256 .bf16) (harg5 : arg5.IsWhole)
    (arg6 : Memref sig .tc .vmem S1x2048x256 .f32) (harg6 : arg6.IsWhole)
    (arg7 : Memref sig .tc .vmem S1x2x4x1x512 .f32) (harg7 : arg7.IsWhole)
    (arg8 : Memref sig .tc .vmem S1x2048x256 .f32) (harg8 : arg8.IsWhole)
    (arg9 : Memref sig .tc .vmem S1x2048x512 .f32) (harg9 : arg9.IsWhole)
    (arg10 : Memref sig .tc .vmem S1x512x512 .f32) (harg10 : arg10.IsWhole)
    (arg11 : Memref sig .tc .vmem S1x512x256 .f32) (harg11 : arg11.IsWhole)
    (arg12 : Memref sig .tc .vmem S2x4x1x512 .f32) (harg12 : arg12.IsWhole)
    (x0 : Vec Ideal S1x2048x512 .bf16) (x1 : Vec Ideal S1x512x512 .bf16) (x2 : Vec Ideal S1x512x256 .bf16) (x3 : Vec Ideal S1x2048x256 .f32)
    (x4 : Vec Ideal S1x2x4x1x512 .f32) (x5 : Vec Ideal S1x2048x256 .f32) (x6 : Vec Ideal S1x2048x512 .f32) (xs : Vec Ideal S2x4x1x512 .f32)

theorem k0w_B (a : Fin 512) (d : Fin 256) : runB.sl.r c arg4 harg4 x1 (ix2 a d) = x1 (ix3 0 a (col 0 d)) := by
  unfold runB.sl.r
  rw [pay51_at, load_key _ _ 0 (by rfl), harg4.read_unread]
theorem k1w_B (a : Fin 512) (d : Fin 256) : runB.sl.r_1 c arg4 harg4 x1 (ix2 a d) = x1 (ix3 0 a (col 1 d)) := by
  unfold runB.sl.r_1
  rw [pay52_at, load_key _ _ 1 (by rfl), harg4.read_unread]
theorem v0w_B (a : Fin 512) (d : Fin 128) : runB.sl.r_2 c arg5 harg5 x2 (ix2 a d) = x2 (ix3 0 a (vcol 0 d)) := by
  unfold runB.sl.r_2
  rw [pay53_at, load_val _ _ 0 (by rfl), harg5.read_unread]
theorem v1w_B (a : Fin 512) (d : Fin 128) : runB.sl.r_3 c arg5 harg5 x2 (ix2 a d) = x2 (ix3 0 a (vcol 1 d)) := by
  unfold runB.sl.r_3
  rw [pay54_at, load_val _ _ 1 (by rfl), harg5.read_unread]
theorem q0w_B (b : Fin 512) (d : Fin 256) : runB.sl.r_4 c i arg3 harg3 x0 (ix2 b d) = x0 (ix3 0 (row (jOf i) b) (col 0 d)) := by
  unfold runB.sl.r_4
  rw [pay59_at, load_row _ _ (jOf i) 0 (off1_eq i), harg3.read_unread]
theorem q1w_B (b : Fin 512) (d : Fin 256) : runB.sl.r_5 c i arg3 harg3 x0 (ix2 b d) = x0 (ix3 0 (row (jOf i) b) (col 1 d)) := by
  unfold runB.sl.r_5
  rw [pay60_at, load_row _ _ (jOf i) 1 (off2_eq i), harg3.read_unread]
theorem g0w_B (b : Fin 512) (d : Fin 128) : runB.sl.r_6 c i arg8 harg8 x5 (ix2 b d) = x5 (ix3 0 (row (jOf i) b) (vcol 0 d)) := by
  unfold runB.sl.r_6
  rw [pay61_at, load_vrow _ _ (jOf i) 0 (off3_eq i), harg8.read_unread]
theorem g1w_B (b : Fin 512) (d : Fin 128) : runB.sl.r_7 c i arg8 harg8 x5 (ix3 0 b d) = x5 (ix3 0 (row (jOf i) b) (vcol 1 d)) := by
  unfold runB.sl.r_7
  rw [load_vrow _ _ (jOf i) 1 (off4_eq i), harg8.read_unread]
theorem l0w_B (inb) (b : Fin 512) : arg7.view.readAt (Elt Ideal) (Rect.unit (s := S1x2x4x1x512) (k0_off5 i) S1x1x1x1x512.size inb).toLoadRect
    (harg7.unread x4) (ix5 0 0 0 0 b) = x4 (ix5 0 0 (jOf i) 0 b) := by
  rw [load_lse _ _ (jOf i) 0 (off5_eq i), harg7.read_unread]
theorem l1w_B (inb) (b : Fin 512) : arg7.view.readAt (Elt Ideal) (Rect.unit (s := S1x2x4x1x512) (k0_off6 i) S1x1x1x1x512.size inb).toLoadRect
    (harg7.unread x4) (ix5 0 0 0 0 b) = x4 (ix5 0 1 (jOf i) 0 b) := by
  rw [load_lse _ _ (jOf i) 1 (off6_eq i), harg7.read_unread]
theorem D0w_B (b : Fin 512) : runB.sl.r_14 c i arg12 harg12 xs (ix2 0 b) = (xs) (ix4 0 (jOf i) 0 b) := by
  unfold runB.sl.r_14
  rw [pay69_at, load_dsum _ _ (jOf i) 0 (off7_eq i), harg12.read_unread]
theorem D1w_B (inb) (b : Fin 512) : arg12.view.readAt (Elt Ideal) (Rect.unit (s := S2x4x1x512) (k0_off8 i) S1x1x1x512.size inb).toLoadRect
    (harg12.unread xs) (ix4 0 0 0 b) = xs (ix4 1 (jOf i) 0 b) := by
  rw [load_dsum _ _ (jOf i) 1 (off8_eq i), harg12.read_unread]
theorem dk0w_B (a : Fin 512) (d : Fin 256) : runB.sl.r_15 c i arg3 harg3 arg4 harg4 arg5 harg5 arg7 harg7 arg8 harg8 arg12 harg12 x0 x1 x2 x4 x5 xs (ix2 a d) = dkTile (⟨x0, x1, x2, x4, x5, xs⟩ : Blocks) (jOf i) 0 (jOf i) a d := by
  unfold runB.sl.r_15 runB.sl.r_8 runB.sl.r_10
  exact diag_dk0 (B := (⟨x0, x1, x2, x4, x5, xs⟩ : Blocks)) (hk0 := fun _ _ => k0w_B ..) (hv0 := fun _ _ => v0w_B ..) (hq0 := fun _ _ => q0w_B ..) (hg0 := fun _ _ => g0w_B ..) (hl0 := fun _ => l0w_B (harg7 := harg7) (x4 := x4) ..) (hD0 := fun _ => D0w_B ..) ..
theorem dv0w_B (a : Fin 512) (d : Fin 128) : runB.sl.r_12 c i arg3 harg3 arg4 harg4 arg7 harg7 arg8 harg8 x0 x1 x4 x5 (ix2 a d) = dvTile ⟨x0, x1, x2, x4, x5, xs⟩ (jOf i) 0 (jOf i) a d := by
  unfold runB.sl.r_12
  exact diag_dv0 (B := ⟨x0, x1, x2, x4, x5, xs⟩) (hk0 := fun _ _ => k0w_B ..) (hq0 := fun _ _ => q0w_B ..) (hg0 := fun _ _ => g0w_B ..) (hl0 := fun _ => l0w_B (harg7 := harg7) (x4 := x4) ..) ..
theorem dk1w_B (a : Fin 512) (d : Fin 256) : runB.sl.r_16 c i arg3 harg3 arg4 harg4 arg5 harg5 arg7 harg7 arg8 harg8 arg12 harg12 x0 x1 x2 x4 x5 xs (ix2 a d) = dkTile (⟨x0, x1, x2, x4, x5, xs⟩ : Blocks) (jOf i) 1 (jOf i) a d := by
  unfold runB.sl.r_16 runB.sl.r_9 runB.sl.r_11
  exact diag_dk1 (B := (⟨x0, x1, x2, x4, x5, xs⟩ : Blocks)) (hk1 := fun _ _ => k1w_B ..) (hv1 := fun _ _ => v1w_B ..) (hq1 := fun _ _ => q1w_B ..) (hg1 := fun _ _ => g1w_B ..) (hl1 := fun _ => l1w_B (harg7 := harg7) (x4 := x4) ..) (hD1 := fun _ => D1w_B (harg12 := harg12) (xs := xs) ..) ..
theorem dv1w_B (a : Fin 512) (d : Fin 128) : runB.sl.r_13 c i arg3 harg3 arg4 harg4 arg7 harg7 arg8 harg8 x0 x1 x4 x5 (ix2 a d) = dvTile ⟨x0, x1, x2, x4, x5, xs⟩ (jOf i) 1 (jOf i) a d := by
  unfold runB.sl.r_13
  exact diag_dv1 (B := ⟨x0, x1, x2, x4, x5, xs⟩) (hk1 := fun _ _ => k1w_B ..) (hq1 := fun _ _ => q1w_B ..) (hg1 := fun _ _ => g1w_B ..) (hl1 := fun _ => l1w_B (harg7 := harg7) (x4 := x4) ..) ..
/-- The run's block of key gradients. -/
theorem runB_dk (hc : ¬cond0 i) (f : BufTy.Contents (Elt Ideal) arg10.view.ty) :
    arg10.view.read (Elt Ideal) (arg10.view.writes (Elt Ideal) f (runB (F := Ideal) c i arg3 harg3 arg4 harg4 arg5 harg5 arg6 harg6 arg7 harg7 arg8 harg8 arg9 harg9 arg10 harg10 arg11 harg11 arg12 harg12 hc x0 x1 x2 x3 x4 x5 x6 xs).2.1) = dkOut (⟨x0, x1, x2, x4, x5, xs⟩ : Blocks) (jOf i) := by
  unfold runB
  dsimp only
  rw [trips2, trips1, st_k0_t2.eq_1]
  refine stores_key arg10.view f _ _ _ (fun a d => ?_) (fun a d => ?_)
  · rw [pay7_at]
    refine (all_dk0 (B := (⟨x0, x1, x2, x4, x5, xs⟩ : Blocks)) (h3 := harg3.read_unread _) (h7 := harg7.read_unread _) (h8 := harg8.read_unread _) (h12 := (harg12.read_unread _)) (hk0 := fun _ _ => k0w_B ..) (hv0 := fun _ _ => v0w_B ..) (e := dk0w_B ..) ..).trans ?_
    show _ = ∑ t ∈ from' (jOf i), dkTile (⟨x0, x1, x2, x4, x5, xs⟩ : Blocks) (jOf i) (hq (col 0 d)) t a (lq (col 0 d))
    rw [hq_col, lq_col]
  · rw [pay9_at]
    refine (all_dk1 (B := (⟨x0, x1, x2, x4, x5, xs⟩ : Blocks)) (h3 := harg3.read_unread _) (h7 := harg7.read_unread _) (h8 := harg8.read_unread _) (h12 := (harg12.read_unread _)) (hk1 := fun _ _ => k1w_B ..) (hv1 := fun _ _ => v1w_B ..) (e := dk1w_B ..) ..).trans ?_
    show _ = ∑ t ∈ from' (jOf i), dkTile (⟨x0, x1, x2, x4, x5, xs⟩ : Blocks) (jOf i) (hq (col 1 d)) t a (lq (col 1 d))
    rw [hq_col, lq_col]
/-- The run's block of value gradients. -/
theorem runB_dv (hc : ¬cond0 i) (f : BufTy.Contents (Elt Ideal) arg11.view.ty) :
    arg11.view.read (Elt Ideal) (arg11.view.writes (Elt Ideal) f (runB (F := Ideal) c i arg3 harg3 arg4 harg4 arg5 harg5 arg6 harg6 arg7 harg7 arg8 harg8 arg9 harg9 arg10 harg10 arg11 harg11 arg12 harg12 hc x0 x1 x2 x3 x4 x5 x6 xs).2.2.1) = dvOut (⟨x0, x1, x2, x4, x5, xs⟩ : Blocks) (jOf i) := by
  unfold runB
  dsimp only
  rw [trips2, trips1, st_k0_t2.eq_1]
  refine stores_val arg11.view f _ _ _ (fun a d => ?_) (fun a d => ?_)
  · rw [pay8_at]
    refine (all_dv0 (B := (⟨x0, x1, x2, x4, x5, xs⟩ : Blocks)) (h3 := harg3.read_unread _) (h7 := harg7.read_unread _) (h8 := harg8.read_unread _) (hk0 := fun _ _ => k0w_B ..) (e := dv0w_B ..) ..).trans ?_
    show _ = ∑ t ∈ from' (jOf i), dvTile (⟨x0, x1, x2, x4, x5, xs⟩ : Blocks) (jOf i) (hv (vcol 0 d)) t a (lv (vcol 0 d))
    rw [hv_vcol, lv_vcol]
  · rw [pay10_at]
    refine (all_dv1 (B := (⟨x0, x1, x2, x4, x5, xs⟩ : Blocks)) (h3 := harg3.read_unread _) (h7 := harg7.read_unread _) (h8 := harg8.read_unread _) (hk1 := fun _ _ => k1w_B ..) (e := dv1w_B ..) ..).trans ?_
    show _ = ∑ t ∈ from' (jOf i), dvTile (⟨x0, x1, x2, x4, x5, xs⟩ : Blocks) (jOf i) (hv (vcol 1 d)) t a (lv (vcol 1 d))
    rw [hv_vcol, lv_vcol]
/-- The run's block of query gradients. -/
theorem runB_dq (hc : ¬cond0 i) :
    arg9.view.read (Elt Ideal) (arg9.view.writes (Elt Ideal) (harg9.unread x6) (runB (F := Ideal) c i arg3 harg3 arg4 harg4 arg5 harg5 arg6 harg6 arg7 harg7 arg8 harg8 arg9 harg9 arg10 harg10 arg11 harg11 arg12 harg12 hc x0 x1 x2 x3 x4 x5 x6 xs).1) = dqOut (⟨x0, x1, x2, x4, x5, xs⟩ : Blocks) (jOf i) x6 := by
  unfold runB
  dsimp only
  rw [trips2, trips1, st_k0_t2.eq_1, List.nil_append, View.writes_append]
  refine all_dq (B := (⟨x0, x1, x2, x4, x5, xs⟩ : Blocks)) (h3 := harg3.read_unread _) (h7 := harg7.read_unread _) (h8 := harg8.read_unread _) (h12 := (harg12.read_unread _))
    (hk0 := fun _ _ => k0w_B ..) (hk1 := fun _ _ => k1w_B ..) (hv0 := fun _ _ => v0w_B ..) (hv1 := fun _ _ => v1w_B ..) (e := fun t b h d => ?_) ..
  skip
  unfold runB.sl.r_8 runB.sl.r_9 runB.sl.r_10 runB.sl.r_11
  exact diag_dq (B := (⟨x0, x1, x2, x4, x5, xs⟩ : Blocks)) (hk0 := fun _ _ => k0w_B ..) (hv0 := fun _ _ => v0w_B ..) (hq0 := fun _ _ => q0w_B ..) (hg0 := fun _ _ => g0w_B ..) (hl0 := fun _ => l0w_B (harg7 := harg7) (x4 := x4) ..) (hD0 := fun _ => D0w_B ..)
    (hk1 := fun _ _ => k1w_B ..) (hv1 := fun _ _ => v1w_B ..) (hq1 := fun _ _ => q1w_B ..) (hg1 := fun _ _ => g1w_B ..) (hl1 := fun _ => l1w_B (harg7 := harg7) (x4 := x4) ..) (hD1 := fun _ => D1w_B (harg12 := harg12) (xs := xs) ..) (L := []) (x := x6) (hx := harg9.read_unread _)
    (ho0 := fun b d => by rw [load_row _ _ (jOf i) 0 (off1_eq i), harg9.read_unread])
    (ho1 := fun b d => by
      unfold runB.sl.v93
      rw [load_row _ _ (jOf i) 1 (off2_eq i), harg9.read_unread]) ..

end

end Cert.KernelIdeal.Bwd

end
-- ==== Proof.Launch.lean ====
/- The launch: what the buffers hold point by point, the body at any point of the grid, and the whole run. -/
module

public import proofs.«01_k».proof.Proof.BodyA
public import proofs.«01_k».proof.Proof.BodyB
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first key block of a sequence and head pair, by the point's position. -/
theorem cond0_iff : ∀ t : Fin cfg0.N, cond0 (grid0.coords t) ↔ t.val % 4 = 0 :=
  (by decide +kernel : ∀ t : Fin grid0.N, cond0 (grid0.coords t) ↔ t.val % 4 = 0)

theorem jOf_coords : ∀ t : Fin cfg0.N, (jOf (grid0.coords t)).val = t.val % 4 :=
  (by decide +kernel : ∀ t : Fin grid0.N, (jOf (grid0.coords t)).val = t.val % 4)

/-! ## The staging buffers at a point -/

abbrev ms0 (t : Fin cfg0.N) : Memref sig .tc .vmem S1x2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x4x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x256 .f32 := win0_8.stage (cfg0.slots t 8)
abbrev hs8 (t : Fin cfg0.N) : (ms8 t).IsWhole := hstage0_8 ((cfg0.slots t 8).cast nbuf0_8)
/-- The scratch that holds the row sums. -/
abbrev scM : Memref sig .tc .vmem S2x4x1x512 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the buffers hold after each point -/

/-- The row sums of the point's sequence and head pair. -/
def sAt (c : Dev nD) : (n : ℕ) → n < cfg0.N → Vec Ideal S2x4x1x512 .f32
  | 0, hn => rowSums (iblk m c 3 ⟨0, hn⟩) (iblk m c 5 ⟨0, hn⟩)
  | n + 1, hn => if (n + 1) % 4 = 0 then rowSums (iblk m c 3 ⟨n + 1, hn⟩) (iblk m c 5 ⟨n + 1, hn⟩) else sAt c n (Nat.lt_of_succ_lt hn)

/-- The blocks the body computes with at a point. -/
def blocksAt (c : Dev nD) (t : Fin cfg0.N) : Blocks :=
  ⟨iblk m c 0 t, iblk m c 1 t, iblk m c 2 t, iblk m c 4 t, iblk m c 5 t, sAt m c t.val t.isLt⟩

/-- The query gradients gathered so far. -/
def dqAt (c : Dev nD) : (n : ℕ) → n < cfg0.N → Vec Ideal S1x2048x512 .f32
  | 0, hn => dqOut (blocksAt m c ⟨0, hn⟩) (jOf (grid0.coords ⟨0, hn⟩)) (fun _ => (0 : EReal))
  | n + 1, hn => dqOut (blocksAt m c ⟨n + 1, hn⟩) (jOf (grid0.coords ⟨n + 1, hn⟩))
      (if (n + 1) % 4 = 0 then fun _ => (0 : EReal) else dqAt c n (Nat.lt_of_succ_lt hn))

theorem sAt_first (c : Dev nD) (t : Fin cfg0.N) (h : t.val % 4 = 0) :
    sAt m c t.val t.isLt = rowSums (iblk m c 3 t) (iblk m c 5 t) := by
  obtain ⟨n, hn⟩ := t
  cases n with
  | zero => exact rfl
  | succ n => exact if_pos h
theorem sAt_later (c : Dev nD) (t : Fin cfg0.N) (h : ¬t.val % 4 = 0) :
    sAt m c t.val t.isLt = sAt m c (t.val - 1) (Nat.lt_of_le_of_lt (Nat.sub_le _ _) t.isLt) := by
  obtain ⟨n, hn⟩ := t
  cases n with
  | zero => exact absurd (Nat.zero_mod _) h
  | succ n => exact if_neg h
theorem dqAt_first (c : Dev nD) (t : Fin cfg0.N) (h : t.val % 4 = 0) :
    dqAt m c t.val t.isLt = dqOut (blocksAt m c t) (jOf (grid0.coords t)) (fun _ => (0 : EReal)) := by
  obtain ⟨n, hn⟩ := t
  cases n with
  | zero => exact rfl
  | succ n => exact congrArg (dqOut _ _) (if_pos h)
theorem dqAt_later (c : Dev nD) (t : Fin cfg0.N) (h : ¬t.val % 4 = 0) :
    dqAt m c t.val t.isLt = dqOut (blocksAt m c t) (jOf (grid0.coords t)) (dqAt m c (t.val - 1) (Nat.lt_of_le_of_lt (Nat.sub_le _ _) t.isLt)) := by
  obtain ⟨n, hn⟩ := t
  cases n with
  | zero => exact absurd (Nat.zero_mod _) h
  | succ n => exact congrArg (dqOut _ _) (if_neg h)
theorem blocksAt_first (c : Dev nD) (t : Fin cfg0.N) (h : t.val % 4 = 0) :
    blocksAt m c t = ⟨iblk m c 0 t, iblk m c 1 t, iblk m c 2 t, iblk m c 4 t, iblk m c 5 t, rowSums (iblk m c 3 t) (iblk m c 5 t)⟩ := by
  unfold blocksAt; rw [sAt_first m c t h]
theorem blocksAt_later (c : Dev nD) (t : Fin cfg0.N) (h : ¬t.val % 4 = 0) :
    blocksAt m c t = ⟨iblk m c 0 t, iblk m c 1 t, iblk m c 2 t, iblk m c 4 t, iblk m c 5 t,
      sAt m c (t.val - 1) (Nat.lt_of_le_of_lt (Nat.sub_le _ _) t.isLt)⟩ := by
  unfold blocksAt; rw [sAt_later m c t h]

/-- Before a point: the scratch holds what the point before left. -/
def PhiS (c : Dev nD) : (n : ℕ) → n ≤ cfg0.N → sProp 𝕄
  | 0, _ => Pipeline.ΦA spec0 c
  | n + 1, hn => iprop(iprop(owns (c : Thread nD τ) scM fullShare (sAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (sAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (sAt m c (n - 1) (by omega))) ∗ (∃ r, prngReg c r)) := by
  cases n with
  | zero => exact absurd rfl hz
  | succ n => rfl

/-- The pipeline's proof data on a core. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkOut (blocksAt m c t) (jOf (grid0.coords t))
    | ⟨8, _⟩ => dvOut (blocksAt m c t) (jOf (grid0.coords t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqAt m c t.val t.isLt := by dsimp only [dats]
theorem after7 (c : Dev nD) (t : Fin cfg0.N) : (dats m 0 c).after 7 t = dkOut (blocksAt m c t) (jOf (grid0.coords t)) := by dsimp only [dats]
theorem after8 (c : Dev nD) (t : Fin cfg0.N) : (dats m 0 c).after 8 t = dvOut (blocksAt m c t) (jOf (grid0.coords t)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- The block of query gradients is the accumulator between the points of one sequence and head pair. -/
theorem before6 (c : Dev nD) (t : Fin cfg0.N) (h : ¬t.val % 4 = 0) (d) :
    (dats m 0 c).before 6 t d = dqAt m c (t.val - 1) (Nat.lt_of_le_of_lt (Nat.sub_le _ _) t.isLt) :=
  ((dats m 0 c).before_out_kept 6 rfl t (fun hz => h (by omega))
    (by rw [Bool.eq_false_iff]; intro hf; have := (flush0_6 _).mp hf; dsimp only at this; omega)
    (fun _ => rfl) (fun _ _ => rfl) d).trans (after6 m c _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 6400000 in
/-- The body at any point takes what the buffers held before it to what they hold after it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8]
  rw [show (dats m 0 c).Φ t.succ = PhiS m c (t.val + 1) t.isLt from rfl, PhiS_succ]
  by_cases h0 : t.val % 4 = 0
  · by_cases hz : t.val = 0
    · rw [PhiS_castSucc m c t, PhiS_zero m c _ _ hz, PhiA_eq]
      rw [dqAt_first m c t h0, sAt_first m c t h0, blocksAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((cond0_iff t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, ⟨%e6, H6⟩, ⟨%e7, H7⟩, ⟨%e8, H8⟩, ⟨%es, HS⟩⟩
      isplitl [HS Hg]
      · isplitl [HS]
        · unfold owns; iexists _; isplitr
          swap; · iexact HS
          ipureintro; exact runA_dsum (i := grid0.coords t) (hc := (cond0_iff t).mpr h0) (f := es) ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact runA_dq (i := grid0.coords t) (hc := ((cond0_iff t).mpr h0)) (f := e6) ..
      isplitl [H7]
      · unfold owns; iexists _; isplitr
        swap; · iexact H7
        ipureintro; exact runA_dk (i := grid0.coords t) (hc := ((cond0_iff t).mpr h0)) (f := e7) ..
      unfold owns; iexists _; isplitr
      swap; · iexact H8
      ipureintro; exact runA_dv (i := grid0.coords t) (hc := ((cond0_iff t).mpr h0)) (f := e8) ..
    · rw [PhiS_castSucc m c t, PhiS_pos m c _ _ hz]
      rw [dqAt_first m c t h0, sAt_first m c t h0, blocksAt_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((cond0_iff t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexists _; iexact HS
      iintro ⟨H0, H1, H2, H3, H4, H5, ⟨%e6, H6⟩, ⟨%e7, H7⟩, ⟨%e8, H8⟩, ⟨%es, HS⟩⟩
      isplitl [HS Hg]
      · isplitl [HS]
        · unfold owns; iexists _; isplitr
          swap; · iexact HS
          ipureintro; exact runA_dsum (i := grid0.coords t) (hc := (cond0_iff t).mpr h0) (f := es) ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact runA_dq (i := grid0.coords t) (hc := ((cond0_iff t).mpr h0)) (f := e6) ..
      isplitl [H7]
      · unfold owns; iexists _; isplitr
        swap; · iexact H7
        ipureintro; exact runA_dk (i := grid0.coords t) (hc := ((cond0_iff t).mpr h0)) (f := e7) ..
      unfold owns; iexists _; isplitr
      swap; · iexact H8
      ipureintro; exact runA_dv (i := grid0.coords t) (hc := ((cond0_iff t).mpr h0)) (f := e8) ..
  · have hz : t.val ≠ 0 := fun e => h0 (by omega)
    rw [PhiS_castSucc m c t, PhiS_pos m c _ _ hz]
    rw [dqAt_later m c t h0, sAt_later m c t h0, blocksAt_later m c t h0]
    simp only [before6 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((cond0_iff t).mp h)) (iblk m c 0 t) (iblk m c 1 t) (iblk m c 2 t) (iblk m c 3 t) (iblk m c 4 t) (iblk m c 5 t) (dqAt m c (t.val - 1) (Nat.lt_of_le_of_lt (Nat.sub_le _ _) t.isLt)) (sAt m c (t.val - 1) (Nat.lt_of_le_of_lt (Nat.sub_le _ _) t.isLt))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runB_dq (i := grid0.coords t) (hc := (fun h => h0 ((cond0_iff t).mp h))) ..
    isplitl [H7]
    · unfold owns; iexists _; isplitr
      swap; · iexact H7
      ipureintro; exact runB_dk (i := grid0.coords t) (hc := (fun h => h0 ((cond0_iff t).mp h))) (f := e7) ..
    unfold owns; iexists _; isplitr
    swap; · iexact H8
    ipureintro; exact runB_dv (i := grid0.coords t) (hc := (fun h => h0 ((cond0_iff t).mp h))) (f := e8) ..

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- The run: every output array ends as the write-backs leave it. -/
theorem run_main : θ_run defs (onTc (τ := τ) (main (F := Ideal))) (s₀ m ρ) (Pipeline.FramePost cfgs (dats m) 0 (V m)) :=
  (θ_run defs _ _).mono (Q := fun r => Pipeline.FramePost cfgs (dats m) 0 (V m) r ∧ r.2.sem = fun _ => 0) (fun _ h => h.1) <|
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Bwd

end
-- ==== Proof.HostA.lean ====
/- What the host hands the kernel, element by element. -/
module

public import proofs.«01_k».proof.Proof.Launch
public import proofs.«01_k».proof.Proof.Attn
public import Idealize.ShloMosaic.Lib.StableHlo.ReadAt

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.WordCmp

variable (m : (ℓ : Loc nD τ sig) → Buf (Elt Ideal) ℓ) (c : Dev nD)

/-- The arguments as functions of four coordinates. -/
def aq (b : Fin 2) (r : Fin 2048) (h : Fin 4) (d : Fin 192) : EReal := m (c, Proc.tc.devRef main_arg0) (ix4 b r h d)
def ak (b : Fin 2) (r : Fin 2048) (h : Fin 4) (d : Fin 192) : EReal := m (c, Proc.tc.devRef main_arg1) (ix4 b r h d)
def av (b : Fin 2) (r : Fin 2048) (h : Fin 4) (d : Fin 128) : EReal := m (c, Proc.tc.devRef main_arg2) (ix4 b r h d)
def ag (b : Fin 2) (r : Fin 2048) (h : Fin 4) (d : Fin 128) : EReal := m (c, Proc.tc.devRef main_arg3) (ix4 b r h d)

/-- The four pieces of a head, lane by lane. -/
theorem lane_pieces (x : Fin 192 → EReal) (n : ℕ) (hn : n < 256) :
    (if h : n < 160 then x ⟨n, by omega⟩
      else if h : n - 160 < 32 then (0 : EReal)
      else if h : n - 160 - 32 < 32 then x ⟨160 + (n - 160 - 32), by omega⟩
      else 0) = Cert.Attn.lane x ⟨n, hn⟩ := by
  by_cases h1 : n < 160
  · simp only [Cert.Attn.lane, h1, dite_true]
  · by_cases h2 : n < 192
    · have h3 : n - 160 < 32 := by omega
      simp only [Cert.Attn.lane, h1, h2, h3, dite_true, dite_false, if_true]
    · have h3 : ¬ n - 160 < 32 := by omega
      by_cases h4 : n < 224
      · have h5 : n - 160 - 32 < 32 := by omega
        have e : 160 + (n - 160 - 32) = n - 32 := by omega
        simp only [Cert.Attn.lane, h1, h2, h3, h4, h5, dite_true, dite_false, if_false, e]
      · have h5 : ¬ n - 160 - 32 < 32 := by omega
        simp only [Cert.Attn.lane, h1, h2, h3, h4, h5, dite_false, if_false]

theorem v29_at (b : Fin 2) (r : Fin 2048) (d : Fin 1024) :
    (V m c main_v29 : S2x2048x1024.Idx → EReal) (ix3 b r d)
      = (Cert.Attn.lane (aq m c b r ⟨d.val / 256, by omega⟩) ⟨d.val % 256, by omega⟩ : EReal) := by
  unfold V
  after_reads_at
  after_reads_at
  exact lane_pieces (aq m c b r ⟨d.val / 256, by omega⟩) (d.val % 256) (by omega)

theorem v35_at (b : Fin 2) (r : Fin 2048) (d : Fin 1024) :
    (V m c main_v35 : S2x2048x1024.Idx → EReal) (ix3 b r d)
      = (Cert.Attn.lane (ak m c b r ⟨d.val / 256, by omega⟩) ⟨d.val % 256, by omega⟩ : EReal) := by
  unfold V
  after_reads_at
  after_reads_at
  exact lane_pieces (ak m c b r ⟨d.val / 256, by omega⟩) (d.val % 256) (by omega)

theorem v37_at (b : Fin 2) (r : Fin 2048) (d : Fin 512) :
    (V m c main_v37 : S2x2048x512.Idx → EReal) (ix3 b r d) = (av m c b r ⟨d.val / 128, by omega⟩ ⟨d.val % 128, by omega⟩ : EReal) := by
  unfold V
  after_reads_at
  rfl

theorem v39_at (b : Fin 2) (r : Fin 2048) (d : Fin 512) :
    (V m c main_v39 : S2x2048x512.Idx → EReal) (ix3 b r d) = (ag m c b r ⟨d.val / 128, by omega⟩ ⟨d.val % 128, by omega⟩ : EReal) := by
  unfold V
  after_reads_at
  rfl

/-- A selection by the comparison of two positions of the sequence. -/
theorem select_pos (a b : Fin 2048) (x y : EReal) :
    Scalar.select (IntOp.cmpi .sle (BitVec.ofNat 32 a.val) (BitVec.ofNat 32 b.val)) x y = if a ≤ b then x else y := by
  rw [cmpi_sle_ofNat (by have := a.isLt; omega) (by have := b.isLt; omega)]
  by_cases h : a ≤ b
  · rw [if_pos h, decide_eq_true (show a.val ≤ b.val from h)]; rfl
  · rw [if_neg h, decide_eq_false (show ¬ a.val ≤ b.val from h)]; rfl

theorem negInf_at : (id (constant (F := Ideal) S_ .f32 0xFF800000#32)) ix0 = (⊥ : EReal) := by
  rw [id_eq]
  pointwise
  exact Cert.Attn.negInf

/-- The masked scores, the greatest score of a query, the weights before and after they are normalised. -/
theorem v9_at (b : Fin 2) (h : Fin 4) (r k : Fin 2048) :
    (V m c main_v9 : S2x4x2048x2048.Idx → EReal) (ix4 b h r k) = (Cert.Attn.msk (aq m c) (ak m c) b h r k : EReal) := by
  unfold V
  after_reads_at
  rw [negInf_at, select_pos]
  rfl

theorem v10_eq : @Eq (FVec Ideal S2x4x2048 .f32) (V m c main_v10)
    (Host.reduce FloatOps.maximumf (V m c main_v9 : FVec Ideal S2x4x2048x2048 .f32) (constant S_ .f32 0xFF800000#32) reducesTo_S2x4x2048x2048_S2x4x2048_d3 h_S_) := by
  unfold V
  after_reads_simp

theorem v14_eq : @Eq (FVec Ideal S2x4x2048x2048 .f32) (V m c main_v14)
    (Host.exp (subf (V m c main_v9 : FVec Ideal S2x4x2048x2048 .f32) (broadcastInDim S2x4x2048x2048 ![0, 1, 2, 3] bcast_S2x4x2048x1_S2x4x2048x2048_0_1_2_3 (broadcastInDim S2x4x2048x1 ![0, 1, 2] bcast_S2x4x2048_S2x4x2048x1_0_1_2 (V m c main_v10 : FVec Ideal S2x4x2048 .f32))))) := by
  unfold V
  after_reads_simp

theorem v16_eq : @Eq (FVec Ideal S2x4x2048x1 .f32) (V m c main_v16)
    (broadcastInDim S2x4x2048x1 ![0, 1, 2] bcast_S2x4x2048_S2x4x2048x1_0_1_2 (Host.reduceAdd (V m c main_v14 : FVec Ideal S2x4x2048x2048 .f32) (constant S_ .f32 0x00000000#32) reducesTo_S2x4x2048x2048_S2x4x2048_d3 h_S_)) := by
  unfold V
  after_reads_simp

theorem v38_eq : @Eq (FVec Ideal S2x2048x512 .f32) (V m c main_v38)
    (shapeCast S2x2048x512 (transpose S2x2048x4x128 [0, 3, 1, 2] (Host.dotGeneral (φ₁ := .f32) (φ₂ := .f32) dot_S2x2048x4x128_S2x4x2048x2048_S2x4x128x2048_1_3_3_2_02_01 none
        (m (c, Proc.tc.devRef main_arg2) : FVec Ideal S2x2048x4x128 .f32)
        (Host.divf (V m c main_v14 : FVec Ideal S2x4x2048x2048 .f32) (broadcastInDim S2x4x2048x2048 ![0, 1, 2, 3] bcast_S2x4x2048x1_S2x4x2048x2048_0_1_2_3 (V m c main_v16 : FVec Ideal S2x4x2048x1 .f32))))
        transposes_S2x4x128x2048_S2x2048x4x128_0_3_1_2) shapeCasts_S2x2048x4x128_S2x2048x512) := by
  unfold V
  after_reads_simp
  rfl

theorem v23_eq : @Eq (FVec Ideal S2x4x4x1x512 .f32) (V m c main_v23)
    (shapeCast S2x4x4x1x512 (addf (broadcastInDim S2x4x2048x1 ![0, 1, 2] bcast_S2x4x2048_S2x4x2048x1_0_1_2 (V m c main_v10 : FVec Ideal S2x4x2048 .f32))
        (Host.log (V m c main_v16 : FVec Ideal S2x4x2048x1 .f32))) shapeCasts_S2x4x2048x1_S2x4x4x1x512) := by
  unfold V
  after_reads_simp
  rfl

theorem max_rows (x : FVec Ideal S2x4x2048x2048 .f32) (b : Fin 2) (h : Fin 4) (r : Fin 2048) :
    Host.reduce FloatOps.maximumf x (constant S_ .f32 0xFF800000#32) reducesTo_S2x4x2048x2048_S2x4x2048_d3 h_S_ (ix3 b h r)
      = Finset.fold max (Ideal.ofBits .f32 0xFF800000#32) (fun c => x (ix4 b h r c)) Finset.univ := by
  pointwise

theorem v10_at (b : Fin 2) (h : Fin 4) (r : Fin 2048) :
    (V m c main_v10 : S2x4x2048.Idx → EReal) (ix3 b h r) = (Cert.Attn.mx (aq m c) (ak m c) b h r : EReal) := by
  refine (congrFun (v10_eq m c) (ix3 b h r)).trans ((max_rows _ b h r).trans ?_)
  rw [Cert.Attn.negInf, Cert.Attn.mx]
  exact congrArg (fun f => Finset.fold max ⊥ f Finset.univ) (funext fun x => v9_at m c b h r x)

theorem v14_at (b : Fin 2) (h : Fin 4) (r k : Fin 2048) :
    (V m c main_v14 : S2x4x2048x2048.Idx → EReal) (ix4 b h r k) = (Cert.Attn.ex (aq m c) (ak m c) b h r k : EReal) := by
  refine (congrFun (v14_eq m c) (ix4 b h r k)).trans ?_
  pointwise
  exact congrArg Ideal.exp (congrArg₂ (fun x y : EReal => x - y) (v9_at m c b h r k) (v10_at m c b h r))

theorem den_read (x : FVec Ideal S2x4x2048x2048 .f32) (b : Fin 2) (h : Fin 4) (r : Fin 2048) :
    broadcastInDim S2x4x2048x1 ![0, 1, 2] bcast_S2x4x2048_S2x4x2048x1_0_1_2 (Host.reduceAdd x (constant S_ .f32 0x00000000#32) reducesTo_S2x4x2048x2048_S2x4x2048_d3 h_S_) (ix4 b h r 0)
      = ∑ c : Fin 2048, x (ix4 b h r c) := by
  pointwise

theorem v16_at (b : Fin 2) (h : Fin 4) (r : Fin 2048) :
    (V m c main_v16 : S2x4x2048x1.Idx → EReal) (ix4 b h r 0) = (Cert.Attn.den (aq m c) (ak m c) b h r : EReal) := by
  refine (congrFun (v16_eq m c) (ix4 b h r 0)).trans ((den_read _ b h r).trans ?_)
  exact Finset.sum_congr rfl fun x _ => v14_at m c b h r x

theorem out_read (v : FVec Ideal S2x2048x4x128 .f32) (x : FVec Ideal S2x4x2048x2048 .f32) (y : FVec Ideal S2x4x2048x1 .f32) (b : Fin 2) (r : Fin 2048) (d : Fin 512) :
    shapeCast S2x2048x512 (transpose S2x2048x4x128 [0, 3, 1, 2] (Host.dotGeneral (φ₁ := .f32) (φ₂ := .f32) dot_S2x2048x4x128_S2x4x2048x2048_S2x4x128x2048_1_3_3_2_02_01 none v
        (Host.divf x (broadcastInDim S2x4x2048x2048 ![0, 1, 2, 3] bcast_S2x4x2048x1_S2x4x2048x2048_0_1_2_3 y)))
        transposes_S2x4x128x2048_S2x2048x4x128_0_3_1_2) shapeCasts_S2x2048x4x128_S2x2048x512 (ix3 b r d)
      = ∑ c : Fin 2048, v (ix4 b c ⟨d.val / 128, by omega⟩ ⟨d.val % 128, by omega⟩)
          * Ideal.div (x (ix4 b ⟨d.val / 128, by omega⟩ r c)) (y (ix4 b ⟨d.val / 128, by omega⟩ r 0)) := by
  pointwise

theorem v38_at (b : Fin 2) (r : Fin 2048) (d : Fin 512) :
    (V m c main_v38 : S2x2048x512.Idx → EReal) (ix3 b r d)
      = (Cert.Attn.out (aq m c) (ak m c) (av m c) b ⟨d.val / 128, by omega⟩ r ⟨d.val % 128, by omega⟩ : EReal) := by
  refine (congrFun (v38_eq m c) (ix3 b r d)).trans ((out_read _ _ _ b r d).trans ?_)
  exact Finset.sum_congr rfl fun x _ => congrArg₂ (fun x y : EReal => x * y) rfl
    (congrArg₂ Ideal.div (v14_at m c b _ r x) (v16_at m c b _ r))

theorem lse_read (x : FVec Ideal S2x4x2048 .f32) (y : FVec Ideal S2x4x2048x1 .f32) (b : Fin 2) (h t : Fin 4) (r : Fin 512) :
    shapeCast S2x4x4x1x512 (addf (broadcastInDim S2x4x2048x1 ![0, 1, 2] bcast_S2x4x2048_S2x4x2048x1_0_1_2 x) (Host.log y)) shapeCasts_S2x4x2048x1_S2x4x4x1x512 (ix5 b h t 0 r)
      = x (ix3 b h (row t r)) + Ideal.log (y (ix4 b h (row t r) 0)) := by
  have e : (⟨t.val * 512 + r.val, by omega⟩ : Fin 2048) = row t r := Fin.ext (by show t.val * 512 + r.val = 512 * t.val + r.val; omega)
  rw [← e]
  pointwise

theorem v23_at (b : Fin 2) (h t : Fin 4) (r : Fin 512) :
    (V m c main_v23 : S2x4x4x1x512.Idx → EReal) (ix5 b h t 0 r)
      = (Cert.Attn.lse (aq m c) (ak m c) b h (row t r) : EReal) := by
  refine (congrFun (v23_eq m c) (ix5 b h t 0 r)).trans ((lse_read _ _ b h t r).trans ?_)
  exact congrArg₂ (fun x y : EReal => x + y) (v10_at m c b h _) (congrArg Ideal.log (v16_at m c b h _))

end Cert.KernelIdeal.Bwd
-- ==== Proof.Arrays.lean ====
/- The blocks that a grid point reads, in terms of the arguments: point `t` handles sequence `t / 8`, the pair of heads
   `t / 4 % 2` and block `t % 4` of keys. -/
module

public import proofs.«01_k».proof.Proof.HostA
public import Idealize.ShloMosaic.Lib.Pipeline.ValueKit

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem index_eq : ∀ t : Fin cfg0.N,
    win0_0.index t = ![t.val / 8, 0, t.val / 4 % 2] ∧ win0_1.index t = ![t.val / 8, t.val % 4, t.val / 4 % 2]
    ∧ win0_2.index t = ![t.val / 8, t.val % 4, t.val / 4 % 2] ∧ win0_3.index t = ![t.val / 8, 0, t.val / 4 % 2]
    ∧ win0_4.index t = ![t.val / 8, t.val / 4 % 2, 0, 0, 0] ∧ win0_5.index t = ![t.val / 8, 0, t.val / 4 % 2]
    ∧ win0_6.index t = ![t.val / 8, 0, t.val / 4 % 2] ∧ win0_7.index t = ![t.val / 8, t.val % 4, t.val / 4 % 2]
    ∧ win0_8.index t = ![t.val / 8, t.val % 4, t.val / 4 % 2] :=
  (by decide +kernel : ∀ t : Fin grid0.N,
    win0_0.index t = ![t.val / 8, 0, t.val / 4 % 2] ∧ win0_1.index t = ![t.val / 8, t.val % 4, t.val / 4 % 2]
    ∧ win0_2.index t = ![t.val / 8, t.val % 4, t.val / 4 % 2] ∧ win0_3.index t = ![t.val / 8, 0, t.val / 4 % 2]
    ∧ win0_4.index t = ![t.val / 8, t.val / 4 % 2, 0, 0, 0] ∧ win0_5.index t = ![t.val / 8, 0, t.val / 4 % 2]
    ∧ win0_6.index t = ![t.val / 8, 0, t.val / 4 % 2] ∧ win0_7.index t = ![t.val / 8, t.val % 4, t.val / 4 % 2]
    ∧ win0_8.index t = ![t.val / 8, t.val % 4, t.val / 4 % 2])

theorem lt16 (t : Fin cfg0.N) : t.val < 16 := Nat.lt_of_lt_of_eq t.isLt N_0

/-- The sequence, the pair of heads and the key block of a point; a head of a pair. -/
def sq (t : Fin cfg0.N) : Fin 2 := ⟨t.val / 8, by have := lt16 t; omega⟩
def pr (t : Fin cfg0.N) : Fin 2 := ⟨t.val / 4 % 2, by omega⟩
def hd (g h : Fin 2) : Fin 4 := ⟨2 * g.val + h.val, by omega⟩
def jk (t : Fin cfg0.N) : Fin 4 := ⟨t.val % 4, by omega⟩

theorem jk_eq (t : Fin cfg0.N) : jOf (grid0.coords t) = jk t := Fin.ext (jOf_coords t)

variable (t : Fin cfg0.N)

theorem q_blk (X : FVec Ideal S2x2048x1024 .bf16) (r : Fin 2048) (d : Fin 512) :
    ((cfg0.win 0).blk t).view.read (Elt Ideal) X (ix3 0 r d) = X (ix3 (sq t) r ⟨512 * (pr t).val + d.val, by omega⟩) := by
  blk_ext [sq, pr, (index_eq t).1]
theorem k_blk (X : FVec Ideal S2x2048x1024 .bf16) (a : Fin 512) (d : Fin 512) :
    ((cfg0.win 1).blk t).view.read (Elt Ideal) X (ix3 0 a d) = X (ix3 (sq t) (row (jk t) a) ⟨512 * (pr t).val + d.val, by omega⟩) := by
  blk_ext [sq, pr, jk, row, (index_eq t).2.1]
theorem v_blk (X : FVec Ideal S2x2048x512 .bf16) (a : Fin 512) (d : Fin 256) :
    ((cfg0.win 2).blk t).view.read (Elt Ideal) X (ix3 0 a d) = X (ix3 (sq t) (row (jk t) a) ⟨256 * (pr t).val + d.val, by omega⟩) := by
  blk_ext [sq, pr, jk, row, (index_eq t).2.2.1]
theorem o_blk (X : FVec Ideal S2x2048x512 .bf16) (r : Fin 2048) (d : Fin 256) :
    ((cfg0.win 3).blk t).view.read (Elt Ideal) X (ix3 0 r d) = X (ix3 (sq t) r ⟨256 * (pr t).val + d.val, by omega⟩) := by
  blk_ext [sq, pr, (index_eq t).2.2.2.1]
theorem l_blk (X : FVec Ideal S2x4x4x1x512 .f32) (h : Fin 2) (u : Fin 4) (b : Fin 512) :
    ((cfg0.win 4).blk t).view.read (Elt Ideal) X (ix5 0 h u 0 b) = X (ix5 (sq t) (hd (pr t) h) u 0 b) := by
  blk_ext [sq, pr, hd, (index_eq t).2.2.2.2.1]
theorem g_blk (X : FVec Ideal S2x2048x512 .bf16) (r : Fin 2048) (d : Fin 256) :
    ((cfg0.win 5).blk t).view.read (Elt Ideal) X (ix3 0 r d) = X (ix3 (sq t) r ⟨256 * (pr t).val + d.val, by omega⟩) := by
  blk_ext [sq, pr, (index_eq t).2.2.2.2.2.1]

/-- Lane `d` of head `h` of a pair, among the 1024 lanes of all heads. -/
theorem head_col (g h : Fin 2) (d : Fin 256) (p : 512 * g.val + (col h d).val < 1024) :
    (⟨(⟨512 * g.val + (col h d).val, p⟩ : Fin 1024).val / 256, by omega⟩ : Fin 4) = hd g h
    ∧ (⟨(⟨512 * g.val + (col h d).val, p⟩ : Fin 1024).val % 256, by omega⟩ : Fin 256) = d := by
  constructor <;> (apply Fin.ext; simp only [col, hd]; omega)
/-- The same for the 128 lanes of a value. -/
theorem head_vcol (g h : Fin 2) (d : Fin 128) (p : 256 * g.val + (vcol h d).val < 512) :
    (⟨(⟨256 * g.val + (vcol h d).val, p⟩ : Fin 512).val / 128, by omega⟩ : Fin 4) = hd g h
    ∧ (⟨(⟨256 * g.val + (vcol h d).val, p⟩ : Fin 512).val % 128, by omega⟩ : Fin 128) = d := by
  constructor <;> (apply Fin.ext; simp only [vcol, hd]; omega)

open Cert.Attn in
theorem q_at (r : Fin 2048) (h : Fin 2) (d : Fin 256) :
    (blocksAt m c t).q (ix3 0 r (col h d)) = lane (aq m c (sq t) r (hd (pr t) h)) d := by
  refine ((q_blk t (V m c main_v29) r (col h d)).trans (v29_at m c _ _ _)).trans ?_
  rw [(head_col _ h d _).1, (head_col _ h d _).2]
open Cert.Attn in
theorem k_at (a : Fin 512) (h : Fin 2) (d : Fin 256) :
    (blocksAt m c t).k (ix3 0 a (col h d)) = lane (ak m c (sq t) (row (jk t) a) (hd (pr t) h)) d := by
  refine ((k_blk t (V m c main_v35) a (col h d)).trans (v35_at m c _ _ _)).trans ?_
  rw [(head_col _ h d _).1, (head_col _ h d _).2]
theorem v_at (a : Fin 512) (h : Fin 2) (d : Fin 128) :
    (blocksAt m c t).v (ix3 0 a (vcol h d)) = av m c (sq t) (row (jk t) a) (hd (pr t) h) d := by
  refine ((v_blk t (V m c main_v37) a (vcol h d)).trans (v37_at m c _ _ _)).trans ?_
  rw [(head_vcol _ h d _).1, (head_vcol _ h d _).2]
theorem g_at (r : Fin 2048) (h : Fin 2) (d : Fin 128) :
    iblk m c 5 t (ix3 0 r (vcol h d)) = ag m c (sq t) r (hd (pr t) h) d := by
  refine ((g_blk t (V m c main_v39) r (vcol h d)).trans (v39_at m c _ _ _)).trans ?_
  rw [(head_vcol _ h d _).1, (head_vcol _ h d _).2]
open Cert.Attn in
theorem o_at (r : Fin 2048) (h : Fin 2) (d : Fin 128) :
    iblk m c 3 t (ix3 0 r (vcol h d)) = out (aq m c) (ak m c) (av m c) (sq t) (hd (pr t) h) r d := by
  refine ((o_blk t (V m c main_v38) r (vcol h d)).trans (v38_at m c _ _ _)).trans ?_
  rw [(head_vcol _ h d _).1, (head_vcol _ h d _).2]
open Cert.Attn in
theorem l_at (h : Fin 2) (u : Fin 4) (b : Fin 512) :
    (blocksAt m c t).lse (ix5 0 h u 0 b) = lse (aq m c) (ak m c) (sq t) (hd (pr t) h) (row u b) :=
  (l_blk t (V m c main_v23) h u b).trans (v23_at m c _ _ _ _)

/-- The scratch holds the row sums of `do · o` at every point. -/
theorem s_at : ∀ (n : ℕ) (hn : n < cfg0.N) (h : Fin 2) (u : Fin 4) (b : Fin 512), sAt m c n hn (ix4 h u 0 b)
    = ∑ d : Fin 128, ag m c (sq ⟨n, hn⟩) (row u b) (hd (pr ⟨n, hn⟩) h) d
        * Cert.Attn.out (aq m c) (ak m c) (av m c) (sq ⟨n, hn⟩) (hd (pr ⟨n, hn⟩) h) (row u b) d := by
  intro n
  induction n with
  | zero =>
    intro hn h u b
    refine (congrFun (sAt_first m c ⟨0, hn⟩ rfl) _).trans ?_
    show ∑ d : Fin 128, _ = _
    refine Finset.sum_congr rfl fun d _ => ?_
    exact congrArg₂ (· * ·) (g_at m c ⟨0, hn⟩ (row u b) h d) (o_at m c ⟨0, hn⟩ (row u b) h d)
  | succ n ih =>
    intro hn h u b
    by_cases h4 : (n + 1) % 4 = 0
    · refine (congrFun (sAt_first m c ⟨n + 1, hn⟩ h4) _).trans ?_
      show ∑ d : Fin 128, _ = _
      refine Finset.sum_congr rfl fun d _ => ?_
      exact congrArg₂ (· * ·) (g_at m c ⟨n + 1, hn⟩ (row u b) h d) (o_at m c ⟨n + 1, hn⟩ (row u b) h d)
    · have e1 : sq ⟨n + 1, hn⟩ = sq ⟨n, Nat.lt_of_succ_lt hn⟩ := Fin.ext (by simp only [sq]; omega)
      have e2 : pr ⟨n + 1, hn⟩ = pr ⟨n, Nat.lt_of_succ_lt hn⟩ := Fin.ext (by simp only [pr]; omega)
      rw [e1, e2]
      exact (congrFun (sAt_later m c ⟨n + 1, hn⟩ h4) _).trans (ih _ h u b)

end Cert.KernelIdeal.Bwd
-- ==== Proof.Values.lean ====
/- What a grid point computes, in terms of the arguments: the weights of its tiles, the gradients of its scores, and so
   the three gradients that the pipeline writes back. -/
module

public import proofs.«01_k».proof.Proof.Arrays

@[expose] public section

set_option maxRecDepth 16384

noncomputable section

namespace Cert.KernelIdeal.Bwd

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD) (t : Fin cfg0.N)

/-- A sum over the rows of a sequence, tile by tile. -/
theorem sum_rows (f : Fin 2048 → EReal) : ∑ r, f r = ∑ u : Fin 4, ∑ b : Fin 512, f (row u b) := by
  rw [← Fintype.sum_prod_type' (f := fun u b => f (row u b))]
  refine (Fintype.sum_equiv (finProdFinEquiv (m := 4) (n := 512)) _ f fun x => ?_).symm
  exact congrArg f (Fin.ext (by show 512 * x.1.val + x.2.val = x.2.val + 512 * x.1.val; omega))

/-- Above the diagonal the kernel's weight is zero. -/
theorem above (b : Fin 2) (h : Fin 4) {j u : Fin 4} (hu : ¬j ≤ u) (x y : Fin 512) :
    prbK (aq m c) (ak m c) b h (row u x) (row j y) = 0 :=
  if_neg (by rw [Fin.le_def, row_val, row_val]; rw [Fin.le_def] at hu; omega)
theorem dsc_above (b : Fin 2) (h : Fin 4) {j u : Fin 4} (hu : ¬j ≤ u) (x y : Fin 512) :
    dscK (aq m c) (ak m c) (av m c) (ag m c) b h (row u x) (row j y) = 0 := by
  rw [dscK, above m c b h hu x y, zero_mul, zero_mul]

theorem prob_at (h : Fin 2) {u : Fin 4} (hu : jk t ≤ u) (a b : Fin 512) :
    prob (blocksAt m c t) (jk t) h u a b = prbK (aq m c) (ak m c) (sq t) (hd (pr t) h) (row u b) (row (jk t) a) := by
  unfold prob prbK
  have e : (∑ d : Fin 256, (blocksAt m c t).k (ix3 0 a (col h d)) * (blocksAt m c t).q (ix3 0 (row u b) (col h d)))
      = ∑ d, ak m c (sq t) (row (jk t) a) (hd (pr t) h) d * aq m c (sq t) (row u b) (hd (pr t) h) d :=
    (Finset.sum_congr rfl fun d _ => congrArg₂ (· * ·) (k_at m c t a h d) (q_at m c t (row u b) h d)).trans (dot_lane _ _)
  rw [e, l_at m c t h u b]
  by_cases hc : u = jk t ∧ ¬a ≤ b
  · rw [if_pos hc, if_neg]
    obtain ⟨rfl, hab⟩ := hc
    rw [Fin.le_def, row_val, row_val]; rw [Fin.le_def] at hab; omega
  · rw [if_neg hc, if_pos]
    · rfl
    · rw [Fin.le_def, row_val, row_val]
      by_cases e : u = jk t
      · have : a ≤ b := Classical.byContradiction fun n => hc ⟨e, n⟩
        rw [Fin.le_def] at this; rw [e]; omega
      · have h1 : (jk t).val ≤ u.val := hu
        have h2 : u.val ≠ (jk t).val := fun x => e (Fin.ext x)
        omega

theorem dprob_at (h : Fin 2) (u : Fin 4) (a b : Fin 512) :
    dprob (blocksAt m c t) h u a b = dprK (av m c) (ag m c) (sq t) (hd (pr t) h) (row u b) (row (jk t) a) :=
  Finset.sum_congr rfl fun d _ => congrArg₂ (· * ·) (v_at m c t a h d) (g_at m c t (row u b) h d)

theorem dscore_at (h : Fin 2) {u : Fin 4} (hu : jk t ≤ u) (a b : Fin 512) :
    dscore (blocksAt m c t) (jk t) h u a b
      = dscK (aq m c) (ak m c) (av m c) (ag m c) (sq t) (hd (pr t) h) (row u b) (row (jk t) a) := by
  unfold dscore dscK
  rw [prob_at m c t h hu a b, dprob_at m c t h u a b, show (blocksAt m c t).dsum (ix4 h u 0 b) = _ from s_at m c t.val t.isLt h u b]
  rfl

/-- What key block `j` adds to the gradient of a query. -/
def dqTerm (b : Fin 2) (h : Fin 4) (r : Fin 2048) (d : Fin 256) (j : Fin 4) : EReal :=
  ∑ a : Fin 512, dscK (aq m c) (ak m c) (av m c) (ag m c) b h r (row j a) * lane (ak m c b (row j a) h) d

theorem dqTile_at (h : Fin 2) (u : Fin 4) (b : Fin 512) (d : Fin 256) :
    (if jk t ≤ u then dqTile (blocksAt m c t) (jk t) h u b d else 0) = dqTerm m c (sq t) (hd (pr t) h) (row u b) d (jk t) := by
  by_cases hu : jk t ≤ u
  · rw [if_pos hu]
    exact Finset.sum_congr rfl fun a _ => congrArg₂ (· * ·) (dscore_at m c t h hu a b) (k_at m c t a h d)
  · rw [if_neg hu]
    exact (Finset.sum_eq_zero fun a _ => by rw [dsc_above m c _ _ hu, zero_mul]).symm

theorem dqOut_at (x : Vec Ideal S1x2048x512 .f32) (h : Fin 2) (u : Fin 4) (b : Fin 512) (d : Fin 256) :
    dqOut (blocksAt m c t) (jOf (grid0.coords t)) x (ix3 0 (row u b) (col h d))
      = x (ix3 0 (row u b) (col h d)) + dqTerm m c (sq t) (hd (pr t) h) (row u b) d (jk t) := by
  rw [jk_eq, ← dqTile_at m c t h u b d]
  show _ + (if jk t ≤ tq (row u b) then dqTile _ _ (hq (col h d)) (tq (row u b)) (bq (row u b)) (lq (col h d)) else 0) = _
  rw [tq_row, bq_row, hq_col, lq_col]

theorem upto_zero : Finset.univ.filter (fun j : Fin 4 => j.val ≤ 0) = {0} := by decide
theorem upto_succ : ∀ i : Fin 4, i.val ≠ 0 → (Finset.univ.filter fun j : Fin 4 => j.val ≤ i.val)
    = insert i (Finset.univ.filter fun j : Fin 4 => j.val ≤ i.val - 1) ∧ i ∉ Finset.univ.filter fun j : Fin 4 => j.val ≤ i.val - 1 := by decide
theorem upto_three : (Finset.univ.filter fun j : Fin 4 => j.val ≤ 3) = Finset.univ := by decide

/-- The block of query gradients after a point: the terms of the key blocks seen so far. -/
theorem dqAt_at : ∀ (n : ℕ) (hn : n < cfg0.N) (h : Fin 2) (u : Fin 4) (b : Fin 512) (d : Fin 256),
    dqAt m c n hn (ix3 0 (row u b) (col h d))
      = ∑ j ∈ Finset.univ.filter (fun j : Fin 4 => j.val ≤ n % 4), dqTerm m c (sq ⟨n, hn⟩) (hd (pr ⟨n, hn⟩) h) (row u b) d j := by
  have first : ∀ (n : ℕ) (hn : n < cfg0.N) (h : Fin 2) (u : Fin 4) (b : Fin 512) (d : Fin 256), n % 4 = 0 →
      dqAt m c n hn (ix3 0 (row u b) (col h d))
      = ∑ j ∈ Finset.univ.filter (fun j : Fin 4 => j.val ≤ n % 4), dqTerm m c (sq ⟨n, hn⟩) (hd (pr ⟨n, hn⟩) h) (row u b) d j := by
    intro n hn h u b d h4
    refine (congrFun (dqAt_first m c ⟨n, hn⟩ h4) _).trans ((dqOut_at m c ⟨n, hn⟩ _ h u b d).trans ?_)
    rw [h4, upto_zero, Finset.sum_singleton, zero_add]
    exact congrArg _ (Fin.ext h4)
  intro n
  induction n with
  | zero => intro hn h u b d; exact first 0 hn h u b d rfl
  | succ n ih =>
    intro hn h u b d
    by_cases h4 : (n + 1) % 4 = 0
    · exact first (n + 1) hn h u b d h4
    · have e1 : sq ⟨n + 1, hn⟩ = sq ⟨n, Nat.lt_of_succ_lt hn⟩ := Fin.ext (by simp only [sq]; omega)
      have e2 : pr ⟨n + 1, hn⟩ = pr ⟨n, Nat.lt_of_succ_lt hn⟩ := Fin.ext (by simp only [pr]; omega)
      have e3 : (jk ⟨n + 1, hn⟩).val = (n + 1) % 4 := rfl
      have e4 : n % 4 = (jk ⟨n + 1, hn⟩).val - 1 := by rw [e3]; omega
      obtain ⟨i1, i2⟩ := upto_succ (jk ⟨n + 1, hn⟩) (by rw [e3]; exact h4)
      refine (congrFun (dqAt_later m c ⟨n + 1, hn⟩ h4) _).trans ((dqOut_at m c ⟨n + 1, hn⟩ _ h u b d).trans ?_)
      rw [← e3, i1, Finset.sum_insert i2, add_comm, ← e4]
      refine congrArg₂ (· + ·) rfl ?_
      rw [e1, e2]
      exact ih _ h u b d

/-- The query gradient after the last key block. -/
theorem dq_at (ht : t.val % 4 = 3) (h : Fin 2) (u : Fin 4) (b : Fin 512) (d : Fin 256) :
    dqAt m c t.val t.isLt (ix3 0 (row u b) (col h d))
      = ∑ k, dscK (aq m c) (ak m c) (av m c) (ag m c) (sq t) (hd (pr t) h) (row u b) k * lane (ak m c (sq t) k (hd (pr t) h)) d := by
  rw [dqAt_at m c t.val t.isLt h u b d, ht, upto_three, sum_rows]
  rfl

/-- A sum over the tiles from the diagonal on, when the others add nothing. -/
theorem sum_from (j : Fin 4) (f : Fin 4 → EReal) (h : ∀ u, ¬j ≤ u → f u = 0) : ∑ u ∈ from' j, f u = ∑ u, f u :=
  Finset.sum_subset (Finset.subset_univ _) fun u _ hu => h u fun hj => hu (Finset.mem_filter.mpr ⟨Finset.mem_univ _, hj⟩)

/-- A point's key gradients. -/
theorem dk_at (h : Fin 2) (a : Fin 512) (d : Fin 256) :
    dkOut (blocksAt m c t) (jOf (grid0.coords t)) (ix3 0 a (col h d))
      = ∑ r, dscK (aq m c) (ak m c) (av m c) (ag m c) (sq t) (hd (pr t) h) r (row (jk t) a) * lane (aq m c (sq t) r (hd (pr t) h)) d := by
  rw [jk_eq, sum_rows]
  show ∑ u ∈ from' (jk t), dkTile _ _ (hq (col h d)) u a (lq (col h d)) = _
  rw [hq_col, lq_col, ← sum_from (jk t)]
  · refine Finset.sum_congr rfl fun u hu => Finset.sum_congr rfl fun b _ => ?_
    exact congrArg₂ (· * ·) (dscore_at m c t h (Finset.mem_filter.mp hu).2 a b) (q_at m c t (row u b) h d)
  · intro u hu
    exact Finset.sum_eq_zero fun b _ => by rw [dsc_above m c _ _ hu, zero_mul]

/-- A point's value gradients. -/
theorem dv_at (h : Fin 2) (a : Fin 512) (d : Fin 128) :
    dvOut (blocksAt m c t) (jOf (grid0.coords t)) (ix3 0 a (vcol h d))
      = ∑ r, prbK (aq m c) (ak m c) (sq t) (hd (pr t) h) r (row (jk t) a) * ag m c (sq t) r (hd (pr t) h) d := by
  rw [jk_eq, sum_rows]
  show ∑ u ∈ from' (jk t), dvTile _ _ (hv (vcol h d)) u a (lv (vcol h d)) = _
  rw [hv_vcol, lv_vcol, ← sum_from (jk t)]
  · refine Finset.sum_congr rfl fun u hu => Finset.sum_congr rfl fun b _ => ?_
    exact congrArg₂ (· * ·) (prob_at m c t h (Finset.mem_filter.mp hu).2 a b) (g_at m c t (row u b) h d)
  · intro u hu
    exact Finset.sum_eq_zero fun b _ => by rw [above m c _ _ hu, zero_mul]

end Cert.KernelIdeal.Bwd
-- ==== Proof.Results.lean ====
/- The three arrays that the pipeline leaves, read whole. -/
module

public import proofs.«01_k».proof.Proof.Values

@[expose] public section

set_option maxRecDepth 16384

noncomputable section

namespace Cert.KernelIdeal.Bwd

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD) (t : Fin cfg0.N)

/-- The head and the lane of a column of the laid-out arrays. -/
def hc (x : Fin 1024) : Fin 4 := ⟨x.val / 256, by omega⟩
def lc (x : Fin 1024) : Fin 256 := ⟨x.val % 256, by omega⟩
def hw (x : Fin 512) : Fin 4 := ⟨x.val / 128, by omega⟩
def lw (x : Fin 512) : Fin 128 := ⟨x.val % 128, by omega⟩

def dqArr : FVec Ideal S2x2048x1024 .f32 := fun i =>
  ∑ k, dscK (aq m c) (ak m c) (av m c) (ag m c) (i 0) (hc (i 2)) (i 1) k * lane (ak m c (i 0) k (hc (i 2))) (lc (i 2))
def dkArr : FVec Ideal S2x2048x1024 .f32 := fun i =>
  ∑ r, dscK (aq m c) (ak m c) (av m c) (ag m c) (i 0) (hc (i 2)) r (i 1) * lane (aq m c (i 0) r (hc (i 2))) (lc (i 2))
def dvArr : FVec Ideal S2x2048x512 .f32 := fun i =>
  ∑ r, prbK (aq m c) (ak m c) (i 0) (hw (i 2)) r (i 1) * ag m c (i 0) r (hw (i 2)) (lw (i 2))

theorem hc_eq (h : Fin 2) (d : Fin 256) (p) : hc ⟨512 * (pr t).val + (col h d).val, p⟩ = hd (pr t) h := (head_col (pr t) h d p).1
theorem lc_eq (h : Fin 2) (d : Fin 256) (p) : lc ⟨512 * (pr t).val + (col h d).val, p⟩ = d := (head_col (pr t) h d p).2
theorem hw_eq (h : Fin 2) (d : Fin 128) (p) : hw ⟨256 * (pr t).val + (vcol h d).val, p⟩ = hd (pr t) h := (head_vcol (pr t) h d p).1
theorem lw_eq (h : Fin 2) (d : Fin 128) (p) : lw ⟨256 * (pr t).val + (vcol h d).val, p⟩ = d := (head_vcol (pr t) h d p).2

theorem dq_emb (r : Fin 2048) (d : Fin 512) :
    ((cfg0.win 6).blk t).view.emb (ix3 0 r d) = ix3 (sq t) r ⟨512 * (pr t).val + d.val, by omega⟩ := by
  blk_ext [sq, pr, (index_eq t).2.2.2.2.2.2.1]
theorem dk_emb (a : Fin 512) (d : Fin 512) :
    ((cfg0.win 7).blk t).view.emb (ix3 0 a d) = ix3 (sq t) (row (jk t) a) ⟨512 * (pr t).val + d.val, by omega⟩ := by
  blk_ext [sq, pr, jk, row, (index_eq t).2.2.2.2.2.2.2.1]
theorem dv_emb (a : Fin 512) (d : Fin 256) :
    ((cfg0.win 8).blk t).view.emb (ix3 0 a d) = ix3 (sq t) (row (jk t) a) ⟨256 * (pr t).val + d.val, by omega⟩ := by
  blk_ext [sq, pr, jk, row, (index_eq t).2.2.2.2.2.2.2.2]

theorem out_dq : (dats m 0 c).arrAt 6 cfg0.N = dqArr m c := by
  refine (dats m 0 c).arrAt_eq_of_covers 6 _ (by decide +kernel) fun t hf y => ?_
  blk_simp
  rw [after6]
  have ht := (flush0_6 t).mp hf
  obtain ⟨u, b, h, d, rfl⟩ := idx_row y
  rw [dq_emb]
  refine (dq_at m c t ht h u b d).trans ?_
  show _ = ∑ k, dscK (aq m c) (ak m c) (av m c) (ag m c) (sq t) (hc ⟨512 * (pr t).val + (col h d).val, _⟩) (row u b) k
    * lane (ak m c (sq t) k (hc ⟨512 * (pr t).val + (col h d).val, _⟩)) (lc ⟨512 * (pr t).val + (col h d).val, _⟩)
  rw [hc_eq, lc_eq]

theorem out_dk : (dats m 0 c).arrAt 7 cfg0.N = dkArr m c := by
  refine (dats m 0 c).arrAt_eq_of_covers 7 _ (by decide +kernel) fun t hf y => ?_
  blk_simp
  rw [after7]
  obtain ⟨a, h, d, rfl⟩ : ∃ (a : Fin 512) (h : Fin 2) (d : Fin 256), y = ix3 0 a (col h d) := by
    obtain ⟨h, d, hc⟩ := exists_col (y 2)
    exact ⟨y 1, h, d, by rw [← hc, ← Fin.eq_zero (y 0)]; exact (ix3_eta y).symm⟩
  rw [dk_emb]
  refine (dk_at m c t h a d).trans ?_
  show _ = ∑ r, dscK (aq m c) (ak m c) (av m c) (ag m c) (sq t) (hc ⟨512 * (pr t).val + (col h d).val, _⟩) r (row (jk t) a)
    * lane (aq m c (sq t) r (hc ⟨512 * (pr t).val + (col h d).val, _⟩)) (lc ⟨512 * (pr t).val + (col h d).val, _⟩)
  rw [hc_eq, lc_eq]

theorem out_dv : (dats m 0 c).arrAt 8 cfg0.N = dvArr m c := by
  refine (dats m 0 c).arrAt_eq_of_covers 8 _ (by decide +kernel) fun t hf y => ?_
  blk_simp
  rw [after8]
  obtain ⟨a, h, d, rfl⟩ : ∃ (a : Fin 512) (h : Fin 2) (d : Fin 128), y = ix3 0 a (vcol h d) := by
    obtain ⟨h, d, hc⟩ := exists_vcol (y 2)
    exact ⟨y 1, h, d, by rw [← hc, ← Fin.eq_zero (y 0)]; exact (ix3_eta y).symm⟩
  rw [dv_emb]
  refine (dv_at m c t h a d).trans ?_
  show _ = ∑ r, prbK (aq m c) (ak m c) (sq t) (hw ⟨256 * (pr t).val + (vcol h d).val, _⟩) r (row (jk t) a)
    * ag m c (sq t) r (hw ⟨256 * (pr t).val + (vcol h d).val, _⟩) (lw ⟨256 * (pr t).val + (vcol h d).val, _⟩)
  rw [hw_eq, lw_eq]

/-! ## On real arguments these are the gradients of causal attention -/

variable {m c}
variable (rq : Real4 (aq m c)) (rk : Real4 (ak m c)) (rv : Real4 (av m c)) (rg : Real4 (ag m c))

include rq rk rv rg in
theorem dqArr_at (b : Fin 2) (r : Fin 2048) (d : Fin 1024) : dqArr m c (ix3 b r d)
    = lane (dqR (aq m c) (ak m c) (av m c) (ag m c) b r (hc d)) (lc d) := by
  show ∑ k, dscK _ _ _ _ b (hc d) r k * lane (ak m c b k (hc d)) (lc d) = _
  refine (Finset.sum_congr rfl fun k _ => by rw [(dscK_eq rq rk rv rg b (hc d) r k).1]).trans ?_
  exact sum_lane Finset.univ (fun k => dsc (aq m c) (ak m c) (av m c) (ag m c) b (hc d) r k) (fun k => ak m c b k (hc d)) (lc d)

include rq rk rv rg in
theorem dkArr_at (b : Fin 2) (r : Fin 2048) (d : Fin 1024) : dkArr m c (ix3 b r d)
    = lane (dkR (aq m c) (ak m c) (av m c) (ag m c) b r (hc d)) (lc d) := by
  show ∑ k, dscK _ _ _ _ b (hc d) k r * lane (aq m c b k (hc d)) (lc d) = _
  refine (Finset.sum_congr rfl fun k _ => by rw [(dscK_eq rq rk rv rg b (hc d) k r).1]).trans ?_
  exact sum_lane Finset.univ (fun k => dsc (aq m c) (ak m c) (av m c) (ag m c) b (hc d) k r) (fun k => aq m c b k (hc d)) (lc d)

include rq rk in
theorem dvArr_at (b : Fin 2) (r : Fin 2048) (d : Fin 512) : dvArr m c (ix3 b r d)
    = dvR (aq m c) (ak m c) (ag m c) b r (hw d) (lw d) := by
  show ∑ k, prbK _ _ b (hw d) k r * ag m c b k (hw d) (lw d) = ∑ k, _
  exact Finset.sum_congr rfl fun k _ => by rw [prbK_eq rq rk, mul_comm]

end Cert.KernelIdeal.Bwd
-- ==== Proof.Finite.lean ====
/- The precondition, read: where the magnitude of every element of an argument is less than infinity, every element is
   a real number. -/
module

public import proofs.«01_k».proof.Defs
public import proofs.«01_k».proof.Proof.Results
public import Idealize.ShloMosaic.Lib.ReduceAll

@[expose] public section

noncomputable section

namespace Cert.Finite

open Cert.Pre_finite Idealize.ShloMosaic Cert.Attn

theorem b192 : S_.BroadcastsInDim S2x2048x4x192 (![] : Fin 0 → Fin S2x2048x4x192.rank) := by decide
theorem r192 : S2x2048x4x192.ReducesTo [0, 1, 2, 3] S_ := by decide
theorem b128 : S_.BroadcastsInDim S2x2048x4x128 (![] : Fin 0 → Fin S2x2048x4x128.rank) := by decide
theorem r128 : S2x2048x4x128.ReducesTo [0, 1, 2, 3] S_ := by decide
theorem hpos : 0 < S_.numel := by decide

/-- The shape relations of the precondition. -/
theorem facts : Cert.Pre_finite.Facts := ⟨b192, r192, hpos, b128, r128⟩

theorem posInf : Ideal.ofBits .f32 0x7F800000#32 = ⊤ := by
  simp [Ideal.ofBits, Ideal.ieee]

/-- Two bits whose conjunction is 1 are 1. -/
theorem both (x y : BitVec 1) (h : IntOp.andi x y = 1#1) : x = 1#1 ∧ y = 1#1 := by
  revert h; revert x y; decide

/-- A number whose magnitude is less than infinity is real. -/
theorem real_of_abs (x : EReal) (h : max x (-x) < ⊤) : ∃ r : ℝ, x = (r : EReal) := by
  induction x using EReal.rec with
  | bot => simp at h
  | coe r => exact ⟨r, rfl⟩
  | top => simp at h

/-- One argument's test: every element is real. -/
theorem test {s : Shape} (hb : S_.BroadcastsInDim s (![] : Fin 0 → Fin s.rank)) {axes : List (Fin s.rank)} (hr : s.ReducesTo axes S_)
    (x : FVec Ideal s .f32) (j : S_.Idx)
    (h : Host.reduce IntOp.andi (cmpf .olt (Host.absf x) (broadcastInDim s ![] hb (constant S_ .f32 0x7F800000#32)))
      (constantI S_ 1 1#1) hr hpos j = 1#1) (i : s.Idx) : ∃ r : ℝ, (x i : EReal) = (r : EReal) := by
  haveI : Subsingleton S_.Idx := ⟨fun a b => funext fun k => k.elim0⟩
  have e := Host.reduce_andi_all _ _ hr hpos j h i
  have e' : Ideal.cmp .olt (max (x i : EReal) (-(x i : EReal))) (Ideal.ofBits .f32 0x7F800000#32) = 1#1 := e
  rw [posInf] at e'
  refine real_of_abs _ ?_
  by_contra hn
  simp only [Ideal.cmp, decide_eq_false hn] at e'
  exact absurd e' (by decide)

/-- The whole precondition. -/
theorem args [Cert.Pre_finite.Facts] (x0 x1 : FVec Ideal S2x2048x4x192 .f32) (x2 x3 : FVec Ideal S2x2048x4x128 .f32)
    (h : Cert.Pre_finite.fn (F := Ideal) x0 x1 x2 x3 = fun _ => 1#1) :
    (∀ i, ∃ r : ℝ, (x0 i : EReal) = (r : EReal)) ∧ (∀ i, ∃ r : ℝ, (x1 i : EReal) = (r : EReal))
    ∧ (∀ i, ∃ r : ℝ, (x2 i : EReal) = (r : EReal)) ∧ (∀ i, ∃ r : ℝ, (x3 i : EReal) = (r : EReal)) := by
  have e := congrFun h (fun k : Fin 0 => k.elim0)
  obtain ⟨e, e3⟩ := both _ _ e
  obtain ⟨e, e2⟩ := both _ _ e
  obtain ⟨e0, e1⟩ := both _ _ e
  exact ⟨test b192 r192 x0 _ e0, test b192 r192 x1 _ e1, test b128 r128 x2 _ e2, test b128 r128 x3 _ e3⟩

theorem real4 {n : ℕ} (x : (⟨4, ![2, 2048, 4, n]⟩ : Shape).Idx → EReal) (h : ∀ i, ∃ r : ℝ, x i = (r : EReal)) :
    Real4 (fun b r k d => x (ix4 b r k d)) :=
  ⟨fun b r k d => (h (ix4 b r k d)).choose, by
    funext b r k d; exact (h (ix4 b r k d)).choose_spec⟩

open Cert.KernelIdeal Cert.KernelIdeal.Bwd in
/-- Under the precondition all four arguments are real. -/
theorem reals (m : (ℓ : Loc nD τ sig) → Buf (Elt Ideal) ℓ) (h : Cert.Pre_KernelIdeal_finite (hPre_finite := facts) m) (c : Dev nD) :
    Real4 (aq m c) ∧ Real4 (ak m c) ∧ Real4 (av m c) ∧ Real4 (ag m c) := by
  haveI := facts
  obtain ⟨h0, h1, h2, h3⟩ := args _ _ _ _ (h c)
  exact ⟨real4 _ h0, real4 _ h1, real4 _ h2, real4 _ h3⟩

end Cert.Finite
-- ==== Proof.WgradDown.lean ====
/- The gradient of the down projection's weights: what the body adds to the accumulator at a point, the accumulator
   after the four points of a block of the result, and the result at an index. -/
module

public import proofs.«01_k».proof.Proof.Gen.Kernel2Ideal.Value
public import proofs.«01_k».proof.Proof.Gen.Reference2Ideal.Run
public import proofs.«01_k».proof.Proof.Grad
public import proofs.«01_k».proof.Defs

@[expose] public section

noncomputable section

namespace Cert.Kernel2Ideal.Grad

open Cert.Kernel2Ideal Cert.Kernel2Ideal.Gen Cert.Grad
open Idealize.ShloMosaic Idealize.ShloMosaic.TcCoe Idealize.SL.Sem

theorem pay3_at (x : Vec Ideal S1024x2048 .bf16) (d : Vec Ideal S1024x512 .f32) (v : Vec Ideal S2048x512 .f32) (a : Fin 2048) (b : Fin 512) :
    k0_pay3 x d v (ix2 a b) = v (ix2 a b) + ∑ k : Fin 1024, x (ix2 k a) * d (ix2 k b) := by pointwise [k0_pay3, k0_pay2]
theorem pay4_at (x : Vec Ideal S1024x2048 .bf16) (d : Vec Ideal S1024x512 .f32) (v : Vec Ideal S2048x512 .f32) (a : Fin 2048) (b : Fin 512) :
    k0_pay4 x d v (ix2 a b) = v (ix2 a b) + ∑ k : Fin 1024, x (ix2 k a) * d (ix2 k b) := by pointwise [k0_pay4, k0_pay2]
theorem pay1_eq : k0_pay1 (F := Ideal) = fun _ => (0 : EReal) := by
  funext y
  obtain ⟨a, b, rfl⟩ : ∃ a b, y = ix2 a b := ⟨y 0, y 1, (ix2_eta y).symm⟩
  pointwise [k0_pay1]
theorem pay5_eq (v : Vec Ideal S2048x1024 .f32) : k0_pay5 v = v := by
  funext y
  obtain ⟨a, b, rfl⟩ : ∃ a b, y = ix2 a b := ⟨y 0, y 1, (ix2_eta y).symm⟩
  pointwise [k0_pay5]

/-- What a point adds to the accumulator: the product of its blocks, over the block's rows. -/
def part (x0 : Vec Ideal S1024x2048 .bf16) (x1 : Vec Ideal S1024x1024 .f32) (y : S2048x1024.Idx) : EReal :=
  ∑ k : Fin 1024, x0 (ix2 k (y 0)) * x1 (ix2 k (y 1))

variable (x0 : Vec Ideal S1024x2048 .bf16) (x1 : Vec Ideal S1024x1024 .f32) (xs : Vec Ideal S2048x1024 .f32)

/-- The two stores of a point, over anything stored before: the accumulator and the point's part. -/
theorem step (T : List (View.Piece (Elt Ideal) S2048x1024 .f32)) :
    View.canon ([⟨Rect.unit ![0, 512] ![2048, 512] inb_S2048x1024_S2048x512_0_512,
          k0_pay4 x0 (View.ld x1 (Rect.unit ![0, 512] ![1024, 512] inb_S1024x1024_S1024x512_0_512))
            (View.ld xs (Rect.unit ![0, 512] ![2048, 512] inb_S2048x1024_S2048x512_0_512))⟩,
        ⟨Rect.unit ![0, 0] ![2048, 512] inb_S2048x1024_S2048x512_0_0,
          k0_pay3 x0 (View.ld x1 (Rect.unit ![0, 0] ![1024, 512] inb_S1024x1024_S1024x512_0_0))
            (View.ld xs (Rect.unit ![0, 0] ![2048, 512] inb_S2048x1024_S2048x512_0_0))⟩] ++ T)
      = fun y => xs y + part x0 x1 y := by
  funext y
  refine canon_append _ T y _ (View.cover_of_tiled_head _ _ _ rfl y) ?_
  refine View.allAt_cons_unit _ _ _ _ _ (fun x hx => ?_) (View.allAt_cons_unit _ _ _ _ _ (fun x hx => ?_) (View.allAt_nil _ _))
  all_goals
    obtain ⟨a, b, rfl⟩ : ∃ a b, x = ix2 (n0 := 2048) (n1 := 512) a b := ⟨x 0, x 1, (ix2_eta x).symm⟩
    first | rw [pay4_at] | rw [pay3_at]
    refine congrArg₂ (· + ·) (View.ld_unit_apply_of xs _ _ _ _ y hx) (Finset.sum_congr rfl fun k _ => congrArg₂ (· * ·) (congrArg x0 ?_)
      (View.ld_unit_apply_of x1 _ _ _ _ (ix2 k (y 1)) fun i => ?_))
    · refine congrArg (ix2 k) (Fin.ext ?_)
      have := hx 0
      simpa using this.symm
    · have := hx 1
      match i with
      | 0 => simp
      | 1 => simpa using this

section Points

variable (c : Dev nD) (i : grid0.Coords) (arg2 : Memref sig .tc .vmem S1024x2048 .bf16) (harg2 : arg2.IsWhole)
  (arg3 : Memref sig .tc .vmem S1024x1024 .f32) (harg3 : arg3.IsWhole) (arg4 : Memref sig .tc .vmem S2048x1024 .bf16) (harg4 : arg4.IsWhole)
  (arg5 : Memref sig .tc .vmem S2048x1024 .f32) (harg5 : arg5.IsWhole)

theorem scratch_A (h0 h1) : sout0_A_0 (F := Ideal) c i arg2 harg2 arg3 harg3 arg4 harg4 arg5 harg5 h0 h1 x0 x1 = fun y => 0 + part x0 x1 y := by
  frame_out
  rw [readCov_skip _ _ _ _ _ (by decide), readCov_whole _ (by decide), readCov_whole _ (by decide), pay1_eq]
  exact step x0 x1 _ [_]

theorem scratch_B (h0 h1) : sout0_B_0 (F := Ideal) c i arg2 harg2 arg3 harg3 arg4 harg4 arg5 harg5 h0 h1 x0 x1 xs = fun y => xs y + part x0 x1 y := by
  frame_out
  exact step x0 x1 xs []

theorem scratch_C (h0 h1) : sout0_C_0 (F := Ideal) c i arg2 harg2 arg3 harg3 arg4 harg4 arg5 harg5 h0 h1 x0 x1 xs = fun y => xs y + part x0 x1 y := by
  frame_out
  exact step x0 x1 xs []

theorem out_C (h0 h1) : out0_C_2 (F := Ideal) c i arg2 harg2 arg3 harg3 arg4 harg4 arg5 harg5 h0 h1 x0 x1 xs = fun y => xs y + part x0 x1 y := by
  frame_out
  rw [pay5_eq, View.readCov_eq_canon_ld _ _ _ (View.cover_of_tiled_head _ _ _ rfl), View.ld_unit_lit _ _ (by decide)]
  exact step x0 x1 xs []

end Points

variable (m : (ℓ : Loc nD τ sig) → Buf (Elt Ideal) ℓ) (c : Dev nD)

/-- What point `n` adds. -/
def at_ (n : Nat) (h : n < cfg0.N) : S2048x1024.Idx → EReal := part (iblk m c 0 ⟨n, h⟩) (iblk m c 1 ⟨n, h⟩)

theorem scratch_first (n : Nat) (h : n < cfg0.N) (h0 : n % 4 = 0) : (outsAt0 m c n h).2 = fun y => 0 + at_ m c n h y := by
  rw [outsAt0_A m c ⟨n, h⟩ h0 (by show ¬ n % 4 = 3; omega)]
  dsimp only
  rw [scratch_A]
  rfl

theorem scratch_next (n : Nat) (h : n + 1 < cfg0.N) (h0 : ¬ (n + 1) % 4 = 0) :
    (outsAt0 m c (n + 1) h).2 = fun y => (outsAt0 m c n (Nat.lt_of_succ_lt h)).2 y + at_ m c (n + 1) h y := by
  by_cases h1 : (n + 1) % 4 = 3
  · rw [outsAt0_C m c ⟨n + 1, h⟩ h0 h1]
    dsimp only
    rw [scratch_C]
    rfl
  · rw [outsAt0_B m c ⟨n + 1, h⟩ h0 h1]
    dsimp only
    rw [scratch_B]
    rfl

theorem out_last (n : Nat) (h : n < cfg0.N) (h1 : n % 4 = 3) : (outsAt0 m c n h).1 = (outsAt0 m c n h).2 := by
  rw [outsAt0_C m c ⟨n, h⟩ (by show ¬ n % 4 = 0; omega) h1]
  dsimp only
  rw [out_C, scratch_C]

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The operands' elements. -/
def act (r a : Fin 4096) : EReal := m ((c.tc : Thread nD τ).loc main_arg0) (ix2 r a)
def dy (r : Fin 4096) (b : Fin 1024) : EReal := m ((c.tc : Thread nD τ).loc main_arg1) (ix2 r b)

theorem entry0 (r a : Fin 4096) : V m c main_v0 (ix2 r a) = act m c r a := by
  unfold act
  entry_read
  pointwise

/-- The part of the `t`-th point of block `q` of the result, at the operands. -/
theorem at_eq (q : Nat) (t : Fin 4) (h : 4 * q + t.val < cfg0.N) (a : Fin 2048) (b : Fin 1024) (a' : Fin 4096) (ha : a'.val = 2048 * q + a.val) :
    at_ m c (4 * q + t.val) h (ix2 a b) = ∑ k : Fin 1024, act m c (row t k) a'
      * dy m c (row t k) b := by
  obtain ⟨e0, e1, e2, e3⟩ := idx ⟨4 * q + t.val, h⟩
  have f0 : (4 * q + t.val) % 4 = t.val := by omega
  have f1 : (4 * q + t.val) / 4 = q := by omega
  simp only [f0, f1] at e0 e1 e2 e3
  unfold at_ part
  refine Finset.sum_congr rfl fun k _ => congrArg₂ (fun u v : EReal => u * v) ?_ ?_
  · rw [← entry0]
    blk_ext [iblk, e0, e1, row, ha]
  · unfold dy
    blk_ext [iblk, V, e2, e3, row]

/-- The result at an index: over all the rows, the product of the two operands. -/
theorem value (a : Fin 4096) (b : Fin 1024) :
    (Value.G2 m c (ix2 a b) : EReal) = ∑ r : Fin 4096, act m c r a * dy m c r b := by
  have hN : cfg0.N = 8 := N_0
  have hq : Value.pt2Of (ix2 a b) = 4 * (a.val / 2048) + 3 := by
    show 4 * (1 * (a.val / 2048 - 0) + 1 * (b.val / 1024 - 0)) + 3 = _
    omega
  have hp : 4 * (a.val / 2048) + 3 < cfg0.N := by omega
  unfold Value.G2
  rw [dif_pos (hq ▸ hp), ← Value.outsAt0_sweep m c _ (hq ▸ hp)]
  have e : ∀ n (h : n < cfg0.N), n = 4 * (a.val / 2048) + 3 → outsAt0 m c n h = outsAt0 m c _ hp := by rintro n h rfl; rfl
  rw [e _ _ hq, out_last m c _ _ (by omega),
    run_sum (fun n h => (outsAt0 m c n h).2) (at_ m c) (scratch_first m c) (scratch_next m c), ← sum_rows]
  have hl : Value.loc2Of (ix2 a b) = ix2 ⟨a.val % 2048, by omega⟩ b := by
    funext i
    match i with
    | 0 => rfl
    | 1 => exact Fin.ext (show b.val % 1024 = b.val by omega)
  rw [hl]
  exact Finset.sum_congr (M := EReal) rfl fun t _ => at_eq m c _ t _ _ b a (by show a.val = 2048 * (a.val / 2048) + a.val % 2048; omega)

end Cert.Kernel2Ideal.Grad

namespace Cert.Reference2Ideal.Grad

open Cert.Reference2Ideal Cert.Reference2Ideal.Gen Idealize.ShloMosaic

/-- The reference's result at an index. -/
theorem value (x : FVec Ideal S4096x4096 .f32) (d : FVec Ideal S4096x1024 .f32) (a : Fin 4096) (b : Fin 1024) :
    (truncf .bf16 (transpose S4096x1024 [1, 0] (Host.dotGeneral dot_S4096x1024_S4096x4096_S1024x4096_0_0_1_1_n_n none d x)
      transposes_S1024x4096_S4096x1024_1_0) bitsLt_bf16_f32) (ix2 a b) = ∑ r : Fin 4096, d (ix2 r b) * x (ix2 r a) := by
  pointwise

end Cert.Reference2Ideal.Grad

namespace Cert.Wgrad

open Idealize.ShloMosaic Idealize.ShloMosaic.TcCoe Idealize.SL.Sem

theorem down : Cert.algebraic_Kernel2Ideal_Reference2Ideal := by
  intro m g m' g' _ hag
  refine ⟨_, Cert.Kernel2Ideal.Value.run m g, ?_⟩
  refine (θ_run Cert.Reference2Ideal.defs _ _).mono (fun _ h c => ?_) (Cert.Reference2Ideal.Value.run (F := Ideal) m' g')
  obtain ⟨a0, a1⟩ := hag c
  refine ⟨(h c).1.trans ?_, (h c).2⟩
  funext i
  obtain ⟨a, b, rfl⟩ : ∃ a b, i = ix2 a b := ⟨i 0, i 1, (ix2_eta i).symm⟩
  refine (Cert.Reference2Ideal.Grad.value _ _ a b).trans (Eq.trans ?_ (Cert.Kernel2Ideal.Grad.value m c a b).symm)
  refine Finset.sum_congr rfl fun r _ => ?_
  rw [a0, a1, mul_comm]
  rfl

/-- The reference's run keeps its arguments; it declares no semaphore. -/
theorem down_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.Wgrad

end
-- ==== Proof.WgradUp.lean ====
/- The gradient of the up projection's weights, by column shards: what the body adds to the accumulator at a point, the accumulator
   after the four points of a block of the result, and the result at an index. -/
module

public import proofs.«01_k».proof.Proof.Gen.Kernel3Ideal.Value
public import proofs.«01_k».proof.Proof.Gen.Reference3Ideal.Run
public import proofs.«01_k».proof.Proof.Grad
public import proofs.«01_k».proof.Defs

@[expose] public section

noncomputable section

namespace Cert.Kernel3Ideal.Grad

open Cert.Kernel3Ideal Cert.Kernel3Ideal.Gen Cert.Grad
open Idealize.ShloMosaic Idealize.ShloMosaic.TcCoe Idealize.SL.Sem

theorem pay7_at (x : Vec Ideal S1024x512 .bf16) (d : Vec Ideal S1024x512 .bf16) (v : Vec Ideal S1x512x512 .f32) (a b : Fin 512) :
    k0_pay7 x d v (ix3 0 a b) = v (ix3 0 a b) + ∑ k : Fin 1024, x (ix2 k a) * d (ix2 k b) := by pointwise [k0_pay7, k0_pay6]
theorem pay8_at (x : Vec Ideal S1024x512 .bf16) (d : Vec Ideal S1024x512 .bf16) (v : Vec Ideal S1x512x512 .f32) (a b : Fin 512) :
    k0_pay8 x d v (ix3 0 a b) = v (ix3 0 a b) + ∑ k : Fin 1024, x (ix2 k a) * d (ix2 k b) := by pointwise [k0_pay8, k0_pay6]
theorem pay10_at (x : Vec Ideal S1024x512 .bf16) (d : Vec Ideal S1024x512 .bf16) (v : Vec Ideal S1x512x512 .f32) (a b : Fin 512) :
    k0_pay10 (k0_pay9 x d) v (ix3 0 a b) = v (ix3 0 a b) + ∑ k : Fin 1024, x (ix2 k a) * d (ix2 k b) := by pointwise [k0_pay10, k0_pay9, k0_pay6]
theorem pay11_at (x : Vec Ideal S1024x512 .bf16) (d : Vec Ideal S1024x512 .bf16) (v : Vec Ideal S1x512x512 .f32) (a b : Fin 512) :
    k0_pay11 (k0_pay6 x) d v (ix3 0 a b) = v (ix3 0 a b) + ∑ k : Fin 1024, x (ix2 k a) * d (ix2 k b) := by pointwise [k0_pay11, k0_pay6]
theorem pay12_at (x : Vec Ideal S1024x512 .bf16) (d : Vec Ideal S1024x512 .bf16) (v : Vec Ideal S1x512x512 .f32) (a b : Fin 512) :
    k0_pay12 (k0_pay6 x) d v (ix3 0 a b) = v (ix3 0 a b) + ∑ k : Fin 1024, x (ix2 k a) * d (ix2 k b) := by pointwise [k0_pay12, k0_pay6]
theorem pay13_at (x : Vec Ideal S1024x512 .bf16) (d : Vec Ideal S1024x512 .bf16) (v : Vec Ideal S1x512x512 .f32) (a b : Fin 512) :
    k0_pay1 (k0_pay13 (k0_pay6 x) d v) (ix3 0 a b) = v (ix3 0 a b) + ∑ k : Fin 1024, x (ix2 k a) * d (ix2 k b) := by pointwise [k0_pay1, k0_pay13, k0_pay6]
theorem pay2_at (x : Vec Ideal S1024x512 .bf16) (d : Vec Ideal S1024x512 .bf16) (v : Vec Ideal S1x512x512 .f32) (a b : Fin 512) :
    k0_pay2 (k0_pay6 x) d v (ix3 0 a b) = v (ix3 0 a b) + ∑ k : Fin 1024, x (ix2 k a) * d (ix2 k b) := by pointwise [k0_pay2, k0_pay6]
theorem pay3_at (x : Vec Ideal S1024x512 .bf16) (d : Vec Ideal S1024x512 .bf16) (v : Vec Ideal S1x512x512 .f32) (a b : Fin 512) :
    k0_pay3 (k0_pay6 x) d v (ix3 0 a b) = v (ix3 0 a b) + ∑ k : Fin 1024, x (ix2 k a) * d (ix2 k b) := by pointwise [k0_pay3, k0_pay6]
theorem pay5_eq : k0_pay5 (F := Ideal) = fun _ => (0 : EReal) := by
  funext y
  obtain ⟨s, a, b, rfl⟩ : ∃ s a b, y = ix3 s a b := ⟨y 0, y 1, y 2, (ix3_eta y).symm⟩
  pointwise [k0_pay5]
theorem pay4_eq (v : Vec Ideal S4x512x1024 .f32) : k0_pay4 v = v := by
  funext y
  obtain ⟨s, a, b, rfl⟩ : ∃ s a b, y = ix3 s a b := ⟨y 0, y 1, y 2, (ix3_eta y).symm⟩
  pointwise [k0_pay4]

/-- Column `b` of shard `s`. -/
def shard (s : Fin 4) (b : Fin 1024) : Fin 4096 := ⟨1024 * s.val + b.val, by omega⟩

/-- What a point adds to the accumulator: the product of its blocks, over the block's rows. -/
def part (x0 : Vec Ideal S1024x512 .bf16) (x1 : Vec Ideal S1024x4096 .bf16) (y : S4x512x1024.Idx) : EReal :=
  ∑ k : Fin 1024, x0 (ix2 k (y 1)) * x1 (ix2 k (shard (y 0) (y 2)))

variable (x0 : Vec Ideal S1024x512 .bf16) (x1 : Vec Ideal S1024x4096 .bf16) (xs : Vec Ideal S4x512x1024 .f32)

/-- The eight stores of a point, over anything stored before: the accumulator and the point's part. -/
theorem step (T : List (View.Piece (Elt Ideal) S4x512x1024 .f32)) :
    View.canon ([
      ⟨Rect.unit ![3, 0, 512] ![1, 512, 512] inb_S4x512x1024_S1x512x512_3_0_512, k0_pay3 (k0_pay6 x0) (View.ld x1 (Rect.unit ![0, 3584] ![1024, 512] inb_S1024x4096_S1024x512_0_3584)) (View.ld xs (Rect.unit ![3, 0, 512] ![1, 512, 512] inb_S4x512x1024_S1x512x512_3_0_512))⟩,
      ⟨Rect.unit ![3, 0, 0] ![1, 512, 512] inb_S4x512x1024_S1x512x512_3_0_0, k0_pay2 (k0_pay6 x0) (View.ld x1 (Rect.unit ![0, 3072] ![1024, 512] inb_S1024x4096_S1024x512_0_3072)) (View.ld xs (Rect.unit ![3, 0, 0] ![1, 512, 512] inb_S4x512x1024_S1x512x512_3_0_0))⟩,
      ⟨Rect.unit ![2, 0, 512] ![1, 512, 512] inb_S4x512x1024_S1x512x512_2_0_512, k0_pay1 (k0_pay13 (k0_pay6 x0) (View.ld x1 (Rect.unit ![0, 2560] ![1024, 512] inb_S1024x4096_S1024x512_0_2560)) (View.ld xs (Rect.unit ![2, 0, 512] ![1, 512, 512] inb_S4x512x1024_S1x512x512_2_0_512)))⟩,
      ⟨Rect.unit ![2, 0, 0] ![1, 512, 512] inb_S4x512x1024_S1x512x512_2_0_0, k0_pay12 (k0_pay6 x0) (View.ld x1 (Rect.unit ![0, 2048] ![1024, 512] inb_S1024x4096_S1024x512_0_2048)) (View.ld xs (Rect.unit ![2, 0, 0] ![1, 512, 512] inb_S4x512x1024_S1x512x512_2_0_0))⟩,
      ⟨Rect.unit ![1, 0, 512] ![1, 512, 512] inb_S4x512x1024_S1x512x512_1_0_512, k0_pay11 (k0_pay6 x0) (View.ld x1 (Rect.unit ![0, 1536] ![1024, 512] inb_S1024x4096_S1024x512_0_1536)) (View.ld xs (Rect.unit ![1, 0, 512] ![1, 512, 512] inb_S4x512x1024_S1x512x512_1_0_512))⟩,
      ⟨Rect.unit ![1, 0, 0] ![1, 512, 512] inb_S4x512x1024_S1x512x512_1_0_0, k0_pay10 (k0_pay9 x0 (View.ld x1 (Rect.unit ![0, 1024] ![1024, 512] inb_S1024x4096_S1024x512_0_1024))) (View.ld xs (Rect.unit ![1, 0, 0] ![1, 512, 512] inb_S4x512x1024_S1x512x512_1_0_0))⟩,
      ⟨Rect.unit ![0, 0, 512] ![1, 512, 512] inb_S4x512x1024_S1x512x512_0_0_512, k0_pay8 x0 (View.ld x1 (Rect.unit ![0, 512] ![1024, 512] inb_S1024x4096_S1024x512_0_512)) (View.ld xs (Rect.unit ![0, 0, 512] ![1, 512, 512] inb_S4x512x1024_S1x512x512_0_0_512))⟩,
      ⟨Rect.unit ![0, 0, 0] ![1, 512, 512] inb_S4x512x1024_S1x512x512_0_0_0, k0_pay7 x0 (View.ld x1 (Rect.unit ![0, 0] ![1024, 512] inb_S1024x4096_S1024x512_0_0)) (View.ld xs (Rect.unit ![0, 0, 0] ![1, 512, 512] inb_S4x512x1024_S1x512x512_0_0_0))⟩] ++ T)
      = fun y => xs y + part x0 x1 y := by
  funext y
  refine canon_append _ T y _ (View.cover_of_tiled_head _ _ _ rfl y) ?_
  repeat' first | exact View.allAt_nil _ _ | refine View.allAt_cons_unit _ _ _ _ _ (fun x hx => ?_) ?_
  all_goals
    obtain ⟨u, a, b, rfl⟩ : ∃ u a b, x = ix3 (n0 := 1) (n1 := 512) (n2 := 512) u a b := ⟨x 0, x 1, x 2, (ix3_eta x).symm⟩
    obtain rfl : u = 0 := Subsingleton.elim _ _
    first | rw [pay2_at] | rw [pay3_at] | rw [pay7_at] | rw [pay8_at] | rw [pay10_at] | rw [pay11_at] | rw [pay12_at] | rw [pay13_at]
    have h0 := hx 0
    have h1 := hx 1
    have h2 := hx 2
    simp at h0 h1 h2
    refine congrArg₂ (· + ·) (View.ld_unit_apply_of xs _ _ _ _ y hx) (Finset.sum_congr rfl fun k _ => congrArg₂ (· * ·)
      (congrArg x0 (congrArg (ix2 k) (Fin.ext h1.symm)))
      (View.ld_unit_apply_of x1 _ _ _ _ (ix2 k (shard (y 0) (y 2))) fun i => ?_))
    match i with
    | 0 => simp
    | 1 => simp [shard, h0, h2] <;> omega

section Points

variable (c : Dev nD) (i : grid0.Coords) (arg2 : Memref sig .tc .vmem S1024x512 .bf16) (harg2 : arg2.IsWhole)
  (arg3 : Memref sig .tc .vmem S1024x4096 .bf16) (harg3 : arg3.IsWhole) (arg4 : Memref sig .tc .vmem S4x512x1024 .bf16) (harg4 : arg4.IsWhole)
  (arg5 : Memref sig .tc .vmem S4x512x1024 .f32) (harg5 : arg5.IsWhole)

theorem scratch_A (h0 h1) : sout0_A_0 (F := Ideal) c i arg2 harg2 arg3 harg3 arg4 harg4 arg5 harg5 h0 h1 x0 x1 = fun y => 0 + part x0 x1 y := by
  frame_out
  simp (discharger := decide) only [readCov_skip, pay5_eq]
  repeat rw [readCov_whole _ (by decide)]
  exact step x0 x1 _ [_]

theorem scratch_B (h0 h1) : sout0_B_0 (F := Ideal) c i arg2 harg2 arg3 harg3 arg4 harg4 arg5 harg5 h0 h1 x0 x1 xs = fun y => xs y + part x0 x1 y := by
  frame_out
  exact step x0 x1 xs []

theorem scratch_C (h0 h1) : sout0_C_0 (F := Ideal) c i arg2 harg2 arg3 harg3 arg4 harg4 arg5 harg5 h0 h1 x0 x1 xs = fun y => xs y + part x0 x1 y := by
  frame_out
  exact step x0 x1 xs []

theorem out_C (h0 h1) : out0_C_2 (F := Ideal) c i arg2 harg2 arg3 harg3 arg4 harg4 arg5 harg5 h0 h1 x0 x1 xs = fun y => xs y + part x0 x1 y := by
  frame_out
  rw [pay4_eq, View.readCov_eq_canon_ld _ _ _ (View.cover_of_tiled_head _ _ _ rfl), View.ld_unit_lit _ _ (by decide)]
  exact step x0 x1 xs []

end Points

variable (m : (ℓ : Loc nD τ sig) → Buf (Elt Ideal) ℓ) (c : Dev nD)

/-- What point `n` adds. -/
def at_ (n : Nat) (h : n < cfg0.N) : S4x512x1024.Idx → EReal := part (iblk m c 0 ⟨n, h⟩) (iblk m c 1 ⟨n, h⟩)

theorem scratch_first (n : Nat) (h : n < cfg0.N) (h0 : n % 4 = 0) : (outsAt0 m c n h).2 = fun y => 0 + at_ m c n h y := by
  rw [outsAt0_A m c ⟨n, h⟩ h0 (by show ¬ n % 4 = 3; omega)]
  dsimp only
  rw [scratch_A]
  rfl

theorem scratch_next (n : Nat) (h : n + 1 < cfg0.N) (h0 : ¬ (n + 1) % 4 = 0) :
    (outsAt0 m c (n + 1) h).2 = fun y => (outsAt0 m c n (Nat.lt_of_succ_lt h)).2 y + at_ m c (n + 1) h y := by
  by_cases h1 : (n + 1) % 4 = 3
  · rw [outsAt0_C m c ⟨n + 1, h⟩ h0 h1]
    dsimp only
    rw [scratch_C]
    rfl
  · rw [outsAt0_B m c ⟨n + 1, h⟩ h0 h1]
    dsimp only
    rw [scratch_B]
    rfl

theorem out_last (n : Nat) (h : n < cfg0.N) (h1 : n % 4 = 3) : (outsAt0 m c n h).1 = (outsAt0 m c n h).2 := by
  rw [outsAt0_C m c ⟨n, h⟩ (by show ¬ n % 4 = 0; omega) h1]
  dsimp only
  rw [out_C, scratch_C]

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The operands' elements. -/
def hn (r : Fin 4096) (a : Fin 1024) : EReal := m ((c.tc : Thread nD τ).loc main_arg0) (ix2 r a)
def dup (r j : Fin 4096) : EReal := m ((c.tc : Thread nD τ).loc main_arg1) (ix2 r j)

theorem entry0 (r : Fin 4096) (a : Fin 1024) : V m c main_v0 (ix2 r a) = hn m c r a := by
  unfold hn
  entry_read
  pointwise
theorem entry1 (r j : Fin 4096) : V m c main_v1 (ix2 r j) = dup m c r j := by
  unfold dup
  entry_read
  pointwise

/-- The part of the `t`-th point of block `q` of the result, at the operands. -/
theorem at_eq (q : Nat) (t : Fin 4) (h : 4 * q + t.val < cfg0.N) (s : Fin 4) (a : Fin 512) (b : Fin 1024) (a' : Fin 1024) (ha : a'.val = 512 * q + a.val) :
    at_ m c (4 * q + t.val) h (ix3 s a b) = ∑ k : Fin 1024, hn m c (row t k) a' * dup m c (row t k) (shard s b) := by
  obtain ⟨e0, e1, e2, e3⟩ := idx ⟨4 * q + t.val, h⟩
  have f0 : (4 * q + t.val) % 4 = t.val := by omega
  have f1 : (4 * q + t.val) / 4 = q := by omega
  simp only [f0, f1] at e0 e1 e2 e3
  unfold at_ part
  refine Finset.sum_congr rfl fun k _ => congrArg₂ (fun u v : EReal => u * v) ?_ ?_
  · rw [← entry0]
    blk_ext [iblk, e0, e1, row, ha]
  · rw [← entry1]
    blk_ext [iblk, e2, e3, row, shard]

/-- The result at an index: over all the rows, the product of the two operands. -/
theorem value (s : Fin 4) (a b : Fin 1024) :
    (Value.G2 m c (ix3 s a b) : EReal) = ∑ r : Fin 4096, hn m c r a * dup m c r (shard s b) := by
  have hN : cfg0.N = 8 := N_0
  have hq : Value.pt2Of (ix3 s a b) = 4 * (a.val / 512) + 3 := by
    show 4 * (2 * (s.val / 4 - 0) + 1 * (a.val / 512 - 0) + 1 * (b.val / 1024 - 0)) + 3 = _
    omega
  have hp : 4 * (a.val / 512) + 3 < cfg0.N := by omega
  unfold Value.G2
  rw [dif_pos (hq ▸ hp), ← Value.outsAt0_sweep m c _ (hq ▸ hp)]
  have e : ∀ n (h : n < cfg0.N), n = 4 * (a.val / 512) + 3 → outsAt0 m c n h = outsAt0 m c _ hp := by rintro n h rfl; rfl
  rw [e _ _ hq, out_last m c _ _ (by omega),
    run_sum (fun n h => (outsAt0 m c n h).2) (at_ m c) (scratch_first m c) (scratch_next m c), ← sum_rows]
  have hl : Value.loc2Of (ix3 s a b) = ix3 s ⟨a.val % 512, by omega⟩ b := by
    funext i
    match i with
    | 0 => exact Fin.ext (show s.val % 4 = s.val by omega)
    | 1 => rfl
    | 2 => exact Fin.ext (show b.val % 1024 = b.val by omega)
  rw [hl]
  exact Finset.sum_congr (M := EReal) rfl fun t _ => at_eq m c _ t _ s _ b a (by show a.val = 512 * (a.val / 512) + a.val % 512; omega)

end Cert.Kernel3Ideal.Grad

namespace Cert.Reference3Ideal.Grad

open Cert.Reference3Ideal Cert.Reference3Ideal.Gen Idealize.ShloMosaic

/-- The reference's result at an index. -/
theorem value (x : FVec Ideal S4096x1024 .f32) (d : FVec Ideal S4096x4096 .f32) (s : Fin 4) (a b : Fin 1024) :
    (truncf .bf16 (transpose S4x1024x1024 [1, 0, 2] (shapeCast S1024x4x1024 (transpose S1024x4096 [1, 0]
        (Host.dotGeneral dot_S4096x4096_S4096x1024_S4096x1024_0_0_1_1_n_n none d x) transposes_S4096x1024_S1024x4096_1_0)
        shapeCasts_S1024x4096_S1024x4x1024) transposes_S1024x4x1024_S4x1024x1024_1_0_2) bitsLt_bf16_f32) (ix3 s a b)
      = ∑ r : Fin 4096, d (ix2 r (Cert.Kernel3Ideal.Grad.shard s b)) * x (ix2 r a) := by
  pointwise
  refine Finset.sum_congr rfl fun r _ => congrArg (· * _) (congrArg d ?_)
  blk_ext [Cert.Kernel3Ideal.Grad.shard]

end Cert.Reference3Ideal.Grad

namespace Cert.Wgrad

open Idealize.ShloMosaic Idealize.ShloMosaic.TcCoe Idealize.SL.Sem

theorem up : Cert.algebraic_Kernel3Ideal_Reference3Ideal := by
  intro m g m' g' _ hag
  refine ⟨_, Cert.Kernel3Ideal.Value.run m g, ?_⟩
  refine (θ_run Cert.Reference3Ideal.defs _ _).mono (fun _ h c => ?_) (Cert.Reference3Ideal.Value.run (F := Ideal) m' g')
  obtain ⟨a0, a1⟩ := hag c
  refine ⟨(h c).1.trans ?_, (h c).2⟩
  funext i
  obtain ⟨s, a, b, rfl⟩ : ∃ s a b, i = ix3 s a b := ⟨i 0, i 1, i 2, (ix3_eta i).symm⟩
  refine (Cert.Reference3Ideal.Grad.value _ _ s a b).trans (Eq.trans ?_ (Cert.Kernel3Ideal.Grad.value m c s a b).symm)
  refine Finset.sum_congr rfl fun r _ => ?_
  rw [a0, a1, mul_comm]
  rfl

/-- The reference's run keeps its arguments; it declares no semaphore. -/
theorem up_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

end Cert.Wgrad

end
-- ==== Proof.WgradOut.lean ====
/- The gradient of the attention's output projection's weights: what the body adds to the accumulator at a point, the accumulator
   after the four points of a block of the result, and the result at an index. -/
module

public import proofs.«01_k».proof.Proof.Gen.Kernel4Ideal.Value
public import proofs.«01_k».proof.Proof.Gen.Reference4Ideal.Run
public import proofs.«01_k».proof.Proof.Grad
public import proofs.«01_k».proof.Defs

@[expose] public section

noncomputable section

namespace Cert.Kernel4Ideal.Grad

open Cert.Kernel4Ideal Cert.Kernel4Ideal.Gen Cert.Grad
open Idealize.ShloMosaic Idealize.ShloMosaic.TcCoe Idealize.SL.Sem

theorem pay3_at (x : Vec Ideal S1024x1024 .bf16) (d : Vec Ideal S1024x512 .f32) (v : Vec Ideal S1024x512 .f32) (a : Fin 1024) (b : Fin 512) :
    k0_pay3 x d v (ix2 a b) = v (ix2 a b) + ∑ k : Fin 1024, x (ix2 k a) * d (ix2 k b) := by pointwise [k0_pay3, k0_pay2]
theorem pay4_at (x : Vec Ideal S1024x1024 .bf16) (d : Vec Ideal S1024x512 .f32) (v : Vec Ideal S1024x512 .f32) (a : Fin 1024) (b : Fin 512) :
    k0_pay4 x d v (ix2 a b) = v (ix2 a b) + ∑ k : Fin 1024, x (ix2 k a) * d (ix2 k b) := by pointwise [k0_pay4, k0_pay2]
theorem pay1_eq : k0_pay1 (F := Ideal) = fun _ => (0 : EReal) := by
  funext y
  obtain ⟨a, b, rfl⟩ : ∃ a b, y = ix2 a b := ⟨y 0, y 1, (ix2_eta y).symm⟩
  pointwise [k0_pay1]
theorem pay5_eq (v : Vec Ideal S1024x1024 .f32) : k0_pay5 v = v := by
  funext y
  obtain ⟨a, b, rfl⟩ : ∃ a b, y = ix2 a b := ⟨y 0, y 1, (ix2_eta y).symm⟩
  pointwise [k0_pay5]

/-- What a point adds to the accumulator: the product of its blocks, over the block's rows. -/
def part (x0 : Vec Ideal S1024x1024 .bf16) (x1 : Vec Ideal S1024x1024 .f32) (y : S1024x1024.Idx) : EReal :=
  ∑ k : Fin 1024, x0 (ix2 k (y 0)) * x1 (ix2 k (y 1))

variable (x0 : Vec Ideal S1024x1024 .bf16) (x1 : Vec Ideal S1024x1024 .f32) (xs : Vec Ideal S1024x1024 .f32)

/-- The two stores of a point, over anything stored before: the accumulator and the point's part. -/
theorem step (T : List (View.Piece (Elt Ideal) S1024x1024 .f32)) :
    View.canon ([⟨Rect.unit ![0, 512] ![1024, 512] inb_S1024x1024_S1024x512_0_512,
          k0_pay4 x0 (View.ld x1 (Rect.unit ![0, 512] ![1024, 512] inb_S1024x1024_S1024x512_0_512))
            (View.ld xs (Rect.unit ![0, 512] ![1024, 512] inb_S1024x1024_S1024x512_0_512))⟩,
        ⟨Rect.unit ![0, 0] ![1024, 512] inb_S1024x1024_S1024x512_0_0,
          k0_pay3 x0 (View.ld x1 (Rect.unit ![0, 0] ![1024, 512] inb_S1024x1024_S1024x512_0_0))
            (View.ld xs (Rect.unit ![0, 0] ![1024, 512] inb_S1024x1024_S1024x512_0_0))⟩] ++ T)
      = fun y => xs y + part x0 x1 y := by
  funext y
  refine canon_append _ T y _ (View.cover_of_tiled_head _ _ _ rfl y) ?_
  refine View.allAt_cons_unit _ _ _ _ _ (fun x hx => ?_) (View.allAt_cons_unit _ _ _ _ _ (fun x hx => ?_) (View.allAt_nil _ _))
  all_goals
    obtain ⟨a, b, rfl⟩ : ∃ a b, x = ix2 (n0 := 1024) (n1 := 512) a b := ⟨x 0, x 1, (ix2_eta x).symm⟩
    first | rw [pay4_at] | rw [pay3_at]
    refine congrArg₂ (· + ·) (View.ld_unit_apply_of xs _ _ _ _ y hx) (Finset.sum_congr rfl fun k _ => congrArg₂ (· * ·) (congrArg x0 ?_)
      (View.ld_unit_apply_of x1 _ _ _ _ (ix2 k (y 1)) fun i => ?_))
    · refine congrArg (ix2 k) (Fin.ext ?_)
      have := hx 0
      simpa using this.symm
    · have := hx 1
      match i with
      | 0 => simp
      | 1 => simpa using this

section Points

variable (c : Dev nD) (i : grid0.Coords) (arg2 : Memref sig .tc .vmem S1024x1024 .bf16) (harg2 : arg2.IsWhole)
  (arg3 : Memref sig .tc .vmem S1024x1024 .f32) (harg3 : arg3.IsWhole) (arg4 : Memref sig .tc .vmem S1024x1024 .bf16) (harg4 : arg4.IsWhole)
  (arg5 : Memref sig .tc .vmem S1024x1024 .f32) (harg5 : arg5.IsWhole)

theorem scratch_A (h0 h1) : sout0_A_0 (F := Ideal) c i arg2 harg2 arg3 harg3 arg4 harg4 arg5 harg5 h0 h1 x0 x1 = fun y => 0 + part x0 x1 y := by
  frame_out
  rw [readCov_skip _ _ _ _ _ (by decide), readCov_whole _ (by decide), readCov_whole _ (by decide), pay1_eq]
  exact step x0 x1 _ [_]

theorem scratch_B (h0 h1) : sout0_B_0 (F := Ideal) c i arg2 harg2 arg3 harg3 arg4 harg4 arg5 harg5 h0 h1 x0 x1 xs = fun y => xs y + part x0 x1 y := by
  frame_out
  exact step x0 x1 xs []

theorem scratch_C (h0 h1) : sout0_C_0 (F := Ideal) c i arg2 harg2 arg3 harg3 arg4 harg4 arg5 harg5 h0 h1 x0 x1 xs = fun y => xs y + part x0 x1 y := by
  frame_out
  exact step x0 x1 xs []

theorem out_C (h0 h1) : out0_C_2 (F := Ideal) c i arg2 harg2 arg3 harg3 arg4 harg4 arg5 harg5 h0 h1 x0 x1 xs = fun y => xs y + part x0 x1 y := by
  frame_out
  rw [pay5_eq, View.readCov_eq_canon_ld _ _ _ (View.cover_of_tiled_head _ _ _ rfl), View.ld_unit_lit _ _ (by decide)]
  exact step x0 x1 xs []

end Points

variable (m : (ℓ : Loc nD τ sig) → Buf (Elt Ideal) ℓ) (c : Dev nD)

/-- What point `n` adds. -/
def at_ (n : Nat) (h : n < cfg0.N) : S1024x1024.Idx → EReal := part (iblk m c 0 ⟨n, h⟩) (iblk m c 1 ⟨n, h⟩)

theorem scratch_first (n : Nat) (h : n < cfg0.N) (h0 : n % 4 = 0) : (outsAt0 m c n h).2 = fun y => 0 + at_ m c n h y := by
  rw [outsAt0_A m c ⟨n, h⟩ h0 (by show ¬ n % 4 = 3; omega)]
  dsimp only
  rw [scratch_A]
  rfl

theorem scratch_next (n : Nat) (h : n + 1 < cfg0.N) (h0 : ¬ (n + 1) % 4 = 0) :
    (outsAt0 m c (n + 1) h).2 = fun y => (outsAt0 m c n (Nat.lt_of_succ_lt h)).2 y + at_ m c (n + 1) h y := by
  by_cases h1 : (n + 1) % 4 = 3
  · rw [outsAt0_C m c ⟨n + 1, h⟩ h0 h1]
    dsimp only
    rw [scratch_C]
    rfl
  · rw [outsAt0_B m c ⟨n + 1, h⟩ h0 h1]
    dsimp only
    rw [scratch_B]
    rfl

theorem out_last (n : Nat) (h : n < cfg0.N) (h1 : n % 4 = 3) : (outsAt0 m c n h).1 = (outsAt0 m c n h).2 := by
  rw [outsAt0_C m c ⟨n, h⟩ (by show ¬ n % 4 = 0; omega) h1]
  dsimp only
  rw [out_C, scratch_C]

theorem idx : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The operands' elements. -/
def mix (r : Fin 4096) (a : Fin 1024) : EReal := m ((c.tc : Thread nD τ).loc main_arg0) (ix2 r a)
def dh (r : Fin 4096) (b : Fin 1024) : EReal := m ((c.tc : Thread nD τ).loc main_arg1) (ix2 r b)

theorem entry0 (r : Fin 4096) (a : Fin 1024) : V m c main_v0 (ix2 r a) = mix m c r a := by
  unfold mix
  entry_read
  pointwise

/-- The part of the `t`-th point of block `q` of the result, at the operands. -/
theorem at_eq (q : Nat) (t : Fin 4) (h : 4 * q + t.val < cfg0.N) (a : Fin 1024) (b : Fin 1024) (a' : Fin 1024) (ha : a'.val = 1024 * q + a.val) :
    at_ m c (4 * q + t.val) h (ix2 a b) = ∑ k : Fin 1024, mix m c (row t k) a'
      * dh m c (row t k) b := by
  obtain ⟨e0, e1, e2, e3⟩ := idx ⟨4 * q + t.val, h⟩
  have f0 : (4 * q + t.val) % 4 = t.val := by omega
  have f1 : (4 * q + t.val) / 4 = q := by omega
  simp only [f0, f1] at e0 e1 e2 e3
  unfold at_ part
  refine Finset.sum_congr rfl fun k _ => congrArg₂ (fun u v : EReal => u * v) ?_ ?_
  · rw [← entry0]
    blk_ext [iblk, e0, e1, row, ha]
  · unfold dh
    blk_ext [iblk, V, e2, e3, row]

/-- The result at an index: over all the rows, the product of the two operands. -/
theorem value (a b : Fin 1024) :
    (Value.G2 m c (ix2 a b) : EReal) = ∑ r : Fin 4096, mix m c r a * dh m c r b := by
  have hN : cfg0.N = 4 := N_0
  have hq : Value.pt2Of (ix2 a b) = 4 * (a.val / 1024) + 3 := by
    show 4 * (1 * (a.val / 1024 - 0) + 1 * (b.val / 1024 - 0)) + 3 = _
    omega
  have hp : 4 * (a.val / 1024) + 3 < cfg0.N := by omega
  unfold Value.G2
  rw [dif_pos (hq ▸ hp), ← Value.outsAt0_sweep m c _ (hq ▸ hp)]
  have e : ∀ n (h : n < cfg0.N), n = 4 * (a.val / 1024) + 3 → outsAt0 m c n h = outsAt0 m c _ hp := by rintro n h rfl; rfl
  rw [e _ _ hq, out_last m c _ _ (by omega),
    run_sum (fun n h => (outsAt0 m c n h).2) (at_ m c) (scratch_first m c) (scratch_next m c), ← sum_rows]
  have hl : Value.loc2Of (ix2 a b) = ix2 ⟨a.val % 1024, by omega⟩ b := by
    funext i
    match i with
    | 0 => rfl
    | 1 => exact Fin.ext (show b.val % 1024 = b.val by omega)
  rw [hl]
  exact Finset.sum_congr (M := EReal) rfl fun t _ => at_eq m c _ t _ _ b a (by show a.val = 1024 * (a.val / 1024) + a.val % 1024; omega)

end Cert.Kernel4Ideal.Grad

namespace Cert.Reference4Ideal.Grad

open Cert.Reference4Ideal Cert.Reference4Ideal.Gen Idealize.ShloMosaic

/-- The reference's result at an index. -/
theorem value (x : FVec Ideal S4096x1024 .f32) (d : FVec Ideal S4096x1024 .f32) (a b : Fin 1024) :
    (truncf .bf16 (transpose S1024x1024 [1, 0] (Host.dotGeneral dot_S4096x1024_S4096x1024_S1024x1024_0_0_1_1_n_n none d x)
      transposes_S1024x1024_S1024x1024_1_0) bitsLt_bf16_f32) (ix2 a b) = ∑ r : Fin 4096, d (ix2 r b) * x (ix2 r a) := by
  pointwise

end Cert.Reference4Ideal.Grad

namespace Cert.Wgrad

open Idealize.ShloMosaic Idealize.ShloMosaic.TcCoe Idealize.SL.Sem

theorem out : Cert.algebraic_Kernel4Ideal_Reference4Ideal := by
  intro m g m' g' _ hag
  refine ⟨_, Cert.Kernel4Ideal.Value.run m g, ?_⟩
  refine (θ_run Cert.Reference4Ideal.defs _ _).mono (fun _ h c => ?_) (Cert.Reference4Ideal.Value.run (F := Ideal) m' g')
  obtain ⟨a0, a1⟩ := hag c
  refine ⟨(h c).1.trans ?_, (h c).2⟩
  funext i
  obtain ⟨a, b, rfl⟩ : ∃ a b, i = ix2 a b := ⟨i 0, i 1, (ix2_eta i).symm⟩
  refine (Cert.Reference4Ideal.Grad.value _ _ a b).trans (Eq.trans ?_ (Cert.Kernel4Ideal.Grad.value m c a b).symm)
  refine Finset.sum_congr rfl fun r _ => ?_
  rw [a0, a1, mul_comm]
  rfl

/-- The reference's run keeps its arguments; it declares no semaphore. -/
theorem out_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

end Cert.Wgrad

end
-- ==== Proof.MlpFwdRun.lean ====
/- The MLP's forward call, run: the body at the first, at a middle and at the last block of hidden columns of a block of
   rows, what the buffers hold after every grid point, the whole run, and the frame. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block of hidden columns: the normed rows are made and the accumulator set to zero. -/
abbrev first (i : grid0.Coords) : Prop := k0_cond1 i = 1#1
/-- The last one: the loss's gradient and the sum of squared errors are made. -/
abbrev last (i : grid0.Coords) : Prop := k0_cond2 i = 1#1

section Body

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1x1024x1024 .bf16) (harg4 : arg4.IsWhole)
  (arg5 : Memref sig .tc .vmem S1024x1024 .bf16) (harg5 : arg5.IsWhole)
  (arg6 : Memref sig .tc .vmem S512x1024 .f32) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .f32) (harg9 : arg9.IsWhole)
  (arg10 : Memref sig .tc .vmem S1x8x128 .f32) (harg10 : arg10.IsWhole)
  (arg11 : Memref sig .tc .vmem S512x1024 .f32) (harg11 : arg11.IsWhole)
  (x0 : Vec F S512x1024 .f32) (x1 : Vec F S1x1024 .f32) (x2 : Vec F S1x1024x1024 .bf16) (x3 : Vec F S1024x1024 .bf16)
  (x4 : Vec F S512x1024 .f32)

set_option maxHeartbeats 4000000 in
/-- The body at the first block of hidden columns. -/
theorem runA (h0 : first i) (h1 : ¬last i) (y7 : Vec F S512x1024 .f32) (y8 : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare y7 ∗ owns (c : Thread nD τ) arg10 fullShare y8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (k0_pay1 x0 x1) ∗ owns (c : Thread nD τ) arg8 fullShare (k0_pay3 (k0_pay1 x0 x1) x2) ∗ owns (c : Thread nD τ) arg9 fullShare y7 ∗ owns (c : Thread nD τ) arg10 fullShare y8 ∗ owns (c : Thread nD τ) arg11 fullShare (k0_pay4 (k0_pay1 x0 x1) x2 (k0_pay2 (F := F)) x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%d9, %f9, -, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg9.eq_unread hf7
  obtain rfl := harg10.eq_unread hf8
  sl_exec (disch := first | sl_exact h0 | sl_exact h1)
  sl_step
  iapply Hk
  isplitl [H0]
  · iexists _; isplitr; swap; · with_reducible iexact H0
    ipureintro; exact harg2.read_unread _
  isplitl [H1]
  · iexists _; isplitr; swap; · with_reducible iexact H1
    ipureintro; exact harg3.read_unread _
  isplitl [H2]
  · iexists _; isplitr; swap; · with_reducible iexact H2
    ipureintro; exact harg4.read_unread _
  isplitl [H3]
  · iexists _; isplitr; swap; · with_reducible iexact H3
    ipureintro; exact harg5.read_unread _
  isplitl [H4]
  · iexists _; isplitr; swap; · with_reducible iexact H4
    ipureintro; exact harg6.read_unread _
  isplitl [H5]
  · iexists _; isplitr; swap; · with_reducible iexact H5
    ipureintro; try frame_open
    rw [View.read_writes_full]
    simp (disch := decide) only [View.readCov_cons_unit_lit', View.ld_unit_lit', View.readAt_eq_ld, Memref.IsWhole.read_unread]
  isplitl [H6]
  · iexists _; isplitr; swap; · with_reducible iexact H6
    ipureintro; try frame_open
    rw [View.read_writes_full]
    simp (disch := decide) only [View.readCov_cons_unit_lit', View.ld_unit_lit', View.readAt_eq_ld, Memref.IsWhole.read_unread]
  isplitl [H7]
  · iexists _; isplitr; swap; · with_reducible iexact H7
    ipureintro; exact harg9.read_unread _
  isplitl [H8]
  · iexists _; isplitr; swap; · with_reducible iexact H8
    ipureintro; exact harg10.read_unread _
  iexists _; isplitr; swap; · with_reducible iexact H9
  ipureintro; try frame_open
  rw [View.read_writes_full]
  simp (disch := decide) only [View.readCov_cons_unit_lit', View.ld_unit_lit', View.readAt_eq_ld, Memref.IsWhole.read_unread]

set_option maxHeartbeats 4000000 in
/-- The body at a middle one. -/
theorem runB (h0 : ¬first i) (h1 : ¬last i) (y5 : Vec F S512x1024 .bf16) (y7 : Vec F S512x1024 .f32) (y8 : Vec F S1x8x128 .f32) (xs : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ (∃ d, owns (c : Thread nD τ) arg8 fullShare d) ∗ owns (c : Thread nD τ) arg9 fullShare y7 ∗ owns (c : Thread nD τ) arg10 fullShare y8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare y5 ∗ owns (c : Thread nD τ) arg8 fullShare (k0_pay3 y5 x2) ∗ owns (c : Thread nD τ) arg9 fullShare y7 ∗ owns (c : Thread nD τ) arg10 fullShare y8 ∗ owns (c : Thread nD τ) arg11 fullShare (k0_pay4 y5 x2 xs x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg9.eq_unread hf7
  obtain rfl := harg10.eq_unread hf8
  obtain rfl := harg11.eq_unread hf9
  sl_exec (disch := first | sl_exact h0 | sl_exact h1)
  sl_step
  iapply Hk
  isplitl [H0]
  · iexists _; isplitr; swap; · with_reducible iexact H0
    ipureintro; exact harg2.read_unread _
  isplitl [H1]
  · iexists _; isplitr; swap; · with_reducible iexact H1
    ipureintro; exact harg3.read_unread _
  isplitl [H2]
  · iexists _; isplitr; swap; · with_reducible iexact H2
    ipureintro; exact harg4.read_unread _
  isplitl [H3]
  · iexists _; isplitr; swap; · with_reducible iexact H3
    ipureintro; exact harg5.read_unread _
  isplitl [H4]
  · iexists _; isplitr; swap; · with_reducible iexact H4
    ipureintro; exact harg6.read_unread _
  isplitl [H5]
  · iexists _; isplitr; swap; · with_reducible iexact H5
    ipureintro; exact harg7.read_unread _
  isplitl [H6]
  · iexists _; isplitr; swap; · with_reducible iexact H6
    ipureintro; try frame_open
    rw [View.read_writes_full]
    simp (disch := decide) only [View.readCov_cons_unit_lit', View.ld_unit_lit', View.readAt_eq_ld, Memref.IsWhole.read_unread]
  isplitl [H7]
  · iexists _; isplitr; swap; · with_reducible iexact H7
    ipureintro; exact harg9.read_unread _
  isplitl [H8]
  · iexists _; isplitr; swap; · with_reducible iexact H8
    ipureintro; exact harg10.read_unread _
  iexists _; isplitr; swap; · with_reducible iexact H9
  ipureintro; try frame_open
  rw [View.read_writes_full]
  simp (disch := decide) only [View.readCov_cons_unit_lit', View.ld_unit_lit', View.readAt_eq_ld, Memref.IsWhole.read_unread]

set_option maxHeartbeats 4000000 in
/-- The body at the last one. -/
theorem runC (h0 : ¬first i) (h1 : last i) (y5 : Vec F S512x1024 .bf16) (xs : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare y5 ∗ owns (c : Thread nD τ) arg8 fullShare (k0_pay3 y5 x2) ∗ owns (c : Thread nD τ) arg9 fullShare (k0_pay6 x0 (k0_pay4 y5 x2 xs x3) x4) ∗ owns (c : Thread nD τ) arg10 fullShare (k0_pay7 x0 (k0_pay4 y5 x2 xs x3) x4) ∗ owns (c : Thread nD τ) arg11 fullShare (k0_pay4 y5 x2 xs x3)) -∗ K ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10 arg11 harg11) K := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg11.eq_unread hf9
  sl_exec (disch := first | sl_exact h0 | sl_exact h1)
  sl_step
  iapply Hk
  isplitl [H0]
  · iexists _; isplitr; swap; · with_reducible iexact H0
    ipureintro; exact harg2.read_unread _
  isplitl [H1]
  · iexists _; isplitr; swap; · with_reducible iexact H1
    ipureintro; exact harg3.read_unread _
  isplitl [H2]
  · iexists _; isplitr; swap; · with_reducible iexact H2
    ipureintro; exact harg4.read_unread _
  isplitl [H3]
  · iexists _; isplitr; swap; · with_reducible iexact H3
    ipureintro; exact harg5.read_unread _
  isplitl [H4]
  · iexists _; isplitr; swap; · with_reducible iexact H4
    ipureintro; exact harg6.read_unread _
  isplitl [H5]
  · iexists _; isplitr; swap; · with_reducible iexact H5
    ipureintro; exact harg7.read_unread _
  isplitl [H6]
  · iexists _; isplitr; swap; · with_reducible iexact H6
    ipureintro; try frame_open
    rw [View.read_writes_full]
    simp (disch := decide) only [View.readCov_cons_unit_lit', View.ld_unit_lit', View.readAt_eq_ld, Memref.IsWhole.read_unread]
  isplitl [H7]
  · iexists _; isplitr; swap; · with_reducible iexact H7
    ipureintro; try frame_open
    rw [View.read_writes_full]
    simp (disch := decide) only [View.readCov_cons_unit_lit', View.ld_unit_lit', View.readAt_eq_ld, Memref.IsWhole.read_unread]
  isplitl [H8]
  · iexists _; isplitr; swap; · with_reducible iexact H8
    ipureintro; try frame_open
    rw [View.read_writes_full]
    simp (disch := decide) only [View.readCov_cons_unit_lit', View.ld_unit_lit', View.readAt_eq_ld, Memref.IsWhole.read_unread]
  iexists _; isplitr; swap; · with_reducible iexact H9
  ipureintro; try frame_open
  rw [View.read_writes_full]
  simp (disch := decide) only [View.readCov_cons_unit_lit', View.ld_unit_lit', View.readAt_eq_ld, Memref.IsWhole.read_unread]

end Body

variable (m : (ℓ : Loc nD τ sig) → Buf (Elt F) ℓ) (ρ : Dev nD → PrngReg)

/-! ## The points of the grid: block `t / 4` of rows, block `t % 4` of hidden columns -/

theorem first_iff : ∀ t : Fin cfg0.N, first (grid0.coords t) ↔ t.val % 4 = 0 :=
  (by decide +kernel : ∀ t : Fin grid0.N, first (grid0.coords t) ↔ t.val % 4 = 0)
theorem last_iff : ∀ t : Fin cfg0.N, last (grid0.coords t) ↔ t.val % 4 = 3 :=
  (by decide +kernel : ∀ t : Fin grid0.N, last (grid0.coords t) ↔ t.val % 4 = 3)
theorem lt32 (t : Fin cfg0.N) : t.val < 32 := Nat.lt_of_lt_of_eq t.isLt N_0

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x128 .f32 := win0_8.stage (cfg0.slots t 8)
abbrev hs8 (t : Fin cfg0.N) : (ms8 t).IsWhole := hstage0_8 ((cfg0.slots t 8).cast nbuf0_8)
/-- The scratch that holds the accumulator. -/
abbrev scM : Memref sig .tc .vmem S512x1024 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the buffers hold after each point -/

/-- The first point of a point's block of rows. -/
def firstPt (t : Fin cfg0.N) : Fin cfg0.N := ⟨t.val / 4 * 4, Nat.lt_of_le_of_lt (Nat.div_mul_le_self _ _) t.isLt⟩
/-- The normed rows of a point's block of rows. -/
def hnAt (c : Dev nD) (t : Fin cfg0.N) : Vec F S512x1024 .bf16 := k0_pay1 (iblk m c 0 (firstPt t)) (iblk m c 1 (firstPt t))
/-- The accumulator after a point. -/
def accAt (c : Dev nD) : (n : ℕ) → n < cfg0.N → Vec F S512x1024 .f32
  | 0, hn => k0_pay4 (hnAt m c ⟨0, hn⟩) (iblk m c 2 ⟨0, hn⟩) (k0_pay2 (F := F)) (iblk m c 3 ⟨0, hn⟩)
  | n + 1, hn => k0_pay4 (hnAt m c ⟨n + 1, hn⟩) (iblk m c 2 ⟨n + 1, hn⟩)
      (if (n + 1) % 4 = 0 then k0_pay2 (F := F) else accAt c n (Nat.lt_of_succ_lt hn)) (iblk m c 3 ⟨n + 1, hn⟩)

theorem firstPt_first (t : Fin cfg0.N) (h : t.val % 4 = 0) : firstPt t = t := Fin.ext (by show t.val / 4 * 4 = t.val; omega)
theorem hnAt_first (c : Dev nD) (t : Fin cfg0.N) (h : t.val % 4 = 0) : hnAt m c t = k0_pay1 (iblk m c 0 t) (iblk m c 1 t) := by
  unfold hnAt; rw [firstPt_first t h]
theorem hnAt_later (c : Dev nD) (t u : Fin cfg0.N) (hu : u.val = t.val - 1) (h : ¬t.val % 4 = 0) : hnAt m c t = hnAt m c u := by
  have e : firstPt t = firstPt u := Fin.ext (by show t.val / 4 * 4 = u.val / 4 * 4; omega)
  unfold hnAt; rw [e]
theorem accAt_first (c : Dev nD) (t : Fin cfg0.N) (h : t.val % 4 = 0) :
    accAt m c t.val t.isLt = k0_pay4 (hnAt m c t) (iblk m c 2 t) (k0_pay2 (F := F)) (iblk m c 3 t) := by
  obtain ⟨n, hn⟩ := t
  cases n with
  | zero => exact rfl
  | succ n => exact congrArg (k0_pay4 _ _ · _) (if_pos h)
theorem accAt_later (c : Dev nD) (t : Fin cfg0.N) (h : ¬t.val % 4 = 0) :
    accAt m c t.val t.isLt
      = k0_pay4 (hnAt m c t) (iblk m c 2 t) (accAt m c (t.val - 1) (Nat.lt_of_le_of_lt (Nat.sub_le _ _) t.isLt)) (iblk m c 3 t) := by
  obtain ⟨n, hn⟩ := t
  cases n with
  | zero => exact absurd (Nat.zero_mod _) h
  | succ n => exact congrArg (k0_pay4 _ _ · _) (if_neg h)

/-- Before a point: the scratch holds what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The pipeline's proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hnAt m c t
    | ⟨6, _⟩ => k0_pay3 (hnAt m c t) (iblk m c 2 t)
    | ⟨7, _⟩ => k0_pay6 (iblk m c 0 t) (accAt m c t.val t.isLt) (iblk m c 4 t)
    | ⟨8, _⟩ => k0_pay7 (iblk m c 0 t) (accAt m c t.val t.isLt) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hnAt m c t := by dsimp only [dats]
theorem after6 (c : Dev nD) (t : Fin cfg0.N) : (dats m 0 c).after 6 t = k0_pay3 (hnAt m c t) (iblk m c 2 t) := by dsimp only [dats]
theorem after7 (c : Dev nD) (t : Fin cfg0.N) : (dats m 0 c).after 7 t = k0_pay6 (iblk m c 0 t) (accAt m c t.val t.isLt) (iblk m c 4 t) := by dsimp only [dats]
theorem after8 (c : Dev nD) (t : Fin cfg0.N) : (dats m 0 c).after 8 t = k0_pay7 (iblk m c 0 t) (accAt m c t.val t.isLt) (iblk m c 4 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## Which windows a point leaves alone -/

theorem live5 : ∀ t : Fin cfg0.N, t.val % 4 = 0 → cfg0.idle 5 (grid0.coords t) = false := by decide +kernel
theorem idle5 : ∀ t : Fin cfg0.N, ¬t.val % 4 = 0 → cfg0.idle 5 (grid0.coords t) = true := by decide +kernel
theorem live7 : ∀ t : Fin cfg0.N, t.val % 4 = 3 → cfg0.idle 7 (grid0.coords t) = false := by decide +kernel
theorem idle7 : ∀ t : Fin cfg0.N, ¬t.val % 4 = 3 → cfg0.idle 7 (grid0.coords t) = true := by decide +kernel
theorem live8 : ∀ t : Fin cfg0.N, t.val % 4 = 3 → cfg0.idle 8 (grid0.coords t) = false := by decide +kernel
theorem idle8 : ∀ t : Fin cfg0.N, ¬t.val % 4 = 3 → cfg0.idle 8 (grid0.coords t) = true := by decide +kernel
theorem flush5 (t : Fin cfg0.N) (h : t.val % 4 = 3) : (cfg0.win 5).flush t = true := (flush0_5 t).mpr h
theorem keep5 (t : Fin cfg0.N) (h : ¬t.val % 4 = 3) : (cfg0.win 5).flush t = false := by
  rw [Bool.eq_false_iff]; exact fun e => h ((flush0_5 t).mp e)
theorem keep7 (t : Fin cfg0.N) (h : ¬t.val % 4 = 3) : (cfg0.win 7).flush t = false := by
  rw [Bool.eq_false_iff]; exact fun e => h ((flush0_7 t).mp e)
theorem keep8 (t : Fin cfg0.N) (h : ¬t.val % 4 = 3) : (cfg0.win 8).flush t = false := by
  rw [Bool.eq_false_iff]; exact fun e => h ((flush0_8 t).mp e)

/-- The normed rows' buffer is new at the first point of a block of rows alone. -/
theorem fresh5 (t : Fin cfg0.N) (h : ¬t.val % 4 = 0) : cfg0.fresh 5 t.val = false := by
  rw [Pipeline.Cfg.fresh_tab cfg0 5 (fun n => decide (n % 4 = 0)) rfl (by decide +kernel) t.val (Nat.le_of_lt t.isLt)]
  exact decide_eq_false h

theorem carry5 (c : Dev nD) (t : Fin cfg0.N) (hz : t.val ≠ 0) (hi : cfg0.idle 5 (grid0.coords t) = true) (hf : cfg0.fresh 5 t.val = false) :
    (dats m 0 c).after 5 t = (dats m 0 c).after 5 ⟨t.val - 1, by omega⟩ := by
  rw [after5, after5]
  refine hnAt_later m c t _ rfl fun h => ?_
  rw [live5 t h] at hi
  exact absurd hi Bool.false_ne_true

/-- So at any other point it holds the normed rows. -/
theorem before5 (c : Dev nD) (t : Fin cfg0.N) (h : ¬t.val % 4 = 0) (d) : (dats m 0 c).before 5 t d = hnAt m c t := by
  rw [Dat.before_out_traj _ 5 rfl (fun _ _ => rfl) (carry5 m c) t.val t rfl d,
    if_neg (by rw [fresh5 t h]; exact Bool.false_ne_true), after5]
  exact (hnAt_later m c t _ rfl h).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
theorem leaves5_first (c : Dev nD) (t : Fin cfg0.N) (h : t.val % 4 = 0) :
    (dats m 0 c).leavesExact 5 t = owns (c : Thread nD τ) (ms5 t) fullShare ((dats m 0 c).after 5 t) := by
  unfold Dat.leavesExact; rw [live5 t h]
theorem leaves5_last (c : Dev nD) (t : Fin cfg0.N) (h : t.val % 4 = 3) :
    (dats m 0 c).leavesExact 5 t = owns (c : Thread nD τ) (ms5 t) fullShare ((dats m 0 c).after 5 t) := by
  unfold Dat.leavesExact; rw [flush5 t h, idle5 t (by omega)]
theorem leaves7 (c : Dev nD) (t : Fin cfg0.N) (h : t.val % 4 = 3) :
    (dats m 0 c).leavesExact 7 t = owns (c : Thread nD τ) (ms7 t) fullShare ((dats m 0 c).after 7 t) := by
  unfold Dat.leavesExact; rw [live7 t h]
theorem leaves8 (c : Dev nD) (t : Fin cfg0.N) (h : t.val % 4 = 3) :
    (dats m 0 c).leavesExact 8 t = owns (c : Thread nD τ) (ms8 t) fullShare ((dats m 0 c).after 8 t) := by
  unfold Dat.leavesExact; rw [live8 t h]

set_option maxHeartbeats 6400000 in
/-- The body at any point takes what the buffers held before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    leaves0, leaves1, leaves2, leaves3, leaves4, leaves6, after0, after1, after2, after3, after4, after6]
  rw [show (dats m 0 c).Φ t.succ = PhiS m c (t.val + 1) t.isLt from rfl, PhiS_succ]
  by_cases h0 : t.val % 4 = 0
  · have h1 : ¬t.val % 4 = 3 := by omega
    rw [leaves5_first m c t h0, after5, Dat.leavesExact_idle (dats m 0 c) 7 t (idle7 t h1) (keep7 t h1),
      Dat.leavesExact_idle (dats m 0 c) 8 t (idle8 t h1) (keep8 t h1), accAt_first m c t h0, hnAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) ((first_iff t).mpr h0) (fun h => h1 ((last_iff t).mp h)) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS]; · iexact HS
      iintro ⟨H0, H1, H2, H3, H4, H5, H6, H7, H8, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      iexists d8; iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) ((first_iff t).mpr h0) (fun h => h1 ((last_iff t).mp h)) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS]; · iexists _; iexact HS
      iintro ⟨H0, H1, H2, H3, H4, H5, H6, H7, H8, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      iexists d8; iexact H8
  · have hz : t.val ≠ 0 := fun e => h0 (by omega)
    rw [PhiS_castSucc m c t, PhiS_pos m c _ _ hz]
    by_cases h1 : t.val % 4 = 3
    · rw [leaves5_last m c t h1, leaves7 m c t h1, leaves8 m c t h1, after5, after7, after8, accAt_later m c t h0]
      simp only [before5 m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (fun h => h0 ((first_iff t).mp h)) ((last_iff t).mpr h1) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 5 t (idle5 t h0) (keep5 t h1), Dat.leavesExact_idle (dats m 0 c) 7 t (idle7 t h1) (keep7 t h1),
        Dat.leavesExact_idle (dats m 0 c) 8 t (idle8 t h1) (keep8 t h1), accAt_later m c t h0]
      simp only [before5 m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (iblk m c 0 t) (iblk m c 1 t) (iblk m c 2 t) (iblk m c 3 t) (iblk m c 4 t) (fun h => h0 ((first_iff t).mp h)) (fun h => h1 ((last_iff t).mp h)) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS]; · iexact HS
      iintro ⟨H0, H1, H2, H3, H4, H5, H6, H7, H8, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      isplitl [H7]; · iexists d7; iexact H7
      iexists d8; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

set_option backward.isDefEq.respectTransparency.types false in
/-- The run: every output array ends as the write-backs leave it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments after a run. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c)))⟩

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main m ρ)

end Cert.Kernel6Ideal.Fwd

end
-- ==== Proof.MlpFwd.lean ====
/- The MLP's forward call with the loss's gradient: what the body leaves at a point (the normed rows, the hidden rows,
   the accumulator of the output), those after every point, and the four results at an index, which are the
   reference's. -/
module

public import proofs.«01_k».proof.Proof.MlpFwdRun
public import proofs.«01_k».proof.Proof.Gen.Reference6Ideal.Run
public import proofs.«01_k».proof.Proof.MlpBwd
public import proofs.«01_k».proof.Defs
public import Idealize.ShloMosaic.Lib.StableHlo.ReadAt

@[expose] public section

noncomputable section

namespace Cert.MlpF

open Idealize.ShloMosaic Cert.Mlp

section Spec

/-! The results as functions of the arguments: the input, the norm's weight, the two weights, the target. -/

variable (h : Fin 4096 → Fin 1024 → EReal) (nw : Fin 1024 → EReal) (wu : Fin 1024 → Fin 4096 → EReal)
  (wd : Fin 4096 → Fin 1024 → EReal) (tg : Fin 4096 → Fin 1024 → EReal)

/-- The normed rows. -/
def hn (r : Fin 4096) (k : Fin 1024) : EReal := h r k * rs h r * nw k
/-- The hidden rows: the rectified pre-activations, squared. -/
def act (r j : Fin 4096) : EReal := max (pre h nw wu r j) 0 * max (pre h nw wu r j) 0
/-- The error: the output, which is the input plus the down projection, less the target. -/
def err (r : Fin 4096) (b : Fin 1024) : EReal := h r b + (∑ j : Fin 4096, act h nw wu r j * wd j b) - tg r b
/-- The loss's gradient by the output. -/
def dy (r : Fin 4096) (b : Fin 1024) : EReal := err h nw wu wd tg r b * inv
/-- The squared error of a block of 512 rows. -/
def sq (q : Nat) : EReal := ∑ r : Fin 512, ∑ b : Fin 1024, err h nw wu wd tg (tok q r) b * err h nw wu wd tg (tok q r) b

end Spec

/-- The gradient of half the mean of squares is the error by the kernel's factor. -/
theorem half_mean (x : EReal) : Ideal.div (Ideal.ofBits .f32 0x3F000000#32) (Ideal.ofBits .f32 0x44800000#32)
    * (Ideal.ofBits .f32 0x40000000#32 * x) = x * inv := by
  have e1 : Ideal.ofBits .f32 0x3F000000#32 = ((1 / 2 : ℝ) : EReal) := by
    simp [Ideal.ofBits, Ideal.ieee]
    simp only [← EReal.coe_mul]
    norm_num
  have e2 : Ideal.ofBits .f32 0x40000000#32 = ((2 : ℝ) : EReal) := by
    simp [Ideal.ofBits, Ideal.ieee]
    simp only [← EReal.coe_mul]
    norm_num
  rw [div_1024, e1, e2, inv_eq, ← mul_assoc, ← EReal.coe_mul, ← EReal.coe_mul, mul_comm]
  norm_num

end Cert.MlpF

namespace Cert.Kernel6Ideal.Fwd

open Cert.Kernel6Ideal Cert.Kernel6Ideal.Gen Cert.Grad Cert.Mlp
open Idealize.ShloMosaic Idealize.ShloMosaic.TcCoe Idealize.SL.Sem

section Payloads

variable (h acc tg : Vec Ideal S512x1024 .f32) (nw : Vec Ideal S1x1024 .f32) (a : Vec Ideal S512x1024 .bf16)
  (w : Vec Ideal S1024x1024 .bf16) (s : Vec Ideal S1x1024x1024 .bf16) (r : Fin 512) (b : Fin 1024)

theorem pay1_at : k0_pay1 h nw (ix2 r b)
    = h (ix2 r b) * Ideal.rsqrt ((∑ x : Fin 1024, h (ix2 r x) * h (ix2 r x)) * inv + Ideal.ofBits .f32 0x358637BD#32) * nw (ix2 0 b) := by
  pointwise [k0_pay1]
  rfl
theorem pay2_at : k0_pay2 (F := Ideal) (ix2 r b) = (0 : EReal) := by pointwise [k0_pay2]
theorem pay3_at : k0_pay3 a s (ix2 r b)
    = max (∑ x : Fin 1024, a (ix2 r x) * s (ix3 0 x b)) 0 * max (∑ x : Fin 1024, a (ix2 r x) * s (ix3 0 x b)) 0 := by pointwise [k0_pay3]
theorem pay4_at : k0_pay4 a s acc w (ix2 r b) = acc (ix2 r b) + ∑ x : Fin 1024, k0_pay3 a s (ix2 r x) * w (ix2 x b) := by
  pointwise [k0_pay4]
theorem pay5_at : k0_pay5 h acc tg (ix2 r b) = h (ix2 r b) + acc (ix2 r b) - tg (ix2 r b) := by pointwise [k0_pay5]
theorem pay6_at : k0_pay6 h acc tg (ix2 r b) = k0_pay5 h acc tg (ix2 r b) * inv := by
  pointwise [k0_pay6]
  rfl
theorem pay7_at (z : Fin 1) (u : Fin 8) (l : Fin 128) : k0_pay7 h acc tg (ix3 z u l)
    = ∑ x : Fin 512, ∑ y : Fin 1024, k0_pay5 h acc tg (ix2 x y) * k0_pay5 h acc tg (ix2 x y) := by
  pointwise [k0_pay7]

end Payloads

variable (m : (ℓ : Loc nD τ sig) → Buf (Elt Ideal) ℓ) (c : Dev nD)

/-- The arguments' elements. -/
def hid (r : Fin 4096) (k : Fin 1024) : EReal := m ((c.tc : Thread nD τ).loc main_arg0) (ix2 r k)
def nw (k : Fin 1024) : EReal := m ((c.tc : Thread nD τ).loc main_arg1) (ix1 k)
def wu (k : Fin 1024) (j : Fin 4096) : EReal := m ((c.tc : Thread nD τ).loc main_arg2) (ix2 k j)
def wd (j : Fin 4096) (k : Fin 1024) : EReal := m ((c.tc : Thread nD τ).loc main_arg3) (ix2 j k)
def tg (r : Fin 4096) (k : Fin 1024) : EReal := m ((c.tc : Thread nD τ).loc main_arg4) (ix2 r k)

theorem entry_nw (z : Fin 1) (k : Fin 1024) : V m c main_v3 (ix2 z k) = nw m c k := by
  unfold nw
  unfold V
  simp only [hostOps0, List.flatten_cons, List.flatten_nil, List.append_nil, List.cons_append, List.nil_append]
  after_reads_at
theorem entry_wu (s : Fin 4) (k x : Fin 1024) : V m c main_v2 (ix3 s k x) = wu m c k (row s x) := by
  unfold wu row
  unfold V
  simp only [hostOps0, List.flatten_cons, List.flatten_nil, List.append_nil, List.cons_append, List.nil_append]
  after_reads_at
  exact congrArg (fun j : Fin 4096 => m ((c.tc : Thread nD τ).loc main_arg2) (ix2 k j)) (Fin.ext (by show s.val * 1024 + x.val = 1024 * s.val + x.val; omega))
theorem entry_wd (j : Fin 4096) (k : Fin 1024) : V m c main_v4 (ix2 j k) = wd m c j k := by
  unfold wd
  unfold V
  simp only [hostOps0, List.flatten_cons, List.flatten_nil, List.append_nil, List.cons_append, List.nil_append]
  after_reads_at

theorem idx : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 3) = t.val % 4 ∧ win0_2.index t (1 : Fin 3) = 0 ∧ win0_2.index t (2 : Fin 3) = 0)
    ∧ (win0_3.index t (0 : Fin 2) = t.val % 4 ∧ win0_3.index t (1 : Fin 2) = 0)
    ∧ (win0_4.index t (0 : Fin 2) = t.val / 4 ∧ win0_4.index t (1 : Fin 2) = 0)
    ∧ (win0_5.index t (0 : Fin 2) = t.val / 4 ∧ win0_5.index t (1 : Fin 2) = 0)
    ∧ (win0_6.index t (0 : Fin 2) = t.val / 4 ∧ win0_6.index t (1 : Fin 2) = t.val % 4)
    ∧ (win0_7.index t (0 : Fin 2) = t.val / 4 ∧ win0_7.index t (1 : Fin 2) = 0)
    ∧ (win0_8.index t (0 : Fin 3) = t.val / 4 ∧ win0_8.index t (1 : Fin 3) = 0 ∧ win0_8.index t (2 : Fin 3) = 0) :=
  (by decide +kernel : ∀ t : Fin grid0.N, _)

section Blocks

variable (t : Fin cfg0.N) (r : Fin 512) (k x : Fin 1024)

theorem tok_val : (512 * (t.val / 4) + r.val) % 4096 = 512 * (t.val / 4) + r.val := by
  have h := lt32 t
  omega

theorem blk0 : (iblk m c 0 t (ix2 r k) : EReal) = hid m c (tok (t.val / 4) r) k := by
  obtain ⟨⟨e0, e1⟩, -⟩ := idx t
  have ht := tok_val t r
  unfold hid
  blk_ext [iblk, V, e0, e1, tok, ht]
theorem blk1 (z : Fin 1) : (iblk m c 1 t (ix2 z k) : EReal) = nw m c k := by
  obtain ⟨-, ⟨e0, e1⟩, -⟩ := idx t
  rw [← entry_nw m c z]
  blk_ext [iblk, e0, e1]
theorem blk2 (z : Fin 1) : (iblk m c 2 t (ix3 z k x) : EReal) = wu m c k (col t.val x) := by
  obtain ⟨-, -, ⟨e0, e1, e2⟩, -⟩ := idx t
  rw [show col t.val x = row ⟨t.val % 4, by omega⟩ x from rfl, ← entry_wu]
  blk_ext [iblk, e0, e1, e2]
theorem blk3 : (iblk m c 3 t (ix2 x k) : EReal) = wd m c (col t.val x) k := by
  obtain ⟨-, -, -, ⟨e0, e1⟩, -⟩ := idx t
  rw [← entry_wd]
  blk_ext [iblk, e0, e1, col]
theorem blk4 : (iblk m c 4 t (ix2 r k) : EReal) = tg m c (tok (t.val / 4) r) k := by
  obtain ⟨-, -, -, -, ⟨e0, e1⟩, -⟩ := idx t
  have ht := tok_val t r
  unfold tg
  blk_ext [iblk, V, e0, e1, tok, ht]

end Blocks

/-! The spec at this device's arguments. -/

def sHn (r : Fin 4096) (k : Fin 1024) : EReal := MlpF.hn (hid m c) (nw m c) r k
def sAct (r j : Fin 4096) : EReal := MlpF.act (hid m c) (nw m c) (wu m c) r j
def sErr (r : Fin 4096) (b : Fin 1024) : EReal := MlpF.err (hid m c) (nw m c) (wu m c) (wd m c) (tg m c) r b

theorem hn_at (t : Fin cfg0.N) (r : Fin 512) (k : Fin 1024) : (hnAt m c t (ix2 r k) : EReal) = sHn m c (tok (t.val / 4) r) k := by
  unfold hnAt
  rw [pay1_at]
  simp only [blk0, blk1]
  rw [show (firstPt t).val / 4 = t.val / 4 by show t.val / 4 * 4 / 4 = t.val / 4; omega]
  rfl

theorem act_at (t : Fin cfg0.N) (r : Fin 512) (x : Fin 1024) :
    (k0_pay3 (hnAt m c t) (iblk m c 2 t) (ix2 r x) : EReal) = sAct m c (tok (t.val / 4) r) (col t.val x) := by
  rw [pay3_at]
  simp only [hn_at, blk2]
  rfl

/-- What a point adds to the accumulator. -/
def add (n : Nat) (y : S512x1024.Idx) : EReal := ∑ x : Fin 1024, sAct m c (tok (n / 4) (y 0)) (col n x) * wd m c (col n x) (y 1)
/-- The accumulator after a point. -/
def acc (n : Nat) (h : n < cfg0.N) : S512x1024.Idx → EReal := accAt m c n h

theorem acc_add (t : Fin cfg0.N) (a : Vec Ideal S512x1024 .f32) (r : Fin 512) (b : Fin 1024) :
    (k0_pay4 (hnAt m c t) (iblk m c 2 t) a (iblk m c 3 t) (ix2 r b) : EReal) = a (ix2 r b) + add m c t.val (ix2 r b) := by
  rw [pay4_at]
  simp only [act_at, blk3]
  rfl

theorem acc_first (n : Nat) (h : n < cfg0.N) (h1 : n % 4 = 0) : acc m c n h = fun y => 0 + add m c n y := by
  funext y
  obtain ⟨r, b, rfl⟩ : ∃ r b, y = ix2 r b := ⟨y 0, y 1, (ix2_eta y).symm⟩
  unfold acc
  rw [accAt_first m c ⟨n, h⟩ h1]
  exact (acc_add m c ⟨n, h⟩ _ r b).trans (congrArg (· + _) (pay2_at r b))

theorem acc_next (n : Nat) (h : n + 1 < cfg0.N) (h1 : ¬ (n + 1) % 4 = 0) :
    acc m c (n + 1) h = fun y => acc m c n (Nat.lt_of_succ_lt h) y + add m c (n + 1) y := by
  funext y
  obtain ⟨r, b, rfl⟩ : ∃ r b, y = ix2 r b := ⟨y 0, y 1, (ix2_eta y).symm⟩
  unfold acc
  rw [accAt_later m c ⟨n + 1, h⟩ h1]
  exact acc_add m c ⟨n + 1, h⟩ _ r b

/-- After the last point of a row block: the down projection. -/
theorem acc_last (t : Fin cfg0.N) (h2 : t.val % 4 = 3) (r : Fin 512) (b : Fin 1024) :
    (accAt m c t.val t.isLt (ix2 r b) : EReal) = ∑ j : Fin 4096, sAct m c (tok (t.val / 4) r) j * wd m c j b := by
  obtain ⟨n, h⟩ := t
  obtain ⟨q, rfl⟩ : ∃ q, n = 4 * q + 3 := ⟨n / 4, by have := h2; dsimp only at this; omega⟩
  have e := run_sum (acc m c) (fun n _ => add m c n) (acc_first m c) (acc_next m c) q h (ix2 r b)
  refine (show _ = _ from e).trans ?_
  rw [← sum_rows]
  refine Finset.sum_congr (M := EReal) rfl fun t _ => ?_
  have ht := t.isLt
  have e1 : (4 * q + t.val) / 4 = q := by omega
  have e2 : (4 * q + 3) / 4 = q := by omega
  have e3 : ∀ x, col (4 * q + t.val) x = row t x := fun x => Fin.ext (by show 1024 * ((4 * q + t.val) % 4) + x.val = 1024 * t.val + x.val; omega)
  unfold add
  simp only [e1, e2, e3]
  rfl

theorem err_at (t : Fin cfg0.N) (h2 : t.val % 4 = 3) (r : Fin 512) (b : Fin 1024) :
    (k0_pay5 (iblk m c 0 t) (accAt m c t.val t.isLt) (iblk m c 4 t) (ix2 r b) : EReal) = sErr m c (tok (t.val / 4) r) b := by
  rw [pay5_at, acc_last m c t h2, blk0, blk4]
  rfl

/-! The four result arrays. -/

def hnArr : FVec Ideal S4096x1024 .bf16 := fun i => sHn m c (i 0) (i 1)
def actArr : FVec Ideal S4096x4096 .bf16 := fun i => sAct m c (i 0) (i 1)
def dyArr : FVec Ideal S4096x1024 .f32 := fun i => sErr m c (i 0) (i 1) * inv
def sqArr : FVec Ideal S8x8x128 .f32 := fun i => MlpF.sq (hid m c) (nw m c) (wu m c) (wd m c) (tg m c) (i 0).val

section Arrays

variable (t : Fin cfg0.N) (r : Fin 512) (k : Fin 1024)

theorem emb5 : ((cfg0.win 5).blk t).view.emb (ix2 r k) = ix2 (tok (t.val / 4) r) k := by
  obtain ⟨-, -, -, -, -, ⟨e0, e1⟩, -⟩ := idx t
  have ht := tok_val t r
  blk_ext [e0, e1, tok, ht]
theorem emb6 : ((cfg0.win 6).blk t).view.emb (ix2 r k) = ix2 (tok (t.val / 4) r) (col t.val k) := by
  obtain ⟨-, -, -, -, -, -, ⟨e0, e1⟩, -⟩ := idx t
  have ht := tok_val t r
  blk_ext [e0, e1, tok, ht, col]
theorem emb7 : ((cfg0.win 7).blk t).view.emb (ix2 r k) = ix2 (tok (t.val / 4) r) k := by
  obtain ⟨-, -, -, -, -, -, -, ⟨e0, e1⟩, -⟩ := idx t
  have ht := tok_val t r
  blk_ext [e0, e1, tok, ht]
theorem emb8 (z : Fin 1) (u : Fin 8) (l : Fin 128) :
    ((cfg0.win 8).blk t).view.emb (ix3 z u l) = ix3 ⟨t.val / 4, by have := lt32 t; omega⟩ u l := by
  obtain ⟨-, -, -, -, -, -, -, -, ⟨e0, e1, e2⟩⟩ := idx t
  blk_ext [e0, e1, e2]

end Arrays

theorem out_hn : (dats m 0 c).arrAt 5 cfg0.N = hnArr m c := by
  refine (dats m 0 c).arrAt_eq_of_covers 5 _ (by decide +kernel) fun t hf y => ?_
  blk_simp
  rw [after5]
  obtain ⟨r, k, rfl⟩ : ∃ (r : Fin 512) (k : Fin 1024), y = ix2 r k := ⟨y 0, y 1, (ix2_eta y).symm⟩
  rw [emb5]
  exact hn_at m c t r k
theorem out_act : (dats m 0 c).arrAt 6 cfg0.N = actArr m c := by
  refine (dats m 0 c).arrAt_eq_of_covers 6 _ (by decide +kernel) fun t hf y => ?_
  blk_simp
  rw [after6]
  obtain ⟨r, k, rfl⟩ : ∃ (r : Fin 512) (k : Fin 1024), y = ix2 r k := ⟨y 0, y 1, (ix2_eta y).symm⟩
  rw [emb6]
  exact act_at m c t r k
theorem out_dy : (dats m 0 c).arrAt 7 cfg0.N = dyArr m c := by
  refine (dats m 0 c).arrAt_eq_of_covers 7 _ (by decide +kernel) fun t hf y => ?_
  blk_simp
  rw [after7]
  have ht := (flush0_7 t).mp hf
  obtain ⟨r, k, rfl⟩ : ∃ (r : Fin 512) (k : Fin 1024), y = ix2 r k := ⟨y 0, y 1, (ix2_eta y).symm⟩
  rw [emb7]
  refine (pay6_at _ _ _ r k).trans ?_
  rw [err_at m c t ht]
  rfl
theorem out_sq : (dats m 0 c).arrAt 8 cfg0.N = sqArr m c := by
  refine (dats m 0 c).arrAt_eq_of_covers 8 _ (by decide +kernel) fun t hf y => ?_
  blk_simp
  rw [after8]
  have ht := (flush0_8 t).mp hf
  obtain ⟨z, u, l, rfl⟩ : ∃ (z : Fin 1) (u : Fin 8) (l : Fin 128), y = ix3 z u l := ⟨y 0, y 1, y 2, (ix3_eta y).symm⟩
  rw [emb8]
  refine (pay7_at _ _ _ z u l).trans ?_
  simp only [err_at m c t ht]
  rfl

/-- A run leaves the four arrays, and keeps the arguments. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v5_0) = hnArr m c
      ∧ r.2.mem ((c.tc : Thread nD τ).loc main_v5_1) = actArr m c
      ∧ r.2.mem ((c.tc : Thread nD τ).loc main_v5_2) = dyArr m c
      ∧ r.2.mem ((c.tc : Thread nD τ).loc main_v5_3) = sqArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 5).trans (out_hn m c), ((h.1 c).1 6).trans (out_act m c), ((h.1 c).1 7).trans (out_dy m c),
      ((h.1 c).1 8).trans (out_sq m c), kept m r h.1 c⟩) (run_main m g)

end Cert.Kernel6Ideal.Fwd

namespace Cert.Reference6Ideal.Fwd

open Cert.Reference6Ideal Cert.Reference6Ideal.Gen
open Idealize.ShloMosaic Idealize.ShloMosaic.TcCoe

/-! The arrays the reference computes, and each at an index. -/

variable (h : FVec Ideal S4096x1024 .f32) (nw : FVec Ideal S1024 .f32) (wu : FVec Ideal S1024x4096 .f32)
  (wd tg : FVec Ideal S4096x1024 .f32)

def eh (r : Fin 4096) (k : Fin 1024) : EReal := h (ix2 r k)
def en (k : Fin 1024) : EReal := nw (ix1 k)
def eu (k : Fin 1024) (j : Fin 4096) : EReal := wu (ix2 k j)

def ms : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rows : FVec Ideal S4096x1024 .f32 :=
  mulf (mulf h (broadcastInDim S4096x1024 ![0, 1] bcast_S4096x1_S4096x1024_0_1 (Host.rsqrt (ms h)))) (broadcastInDim S4096x1024 ![0, 1] bcast_S1x1024_S4096x1024_0_1 (broadcastInDim S1x1024 ![1] bcast_S1024_S1x1024_1 nw))
def relu : FVec Ideal S4096x4096 .f32 :=
  maximumf (Host.dotGeneral dot_S4096x1024_S1024x4096_S4096x4096_1_0_0_1_n_n none (rows h nw) wu) (broadcastInDim S4096x4096 ![] bcast_S_S4096x4096 (constant S_ .f32 0x00000000#32))
def act : FVec Ideal S4096x4096 .f32 := mulf (relu h nw wu) (relu h nw wu)
def err : FVec Ideal S4096x1024 .f32 :=
  subf (addf h (Host.dotGeneral dot_S4096x4096_S4096x1024_S4096x1024_1_0_0_1_n_n none (act h nw wu) wd)) tg
def dy : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (err h nw wu wd tg))
def sq : FVec Ideal S8x8x128 .f32 :=
  broadcastInDim S8x8x128 ![0, 1, 2] bcast_S8x1x1_S8x8x128_0_1_2 (broadcastInDim S8x1x1 ![0] bcast_S8_S8x1x1_0 (Host.reduceAdd (shapeCast S8x512x1024 (mulf (err h nw wu wd tg) (err h nw wu wd tg)) shapeCasts_S4096x1024_S8x512x1024) (constant S_ .f32 0x00000000#32) reducesTo_S8x512x1024_S8_d1_2 h_S_))

theorem ms_at (r : Fin 4096) (z : Fin 1) : (ms h (ix2 r z) : EReal) = Mlp.ms (eh h) r := by
  pointwise [ms]
  rw [Mlp.div_1024]
  rfl
theorem rows_at (r : Fin 4096) (k : Fin 1024) : (rows h nw (ix2 r k) : EReal) = MlpF.hn (eh h) (en nw) r k := by
  pointwise [rows]
  rw [ms_at]
  rfl
theorem relu_at (r j : Fin 4096) : (relu h nw wu (ix2 r j) : EReal) = max (Mlp.pre (eh h) (en nw) (eu wu) r j) 0 := by
  pointwise [relu]
  simp only [rows_at]
  rfl
theorem act_at (r j : Fin 4096) : (act h nw wu (ix2 r j) : EReal) = MlpF.act (eh h) (en nw) (eu wu) r j := by
  pointwise [act]
  rw [relu_at]
  rfl
theorem err_at (r : Fin 4096) (b : Fin 1024) : (err h nw wu wd tg (ix2 r b) : EReal) = MlpF.err (eh h) (en nw) (eu wu) (eh wd) (eh tg) r b := by
  pointwise [err]
  simp only [act_at]
  rfl
theorem dy_at (r : Fin 4096) (b : Fin 1024) : (dy h nw wu wd tg (ix2 r b) : EReal) = MlpF.dy (eh h) (en nw) (eu wu) (eh wd) (eh tg) r b := by
  pointwise [dy]
  rw [err_at]
  exact MlpF.half_mean _
theorem sq_at (q : Fin 8) (u : Fin 8) (l : Fin 128) :
    (sq h nw wu wd tg (ix3 q u l) : EReal) = MlpF.sq (eh h) (en nw) (eu wu) (eh wd) (eh tg) q.val := by
  pointwise [sq]
  simp only [err_at]
  unfold MlpF.sq
  refine Finset.sum_congr (M := EReal) rfl fun x _ => ?_
  have e : ∀ p, (⟨q.val * 512 + x.val, p⟩ : Fin 4096) = Mlp.tok q.val x := fun p => Fin.ext (by
    show q.val * 512 + x.val = (512 * q.val + x.val) % 4096
    omega)
  simp only [e]

end Cert.Reference6Ideal.Fwd

namespace Cert.MlpF

open Idealize.ShloMosaic Idealize.ShloMosaic.TcCoe Idealize.SL.Sem

theorem values : Cert.algebraic_Kernel6Ideal_Reference6Ideal := by
  intro m g m' g' _ hag
  refine ⟨_, _, _, _, Cert.Kernel6Ideal.Fwd.run m g, ?_⟩
  refine (θ_run Cert.Reference6Ideal.defs _ _).mono (fun _ h c => ?_) (Cert.Reference6Ideal.Value.run (F := Ideal) m' g')
  obtain ⟨a0, a1, a2, a3, a4⟩ := hag c
  have e0 : Cert.Reference6Ideal.Fwd.eh (m' ((c.tc : Thread Cert.Reference6Ideal.nD Cert.Reference6Ideal.τ).loc Cert.Reference6Ideal.main_arg0)) = Cert.Kernel6Ideal.Fwd.hid m c := by rw [a0]; rfl
  have e1 : Cert.Reference6Ideal.Fwd.en (m' ((c.tc : Thread Cert.Reference6Ideal.nD Cert.Reference6Ideal.τ).loc Cert.Reference6Ideal.main_arg1)) = Cert.Kernel6Ideal.Fwd.nw m c := by rw [a1]; rfl
  have e2 : Cert.Reference6Ideal.Fwd.eu (m' ((c.tc : Thread Cert.Reference6Ideal.nD Cert.Reference6Ideal.τ).loc Cert.Reference6Ideal.main_arg2)) = Cert.Kernel6Ideal.Fwd.wu m c := by rw [a2]; rfl
  have e3 : Cert.Reference6Ideal.Fwd.eh (m' ((c.tc : Thread Cert.Reference6Ideal.nD Cert.Reference6Ideal.τ).loc Cert.Reference6Ideal.main_arg3)) = Cert.Kernel6Ideal.Fwd.wd m c := by rw [a3]; rfl
  have e4 : Cert.Reference6Ideal.Fwd.eh (m' ((c.tc : Thread Cert.Reference6Ideal.nD Cert.Reference6Ideal.τ).loc Cert.Reference6Ideal.main_arg4)) = Cert.Kernel6Ideal.Fwd.tg m c := by rw [a4]; rfl
  refine ⟨(h c).1.trans ?_, (h c).2.1.trans ?_, (h c).2.2.1.trans ?_, (h c).2.2.2.1.trans ?_, (h c).2.2.2.2⟩
  · funext i
    obtain ⟨a, b, rfl⟩ : ∃ a b, i = ix2 a b := ⟨i 0, i 1, (ix2_eta i).symm⟩
    refine (Cert.Reference6Ideal.Fwd.rows_at _ _ a b).trans ?_
    rw [e0, e1]
    rfl
  · funext i
    obtain ⟨a, b, rfl⟩ : ∃ a b, i = ix2 a b := ⟨i 0, i 1, (ix2_eta i).symm⟩
    refine (Cert.Reference6Ideal.Fwd.act_at _ _ _ a b).trans ?_
    rw [e0, e1, e2]
    rfl
  · funext i
    obtain ⟨a, b, rfl⟩ : ∃ a b, i = ix2 a b := ⟨i 0, i 1, (ix2_eta i).symm⟩
    refine (Cert.Reference6Ideal.Fwd.dy_at _ _ _ _ _ a b).trans ?_
    rw [e0, e1, e2, e3, e4]
    rfl
  · funext i
    obtain ⟨q, u, l, rfl⟩ : ∃ q u l, i = ix3 q u l := ⟨i 0, i 1, i 2, (ix3_eta i).symm⟩
    refine (Cert.Reference6Ideal.Fwd.sq_at _ _ _ _ _ q u l).trans ?_
    rw [e0, e1, e2, e3, e4]
    rfl

/-- The reference's run keeps its arguments; it declares no semaphore. -/
theorem frame : Cert.quiescent_Reference6Ideal := fun m g _ =>
  (θ_run Cert.Reference6Ideal.defs _ _).mono (fun r h => ⟨fun c => (h c).2.2.2.2, sem_eq_zero_of_no_sems (by decide) r.2⟩)
    (Cert.Reference6Ideal.Value.run (F := Ideal) m g)

end Cert.MlpF

end
-- ==== Proof.lean ====
/- The claims about nine calls of the training step. Each printed kernel and its reading over the extended reals run to the end,
   leave their arguments as they were and every semaphore at zero; and over the extended reals each kernel's results are
   those that its reference computes, for the attention's gradient where every element of the four arguments is a real
   number. The parts for the attention: Proof/RunA, RunB (the body's run), Proof/Pay, Tile, Trip, Diag, BodyA, BodyB (what a
   grid point leaves), Proof/Launch (the pipeline's run), Proof/HostA (the kernel's operands), Proof/Arrays, Values, Results
   (the kernel's results), Proof/Frames (the frame, over any float values), Proof/Same (the two programs are one),
   Proof/RefA, RefB (the reference's results), Proof/Attn (the mathematics of the two), Proof/Finite (its precondition).
   For the other calls: Proof/Grad, WgradDown, WgradUp, WgradOut (the weight gradients), Proof/MlpBwd, MlpFwdRun, MlpFwd (the
   MLP), Proof/InProj, InFwd, InBwd, InGrad (the input projections), Proof/SameCalls (the two programs are one). -/
module

public import proofs.«01_k».proof.Defs
public import proofs.«01_k».proof.Proof.Frames
public import proofs.«01_k».proof.Proof.Same
public import proofs.«01_k».proof.Proof.SameCalls
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Reference6Ideal.Run
public import proofs.«01_k».proof.Proof.InFwd
public import proofs.«01_k».proof.Proof.InBwd
public import proofs.«01_k».proof.Proof.InGrad
public import proofs.«01_k».proof.Proof.RefB
public import proofs.«01_k».proof.Proof.Finite
public import proofs.«01_k».proof.Proof.WgradDown
public import proofs.«01_k».proof.Proof.WgradUp
public import proofs.«01_k».proof.Proof.WgradOut
public import proofs.«01_k».proof.Proof.MlpBwd
public import proofs.«01_k».proof.Proof.MlpFwd
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem Cert.Attn

section

open Cert.KernelIdeal Cert.KernelIdeal.Bwd

variable (m : (ℓ : Loc nD τ sig) → Buf (Elt Ideal) ℓ) (g : Dev nD → PrngReg)

/-- The kernel's run, read at its results and its arguments. -/
theorem kernel_run : θ_run defs (onTc (τ := τ) (main (F := Ideal))) ⟨m, fun _ => 0, g⟩ (fun r => ∀ c : Dev nD,
      r.2.mem ((c.tc : Thread nD τ).loc main_v40_0) = dqArr m c
      ∧ r.2.mem ((c.tc : Thread nD τ).loc main_v40_1) = dkArr m c
      ∧ r.2.mem ((c.tc : Thread nD τ).loc main_v40_2) = dvArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans (out_dq m c), ((h.1 c).1 7).trans (out_dk m c),
    ((h.1 c).1 8).trans (out_dv m c), h.2.1 c⟩) (θ_run_and (run_main m g) (Frames.frame m g))

end

/-- The printed kernel's frame: its program has the idealized kernel's text. -/
theorem frame_kernel : Cert.quiescent_Kernel := fun m ρ _ => Cert.Same.run _ (Cert.KernelIdeal.Frames.frame (F := Bits) m ρ)

/-- The reference's run keeps its arguments; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- The claim about the values, from the two runs and the equality of their results. -/
theorem values : Cert.algebraic_KernelIdeal_ReferenceIdeal_pre_finite (hPre_finite := Cert.Finite.facts) := by
  intro m g m' g' hpre hag
  refine ⟨_, _, _, kernel_run m g, ?_⟩
  refine (θ_run Cert.ReferenceIdeal.defs _ _).mono (fun _ h c => ?_) (Cert.ReferenceIdeal.Value.run (F := Ideal) m' g')
  obtain ⟨a0, a1, a2, a3⟩ := hag c
  obtain ⟨rq, rk, rv, rg⟩ := Cert.Finite.reals m hpre c
  have e0 : Cert.ReferenceIdeal.Bwd.el (m' (c.tc.loc Cert.ReferenceIdeal.main_arg0)) = Cert.KernelIdeal.Bwd.aq m c :=
    congrArg Cert.ReferenceIdeal.Bwd.el a0
  have e1 : Cert.ReferenceIdeal.Bwd.el (m' (c.tc.loc Cert.ReferenceIdeal.main_arg1)) = Cert.KernelIdeal.Bwd.ak m c :=
    congrArg Cert.ReferenceIdeal.Bwd.el a1
  have e2 : Cert.ReferenceIdeal.Bwd.elv (m' (c.tc.loc Cert.ReferenceIdeal.main_arg2)) = Cert.KernelIdeal.Bwd.av m c :=
    congrArg Cert.ReferenceIdeal.Bwd.elv a2
  have e3 : Cert.ReferenceIdeal.Bwd.elv (m' (c.tc.loc Cert.ReferenceIdeal.main_arg3)) = Cert.KernelIdeal.Bwd.ag m c :=
    congrArg Cert.ReferenceIdeal.Bwd.elv a3
  refine ⟨(h c).1.trans ?_, (h c).2.1.trans ?_, (h c).2.2.1.trans ?_, (h c).2.2.2⟩
  · funext i
    obtain ⟨b, r, d, rfl⟩ : ∃ b r d, i = ix3 b r d := ⟨i 0, i 1, i 2, (ix3_eta i).symm⟩
    refine (Cert.ReferenceIdeal.Bwd.res68_at m' c b r d).trans (Eq.trans ?_ (Cert.KernelIdeal.Bwd.dqArr_at rq rk rv rg b r d).symm)
    rw [e0, e1, e2, e3]; rfl
  · funext i
    obtain ⟨b, r, d, rfl⟩ : ∃ b r d, i = ix3 b r d := ⟨i 0, i 1, i 2, (ix3_eta i).symm⟩
    refine (Cert.ReferenceIdeal.Bwd.res74_at m' c b r d).trans (Eq.trans ?_ (Cert.KernelIdeal.Bwd.dkArr_at rq rk rv rg b r d).symm)
    rw [e0, e1, e2, e3]; rfl
  · funext i
    obtain ⟨b, r, d, rfl⟩ : ∃ b r d, i = ix3 b r d := ⟨i 0, i 1, i 2, (ix3_eta i).symm⟩
    refine (Cert.ReferenceIdeal.Bwd.res75_at m' c b r d).trans (Eq.trans ?_ (Cert.KernelIdeal.Bwd.dvArr_at rq rk b r d).symm)
    rw [e0, e1, e3]; rfl

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Finite.facts,
  frame_kernel, fun m ρ _ => Cert.KernelIdeal.Frames.frame m ρ, fun m ρ _ => Cert.KernelIdeal.Frames.frame m ρ,
  fun m ρ _ => frame_reference m ρ, fun m ρ _ => frame_reference m ρ,
  fun m ρ _ => Cert.Same2.run _ (Cert.Kernel2Ideal.Gen.frame (F := Bits) m ρ), fun m ρ _ => Cert.Kernel2Ideal.Gen.frame m ρ,
  Cert.Wgrad.down_frame,
  fun m ρ _ => Cert.Same3.run _ (Cert.Kernel3Ideal.Gen.frame (F := Bits) m ρ), fun m ρ _ => Cert.Kernel3Ideal.Gen.frame m ρ,
  Cert.Wgrad.up_frame,
  fun m ρ _ => Cert.Same4.run _ (Cert.Kernel4Ideal.Gen.frame (F := Bits) m ρ), fun m ρ _ => Cert.Kernel4Ideal.Gen.frame m ρ,
  Cert.Wgrad.out_frame,
  fun m ρ _ => Cert.Same5.run _ (Cert.Kernel5Ideal.Gen.frame (F := Bits) m ρ), fun m ρ _ => Cert.Kernel5Ideal.Gen.frame m ρ,
  Cert.Mlp.frame,
  fun m ρ _ => Cert.Same6.run _ (Cert.Kernel6Ideal.Fwd.frame (F := Bits) m ρ), fun m ρ _ => Cert.Kernel6Ideal.Fwd.frame m ρ,
  Cert.MlpF.frame,
  fun m ρ _ => Cert.Same7.run _ (Cert.Kernel7Ideal.Gen.frame (F := Bits) m ρ), fun m ρ _ => Cert.Kernel7Ideal.Gen.frame m ρ,
  Cert.Inp.frame,
  fun m ρ _ => Cert.Same8.run _ (Cert.Kernel8Ideal.Gen.frame (F := Bits) m ρ), fun m ρ _ => Cert.Kernel8Ideal.Gen.frame m ρ,
  Cert.Inp.grads_frame,
  fun m ρ _ => Cert.Same9.run _ (Cert.Kernel9Ideal.Gen.frame (F := Bits) m ρ), fun m ρ _ => Cert.Kernel9Ideal.Gen.frame m ρ,
  Cert.Inp.wgrad_frame,
  trivial, values, trivial, Cert.Wgrad.down, trivial, Cert.Wgrad.up, trivial, Cert.Wgrad.out, trivial, Cert.Mlp.grads, trivial, Cert.MlpF.values,
  trivial, Cert.Inp.values, trivial, Cert.Inp.grads, trivial, Cert.Inp.wgrad⟩

end Cert.Proof

end
